-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S1024x1024 : Shape := ⟨2, ![1024, 1024]⟩
abbrev S1024x4096 : Shape := ⟨2, ![1024, 4096]⟩
abbrev S1024x256 : Shape := ⟨2, ![1024, 256]⟩
abbrev S4x64x1024 : Shape := ⟨3, ![4, 64, 1024]⟩
abbrev S4x16x1024 : Shape := ⟨3, ![4, 16, 1024]⟩
abbrev S4 : Shape := ⟨1, ![4]⟩
abbrev S12 : Shape := ⟨1, ![12]⟩
abbrev S1 : Shape := ⟨1, ![1]⟩
abbrev S_ : Shape := ⟨0, ![]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S64x1024 : Shape := ⟨2, ![64, 1024]⟩
abbrev S1x64x1024 : Shape := ⟨3, ![1, 64, 1024]⟩
abbrev S16x1024 : Shape := ⟨2, ![16, 1024]⟩
abbrev S1x16x1024 : Shape := ⟨3, ![1, 16, 1024]⟩

abbrev nBuf : Space → Nat
  | .hbm => 6
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x4096, .f32⟩
  | .hbm, ⟨3, _⟩ => ⟨S1024x4096, .f32⟩
  | .hbm, ⟨4, _⟩ => ⟨S1024x1024, .f32⟩
  | .hbm, ⟨5, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x256, .f32⟩
  | .local _ .vmem, ⟨6, _⟩ => ⟨S1024x256, .f32⟩
  | .local _ .vmem, ⟨7, _⟩ => ⟨S256x1024, .bf16⟩
  | .local _ .vmem, ⟨8, _⟩ => ⟨S4x64x1024, .bf16⟩
  | .local _ .vmem, ⟨9, _⟩ => ⟨S4x16x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => true
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 2 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v3 : BitVec 32 := Scalar.muli v2 c256_i32
  ![0, v3.toNat]
def k0_dev1 (d0 : Dev nD) : Nat :=
  let c0_i32_121 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v44 : BitVec 32 := Scalar.subi v16 v26
  let c1_i32_17 : BitVec 32 := 1#32
  let v45 : BitVec 32 := Scalar.addi v26 c1_i32_17
  let c4_i32_18 : BitVec 32 := 4#32
  let c0_i32_19 : BitVec 32 := 0#32
  let v46 : BitVec 1 := Scalar.cmpi .eq c4_i32_18 c0_i32_19
  let c1_i32_20 : BitVec 32 := 1#32
  let v47 : BitVec 32 := Scalar.select v46 c1_i32_20 c4_i32_18
  let v48 : BitVec 32 := Scalar.remsi v45 v47
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let c0_i32_21 : BitVec 32 := 0#32
  let v49 : BitVec 1 := Scalar.cmpi .ne v48 c0_i32_21
  let v53 : BitVec 1 := Scalar.andi v52 v49
  let v54 : BitVec 32 := Scalar.addi v48 v47
  let v55 : BitVec 32 := Scalar.select v53 v54 v48
  let v56 : BitVec 32 := Scalar.addi v44 v55
  let c1_i32_120 : BitVec 32 := 1#32
  let v288 : BitVec 32 := Scalar.muli v56 c1_i32_120
  let v289 : BitVec 32 := Scalar.addi c0_i32_121 v288
  v289.toNat
def k0_dev2 (d0 : Dev nD) : Nat :=
  let c0_i32_124 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v44 : BitVec 32 := Scalar.subi v16 v26
  let c2_i32_24 : BitVec 32 := 2#32
  let v57 : BitVec 32 := Scalar.addi v26 c2_i32_24
  let c4_i32_25 : BitVec 32 := 4#32
  let c0_i32_26 : BitVec 32 := 0#32
  let v58 : BitVec 1 := Scalar.cmpi .eq c4_i32_25 c0_i32_26
  let c1_i32_27 : BitVec 32 := 1#32
  let v59 : BitVec 32 := Scalar.select v58 c1_i32_27 c4_i32_25
  let v60 : BitVec 32 := Scalar.remsi v57 v59
  let c0_i32_29 : BitVec 32 := 0#32
  let v62 : BitVec 1 := Scalar.cmpi .slt v60 c0_i32_29
  let c0_i32_30 : BitVec 32 := 0#32
  let v63 : BitVec 1 := Scalar.cmpi .slt v59 c0_i32_30
  let v64 : BitVec 1 := Scalar.xori v62 v63
  let c0_i32_28 : BitVec 32 := 0#32
  let v61 : BitVec 1 := Scalar.cmpi .ne v60 c0_i32_28
  let v65 : BitVec 1 := Scalar.andi v64 v61
  let v66 : BitVec 32 := Scalar.addi v60 v59
  let v67 : BitVec 32 := Scalar.select v65 v66 v60
  let v68 : BitVec 32 := Scalar.addi v44 v67
  let c1_i32_123 : BitVec 32 := 1#32
  let v290 : BitVec 32 := Scalar.muli v68 c1_i32_123
  let v291 : BitVec 32 := Scalar.addi c0_i32_124 v290
  v291.toNat
def k0_dev3 (d0 : Dev nD) : Nat :=
  let c0_i32_127 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v44 : BitVec 32 := Scalar.subi v16 v26
  let c3_i32_31 : BitVec 32 := 3#32
  let v69 : BitVec 32 := Scalar.addi v26 c3_i32_31
  let c4_i32_32 : BitVec 32 := 4#32
  let c0_i32_33 : BitVec 32 := 0#32
  let v70 : BitVec 1 := Scalar.cmpi .eq c4_i32_32 c0_i32_33
  let c1_i32_34 : BitVec 32 := 1#32
  let v71 : BitVec 32 := Scalar.select v70 c1_i32_34 c4_i32_32
  let v72 : BitVec 32 := Scalar.remsi v69 v71
  let c0_i32_36 : BitVec 32 := 0#32
  let v74 : BitVec 1 := Scalar.cmpi .slt v72 c0_i32_36
  let c0_i32_37 : BitVec 32 := 0#32
  let v75 : BitVec 1 := Scalar.cmpi .slt v71 c0_i32_37
  let v76 : BitVec 1 := Scalar.xori v74 v75
  let c0_i32_35 : BitVec 32 := 0#32
  let v73 : BitVec 1 := Scalar.cmpi .ne v72 c0_i32_35
  let v77 : BitVec 1 := Scalar.andi v76 v73
  let v78 : BitVec 32 := Scalar.addi v72 v71
  let v79 : BitVec 32 := Scalar.select v77 v78 v72
  let v80 : BitVec 32 := Scalar.addi v44 v79
  let c1_i32_126 : BitVec 32 := 1#32
  let v292 : BitVec 32 := Scalar.muli v80 c1_i32_126
  let v293 : BitVec 32 := Scalar.addi c0_i32_127 v292
  v293.toNat
def k0_dev4 (d0 : Dev nD) : Nat :=
  let c0_i32_130 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_45 : BitVec 32 := 4#32
  let c0_i32_11 : BitVec 32 := 0#32
  let v28 : BitVec 1 := Scalar.cmpi .sgt v16 c0_i32_11
  let v29 : BitVec 32 := Scalar.extui v28
  let c0_i32_12 : BitVec 32 := 0#32
  let v30 : BitVec 1 := Scalar.cmpi .slt v16 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi v16 c4_i32_10
  let c0_i32_15 : BitVec 32 := 0#32
  let v40 : BitVec 1 := Scalar.cmpi .ne v39 c0_i32_15
  let v41 : BitVec 1 := Scalar.andi v38 v40
  let v27 : BitVec 32 := Scalar.divsi v16 c4_i32_10
  let c1_i32_16 : BitVec 32 := 1#32
  let v42 : BitVec 32 := Scalar.subi v27 c1_i32_16
  let v43 : BitVec 32 := Scalar.select v41 v42 v27
  let c1_i32_38 : BitVec 32 := 1#32
  let v81 : BitVec 32 := Scalar.addi v43 c1_i32_38
  let c4_i32_39 : BitVec 32 := 4#32
  let c0_i32_40 : BitVec 32 := 0#32
  let v82 : BitVec 1 := Scalar.cmpi .eq c4_i32_39 c0_i32_40
  let c1_i32_41 : BitVec 32 := 1#32
  let v83 : BitVec 32 := Scalar.select v82 c1_i32_41 c4_i32_39
  let v84 : BitVec 32 := Scalar.remsi v81 v83
  let c0_i32_43 : BitVec 32 := 0#32
  let v86 : BitVec 1 := Scalar.cmpi .slt v84 c0_i32_43
  let c0_i32_44 : BitVec 32 := 0#32
  let v87 : BitVec 1 := Scalar.cmpi .slt v83 c0_i32_44
  let v88 : BitVec 1 := Scalar.xori v86 v87
  let c0_i32_42 : BitVec 32 := 0#32
  let v85 : BitVec 1 := Scalar.cmpi .ne v84 c0_i32_42
  let v89 : BitVec 1 := Scalar.andi v88 v85
  let v90 : BitVec 32 := Scalar.addi v84 v83
  let v91 : BitVec 32 := Scalar.select v89 v90 v84
  let v92 : BitVec 32 := Scalar.muli c4_i32_45 v91
  let v93 : BitVec 32 := Scalar.addi v26 v92
  let c1_i32_129 : BitVec 32 := 1#32
  let v294 : BitVec 32 := Scalar.muli v93 c1_i32_129
  let v295 : BitVec 32 := Scalar.addi c0_i32_130 v294
  v295.toNat
def k0_dev5 (d0 : Dev nD) : Nat :=
  let c0_i32_133 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_53 : BitVec 32 := 4#32
  let c0_i32_11 : BitVec 32 := 0#32
  let v28 : BitVec 1 := Scalar.cmpi .sgt v16 c0_i32_11
  let v29 : BitVec 32 := Scalar.extui v28
  let c0_i32_12 : BitVec 32 := 0#32
  let v30 : BitVec 1 := Scalar.cmpi .slt v16 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi v16 c4_i32_10
  let c0_i32_15 : BitVec 32 := 0#32
  let v40 : BitVec 1 := Scalar.cmpi .ne v39 c0_i32_15
  let v41 : BitVec 1 := Scalar.andi v38 v40
  let v27 : BitVec 32 := Scalar.divsi v16 c4_i32_10
  let c1_i32_16 : BitVec 32 := 1#32
  let v42 : BitVec 32 := Scalar.subi v27 c1_i32_16
  let v43 : BitVec 32 := Scalar.select v41 v42 v27
  let c2_i32_46 : BitVec 32 := 2#32
  let v94 : BitVec 32 := Scalar.addi v43 c2_i32_46
  let c4_i32_47 : BitVec 32 := 4#32
  let c0_i32_48 : BitVec 32 := 0#32
  let v95 : BitVec 1 := Scalar.cmpi .eq c4_i32_47 c0_i32_48
  let c1_i32_49 : BitVec 32 := 1#32
  let v96 : BitVec 32 := Scalar.select v95 c1_i32_49 c4_i32_47
  let v97 : BitVec 32 := Scalar.remsi v94 v96
  let c0_i32_51 : BitVec 32 := 0#32
  let v99 : BitVec 1 := Scalar.cmpi .slt v97 c0_i32_51
  let c0_i32_52 : BitVec 32 := 0#32
  let v100 : BitVec 1 := Scalar.cmpi .slt v96 c0_i32_52
  let v101 : BitVec 1 := Scalar.xori v99 v100
  let c0_i32_50 : BitVec 32 := 0#32
  let v98 : BitVec 1 := Scalar.cmpi .ne v97 c0_i32_50
  let v102 : BitVec 1 := Scalar.andi v101 v98
  let v103 : BitVec 32 := Scalar.addi v97 v96
  let v104 : BitVec 32 := Scalar.select v102 v103 v97
  let v105 : BitVec 32 := Scalar.muli c4_i32_53 v104
  let v106 : BitVec 32 := Scalar.addi v26 v105
  let c1_i32_132 : BitVec 32 := 1#32
  let v296 : BitVec 32 := Scalar.muli v106 c1_i32_132
  let v297 : BitVec 32 := Scalar.addi c0_i32_133 v296
  v297.toNat
def k0_dev6 (d0 : Dev nD) : Nat :=
  let c0_i32_136 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_61 : BitVec 32 := 4#32
  let c0_i32_11 : BitVec 32 := 0#32
  let v28 : BitVec 1 := Scalar.cmpi .sgt v16 c0_i32_11
  let v29 : BitVec 32 := Scalar.extui v28
  let c0_i32_12 : BitVec 32 := 0#32
  let v30 : BitVec 1 := Scalar.cmpi .slt v16 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi v16 c4_i32_10
  let c0_i32_15 : BitVec 32 := 0#32
  let v40 : BitVec 1 := Scalar.cmpi .ne v39 c0_i32_15
  let v41 : BitVec 1 := Scalar.andi v38 v40
  let v27 : BitVec 32 := Scalar.divsi v16 c4_i32_10
  let c1_i32_16 : BitVec 32 := 1#32
  let v42 : BitVec 32 := Scalar.subi v27 c1_i32_16
  let v43 : BitVec 32 := Scalar.select v41 v42 v27
  let c3_i32_54 : BitVec 32 := 3#32
  let v107 : BitVec 32 := Scalar.addi v43 c3_i32_54
  let c4_i32_55 : BitVec 32 := 4#32
  let c0_i32_56 : BitVec 32 := 0#32
  let v108 : BitVec 1 := Scalar.cmpi .eq c4_i32_55 c0_i32_56
  let c1_i32_57 : BitVec 32 := 1#32
  let v109 : BitVec 32 := Scalar.select v108 c1_i32_57 c4_i32_55
  let v110 : BitVec 32 := Scalar.remsi v107 v109
  let c0_i32_59 : BitVec 32 := 0#32
  let v112 : BitVec 1 := Scalar.cmpi .slt v110 c0_i32_59
  let c0_i32_60 : BitVec 32 := 0#32
  let v113 : BitVec 1 := Scalar.cmpi .slt v109 c0_i32_60
  let v114 : BitVec 1 := Scalar.xori v112 v113
  let c0_i32_58 : BitVec 32 := 0#32
  let v111 : BitVec 1 := Scalar.cmpi .ne v110 c0_i32_58
  let v115 : BitVec 1 := Scalar.andi v114 v111
  let v116 : BitVec 32 := Scalar.addi v110 v109
  let v117 : BitVec 32 := Scalar.select v115 v116 v110
  let v118 : BitVec 32 := Scalar.muli c4_i32_61 v117
  let v119 : BitVec 32 := Scalar.addi v26 v118
  let c1_i32_135 : BitVec 32 := 1#32
  let v298 : BitVec 32 := Scalar.muli v119 c1_i32_135
  let v299 : BitVec 32 := Scalar.addi c0_i32_136 v298
  v299.toNat
def k0_off2 (d0 : Dev nD) (c1_i32_140 : BitVec 32) : Fin 2 → Nat :=
  let c64_i32_147 : BitVec 32 := 64#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v304 : BitVec 32 := Scalar.addi v26 c1_i32_140
  let c4_i32_141 : BitVec 32 := 4#32
  let c0_i32_142 : BitVec 32 := 0#32
  let v305 : BitVec 1 := Scalar.cmpi .eq c4_i32_141 c0_i32_142
  let c1_i32_143 : BitVec 32 := 1#32
  let v306 : BitVec 32 := Scalar.select v305 c1_i32_143 c4_i32_141
  let v307 : BitVec 32 := Scalar.remsi v304 v306
  let c0_i32_145 : BitVec 32 := 0#32
  let v309 : BitVec 1 := Scalar.cmpi .slt v307 c0_i32_145
  let c0_i32_146 : BitVec 32 := 0#32
  let v310 : BitVec 1 := Scalar.cmpi .slt v306 c0_i32_146
  let v311 : BitVec 1 := Scalar.xori v309 v310
  let c0_i32_144 : BitVec 32 := 0#32
  let v308 : BitVec 1 := Scalar.cmpi .ne v307 c0_i32_144
  let v312 : BitVec 1 := Scalar.andi v311 v308
  let v313 : BitVec 32 := Scalar.addi v307 v306
  let v314 : BitVec 32 := Scalar.select v312 v313 v307
  let v315 : BitVec 32 := Scalar.muli c64_i32_147 v314
  let v316 : Index := Scalar.indexCast v315
  let c0_148 : Index := 0#32
  ![v316.toNat, 0]
def k0_off3 (d0 : Dev nD) (c1_i32_140 : BitVec 32) : Fin 2 → Nat :=
  let c64_i32_151 : BitVec 32 := 64#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v304 : BitVec 32 := Scalar.addi v26 c1_i32_140
  let c4_i32_141 : BitVec 32 := 4#32
  let c0_i32_142 : BitVec 32 := 0#32
  let v305 : BitVec 1 := Scalar.cmpi .eq c4_i32_141 c0_i32_142
  let c1_i32_143 : BitVec 32 := 1#32
  let v306 : BitVec 32 := Scalar.select v305 c1_i32_143 c4_i32_141
  let v307 : BitVec 32 := Scalar.remsi v304 v306
  let c0_i32_145 : BitVec 32 := 0#32
  let v309 : BitVec 1 := Scalar.cmpi .slt v307 c0_i32_145
  let c0_i32_146 : BitVec 32 := 0#32
  let v310 : BitVec 1 := Scalar.cmpi .slt v306 c0_i32_146
  let v311 : BitVec 1 := Scalar.xori v309 v310
  let c0_i32_144 : BitVec 32 := 0#32
  let v308 : BitVec 1 := Scalar.cmpi .ne v307 c0_i32_144
  let v312 : BitVec 1 := Scalar.andi v311 v308
  let v313 : BitVec 32 := Scalar.addi v307 v306
  let v314 : BitVec 32 := Scalar.select v312 v313 v307
  let v325 : BitVec 32 := Scalar.muli c64_i32_151 v314
  let c0_i32_159 : BitVec 32 := 0#32
  ![v325.toNat, 0]
def k0_dev7 (d0 : Dev nD) : Nat :=
  let c0_i32_156 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v44 : BitVec 32 := Scalar.subi v16 v26
  let c1_i32_140 : BitVec 32 := 1#32
  let v304 : BitVec 32 := Scalar.addi v26 c1_i32_140
  let c4_i32_141 : BitVec 32 := 4#32
  let c0_i32_142 : BitVec 32 := 0#32
  let v305 : BitVec 1 := Scalar.cmpi .eq c4_i32_141 c0_i32_142
  let c1_i32_143 : BitVec 32 := 1#32
  let v306 : BitVec 32 := Scalar.select v305 c1_i32_143 c4_i32_141
  let v307 : BitVec 32 := Scalar.remsi v304 v306
  let c0_i32_145 : BitVec 32 := 0#32
  let v309 : BitVec 1 := Scalar.cmpi .slt v307 c0_i32_145
  let c0_i32_146 : BitVec 32 := 0#32
  let v310 : BitVec 1 := Scalar.cmpi .slt v306 c0_i32_146
  let v311 : BitVec 1 := Scalar.xori v309 v310
  let c0_i32_144 : BitVec 32 := 0#32
  let v308 : BitVec 1 := Scalar.cmpi .ne v307 c0_i32_144
  let v312 : BitVec 1 := Scalar.andi v311 v308
  let v313 : BitVec 32 := Scalar.addi v307 v306
  let v314 : BitVec 32 := Scalar.select v312 v313 v307
  let v324 : BitVec 32 := Scalar.addi v44 v314
  let c1_i32_155 : BitVec 32 := 1#32
  let v326 : BitVec 32 := Scalar.muli v324 c1_i32_155
  let v327 : BitVec 32 := Scalar.addi c0_i32_156 v326
  v327.toNat
def k0_dev8 (d0 : Dev nD) : Nat :=
  let c0_i32_176 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v44 : BitVec 32 := Scalar.subi v16 v26
  let c2_i32_160 : BitVec 32 := 2#32
  let v335 : BitVec 32 := Scalar.addi v26 c2_i32_160
  let c4_i32_161 : BitVec 32 := 4#32
  let c0_i32_162 : BitVec 32 := 0#32
  let v336 : BitVec 1 := Scalar.cmpi .eq c4_i32_161 c0_i32_162
  let c1_i32_163 : BitVec 32 := 1#32
  let v337 : BitVec 32 := Scalar.select v336 c1_i32_163 c4_i32_161
  let v338 : BitVec 32 := Scalar.remsi v335 v337
  let c0_i32_165 : BitVec 32 := 0#32
  let v340 : BitVec 1 := Scalar.cmpi .slt v338 c0_i32_165
  let c0_i32_166 : BitVec 32 := 0#32
  let v341 : BitVec 1 := Scalar.cmpi .slt v337 c0_i32_166
  let v342 : BitVec 1 := Scalar.xori v340 v341
  let c0_i32_164 : BitVec 32 := 0#32
  let v339 : BitVec 1 := Scalar.cmpi .ne v338 c0_i32_164
  let v343 : BitVec 1 := Scalar.andi v342 v339
  let v344 : BitVec 32 := Scalar.addi v338 v337
  let v345 : BitVec 32 := Scalar.select v343 v344 v338
  let v355 : BitVec 32 := Scalar.addi v44 v345
  let c1_i32_175 : BitVec 32 := 1#32
  let v357 : BitVec 32 := Scalar.muli v355 c1_i32_175
  let v358 : BitVec 32 := Scalar.addi c0_i32_176 v357
  v358.toNat
def k0_dev9 (d0 : Dev nD) : Nat :=
  let c0_i32_196 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v44 : BitVec 32 := Scalar.subi v16 v26
  let c3_i32_180 : BitVec 32 := 3#32
  let v366 : BitVec 32 := Scalar.addi v26 c3_i32_180
  let c4_i32_181 : BitVec 32 := 4#32
  let c0_i32_182 : BitVec 32 := 0#32
  let v367 : BitVec 1 := Scalar.cmpi .eq c4_i32_181 c0_i32_182
  let c1_i32_183 : BitVec 32 := 1#32
  let v368 : BitVec 32 := Scalar.select v367 c1_i32_183 c4_i32_181
  let v369 : BitVec 32 := Scalar.remsi v366 v368
  let c0_i32_185 : BitVec 32 := 0#32
  let v371 : BitVec 1 := Scalar.cmpi .slt v369 c0_i32_185
  let c0_i32_186 : BitVec 32 := 0#32
  let v372 : BitVec 1 := Scalar.cmpi .slt v368 c0_i32_186
  let v373 : BitVec 1 := Scalar.xori v371 v372
  let c0_i32_184 : BitVec 32 := 0#32
  let v370 : BitVec 1 := Scalar.cmpi .ne v369 c0_i32_184
  let v374 : BitVec 1 := Scalar.andi v373 v370
  let v375 : BitVec 32 := Scalar.addi v369 v368
  let v376 : BitVec 32 := Scalar.select v374 v375 v369
  let v386 : BitVec 32 := Scalar.addi v44 v376
  let c1_i32_195 : BitVec 32 := 1#32
  let v388 : BitVec 32 := Scalar.muli v386 c1_i32_195
  let v389 : BitVec 32 := Scalar.addi c0_i32_196 v388
  v389.toNat
def k0_off4 (d0 : Dev nD) : Fin 2 → Nat :=
  let c64_i32 : BitVec 32 := 64#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v120 : BitVec 32 := Scalar.muli c64_i32 v26
  let v397 : Index := Scalar.indexCast v120
  let c0_200 : Index := 0#32
  ![v397.toNat, 0]
def k0_off5 (d0 : Dev nD) (c1_i32_256 : BitVec 32) : Fin 2 → Nat :=
  let c64_i32 : BitVec 32 := 64#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v120 : BitVec 32 := Scalar.muli c64_i32 v26
  let c16_i32_263 : BitVec 32 := 16#32
  let c0_i32_11 : BitVec 32 := 0#32
  let v28 : BitVec 1 := Scalar.cmpi .sgt v16 c0_i32_11
  let v29 : BitVec 32 := Scalar.extui v28
  let c0_i32_12 : BitVec 32 := 0#32
  let v30 : BitVec 1 := Scalar.cmpi .slt v16 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi v16 c4_i32_10
  let c0_i32_15 : BitVec 32 := 0#32
  let v40 : BitVec 1 := Scalar.cmpi .ne v39 c0_i32_15
  let v41 : BitVec 1 := Scalar.andi v38 v40
  let v27 : BitVec 32 := Scalar.divsi v16 c4_i32_10
  let c1_i32_16 : BitVec 32 := 1#32
  let v42 : BitVec 32 := Scalar.subi v27 c1_i32_16
  let v43 : BitVec 32 := Scalar.select v41 v42 v27
  let v455 : BitVec 32 := Scalar.addi v43 c1_i32_256
  let c4_i32_257 : BitVec 32 := 4#32
  let c0_i32_258 : BitVec 32 := 0#32
  let v456 : BitVec 1 := Scalar.cmpi .eq c4_i32_257 c0_i32_258
  let c1_i32_259 : BitVec 32 := 1#32
  let v457 : BitVec 32 := Scalar.select v456 c1_i32_259 c4_i32_257
  let v458 : BitVec 32 := Scalar.remsi v455 v457
  let c0_i32_261 : BitVec 32 := 0#32
  let v460 : BitVec 1 := Scalar.cmpi .slt v458 c0_i32_261
  let c0_i32_262 : BitVec 32 := 0#32
  let v461 : BitVec 1 := Scalar.cmpi .slt v457 c0_i32_262
  let v462 : BitVec 1 := Scalar.xori v460 v461
  let c0_i32_260 : BitVec 32 := 0#32
  let v459 : BitVec 1 := Scalar.cmpi .ne v458 c0_i32_260
  let v463 : BitVec 1 := Scalar.andi v462 v459
  let v464 : BitVec 32 := Scalar.addi v458 v457
  let v465 : BitVec 32 := Scalar.select v463 v464 v458
  let v466 : BitVec 32 := Scalar.muli c16_i32_263 v465
  let v467 : BitVec 32 := Scalar.addi v120 v466
  let v468 : Index := Scalar.indexCast v467
  let c0_264 : Index := 0#32
  ![v468.toNat, 0]
def k0_off6 (d0 : Dev nD) (c1_i32_256 : BitVec 32) : Fin 2 → Nat :=
  let c64_i32 : BitVec 32 := 64#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v120 : BitVec 32 := Scalar.muli c64_i32 v26
  let c16_i32_268 : BitVec 32 := 16#32
  let c0_i32_11 : BitVec 32 := 0#32
  let v28 : BitVec 1 := Scalar.cmpi .sgt v16 c0_i32_11
  let v29 : BitVec 32 := Scalar.extui v28
  let c0_i32_12 : BitVec 32 := 0#32
  let v30 : BitVec 1 := Scalar.cmpi .slt v16 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi v16 c4_i32_10
  let c0_i32_15 : BitVec 32 := 0#32
  let v40 : BitVec 1 := Scalar.cmpi .ne v39 c0_i32_15
  let v41 : BitVec 1 := Scalar.andi v38 v40
  let v27 : BitVec 32 := Scalar.divsi v16 c4_i32_10
  let c1_i32_16 : BitVec 32 := 1#32
  let v42 : BitVec 32 := Scalar.subi v27 c1_i32_16
  let v43 : BitVec 32 := Scalar.select v41 v42 v27
  let v455 : BitVec 32 := Scalar.addi v43 c1_i32_256
  let c4_i32_257 : BitVec 32 := 4#32
  let c0_i32_258 : BitVec 32 := 0#32
  let v456 : BitVec 1 := Scalar.cmpi .eq c4_i32_257 c0_i32_258
  let c1_i32_259 : BitVec 32 := 1#32
  let v457 : BitVec 32 := Scalar.select v456 c1_i32_259 c4_i32_257
  let v458 : BitVec 32 := Scalar.remsi v455 v457
  let c0_i32_261 : BitVec 32 := 0#32
  let v460 : BitVec 1 := Scalar.cmpi .slt v458 c0_i32_261
  let c0_i32_262 : BitVec 32 := 0#32
  let v461 : BitVec 1 := Scalar.cmpi .slt v457 c0_i32_262
  let v462 : BitVec 1 := Scalar.xori v460 v461
  let c0_i32_260 : BitVec 32 := 0#32
  let v459 : BitVec 1 := Scalar.cmpi .ne v458 c0_i32_260
  let v463 : BitVec 1 := Scalar.andi v462 v459
  let v464 : BitVec 32 := Scalar.addi v458 v457
  let v465 : BitVec 32 := Scalar.select v463 v464 v458
  let v480 : BitVec 32 := Scalar.muli c16_i32_268 v465
  let v481 : BitVec 32 := Scalar.addi v120 v480
  let c0_i32_275 : BitVec 32 := 0#32
  ![v481.toNat, 0]
def k0_dev10 (d0 : Dev nD) : Nat :=
  let c0_i32_272 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_267 : BitVec 32 := 4#32
  let c0_i32_11 : BitVec 32 := 0#32
  let v28 : BitVec 1 := Scalar.cmpi .sgt v16 c0_i32_11
  let v29 : BitVec 32 := Scalar.extui v28
  let c0_i32_12 : BitVec 32 := 0#32
  let v30 : BitVec 1 := Scalar.cmpi .slt v16 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi v16 c4_i32_10
  let c0_i32_15 : BitVec 32 := 0#32
  let v40 : BitVec 1 := Scalar.cmpi .ne v39 c0_i32_15
  let v41 : BitVec 1 := Scalar.andi v38 v40
  let v27 : BitVec 32 := Scalar.divsi v16 c4_i32_10
  let c1_i32_16 : BitVec 32 := 1#32
  let v42 : BitVec 32 := Scalar.subi v27 c1_i32_16
  let v43 : BitVec 32 := Scalar.select v41 v42 v27
  let c1_i32_256 : BitVec 32 := 1#32
  let v455 : BitVec 32 := Scalar.addi v43 c1_i32_256
  let c4_i32_257 : BitVec 32 := 4#32
  let c0_i32_258 : BitVec 32 := 0#32
  let v456 : BitVec 1 := Scalar.cmpi .eq c4_i32_257 c0_i32_258
  let c1_i32_259 : BitVec 32 := 1#32
  let v457 : BitVec 32 := Scalar.select v456 c1_i32_259 c4_i32_257
  let v458 : BitVec 32 := Scalar.remsi v455 v457
  let c0_i32_261 : BitVec 32 := 0#32
  let v460 : BitVec 1 := Scalar.cmpi .slt v458 c0_i32_261
  let c0_i32_262 : BitVec 32 := 0#32
  let v461 : BitVec 1 := Scalar.cmpi .slt v457 c0_i32_262
  let v462 : BitVec 1 := Scalar.xori v460 v461
  let c0_i32_260 : BitVec 32 := 0#32
  let v459 : BitVec 1 := Scalar.cmpi .ne v458 c0_i32_260
  let v463 : BitVec 1 := Scalar.andi v462 v459
  let v464 : BitVec 32 := Scalar.addi v458 v457
  let v465 : BitVec 32 := Scalar.select v463 v464 v458
  let v478 : BitVec 32 := Scalar.muli c4_i32_267 v465
  let v479 : BitVec 32 := Scalar.addi v26 v478
  let c1_i32_271 : BitVec 32 := 1#32
  let v482 : BitVec 32 := Scalar.muli v479 c1_i32_271
  let v483 : BitVec 32 := Scalar.addi c0_i32_272 v482
  v483.toNat
def k0_dev11 (d0 : Dev nD) : Nat :=
  let c0_i32_293 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_287 : BitVec 32 := 4#32
  let c0_i32_11 : BitVec 32 := 0#32
  let v28 : BitVec 1 := Scalar.cmpi .sgt v16 c0_i32_11
  let v29 : BitVec 32 := Scalar.extui v28
  let c0_i32_12 : BitVec 32 := 0#32
  let v30 : BitVec 1 := Scalar.cmpi .slt v16 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi v16 c4_i32_10
  let c0_i32_15 : BitVec 32 := 0#32
  let v40 : BitVec 1 := Scalar.cmpi .ne v39 c0_i32_15
  let v41 : BitVec 1 := Scalar.andi v38 v40
  let v27 : BitVec 32 := Scalar.divsi v16 c4_i32_10
  let c1_i32_16 : BitVec 32 := 1#32
  let v42 : BitVec 32 := Scalar.subi v27 c1_i32_16
  let v43 : BitVec 32 := Scalar.select v41 v42 v27
  let c2_i32_276 : BitVec 32 := 2#32
  let v491 : BitVec 32 := Scalar.addi v43 c2_i32_276
  let c4_i32_277 : BitVec 32 := 4#32
  let c0_i32_278 : BitVec 32 := 0#32
  let v492 : BitVec 1 := Scalar.cmpi .eq c4_i32_277 c0_i32_278
  let c1_i32_279 : BitVec 32 := 1#32
  let v493 : BitVec 32 := Scalar.select v492 c1_i32_279 c4_i32_277
  let v494 : BitVec 32 := Scalar.remsi v491 v493
  let c0_i32_281 : BitVec 32 := 0#32
  let v496 : BitVec 1 := Scalar.cmpi .slt v494 c0_i32_281
  let c0_i32_282 : BitVec 32 := 0#32
  let v497 : BitVec 1 := Scalar.cmpi .slt v493 c0_i32_282
  let v498 : BitVec 1 := Scalar.xori v496 v497
  let c0_i32_280 : BitVec 32 := 0#32
  let v495 : BitVec 1 := Scalar.cmpi .ne v494 c0_i32_280
  let v499 : BitVec 1 := Scalar.andi v498 v495
  let v500 : BitVec 32 := Scalar.addi v494 v493
  let v501 : BitVec 32 := Scalar.select v499 v500 v494
  let v514 : BitVec 32 := Scalar.muli c4_i32_287 v501
  let v515 : BitVec 32 := Scalar.addi v26 v514
  let c1_i32_292 : BitVec 32 := 1#32
  let v518 : BitVec 32 := Scalar.muli v515 c1_i32_292
  let v519 : BitVec 32 := Scalar.addi c0_i32_293 v518
  v519.toNat
def k0_dev12 (d0 : Dev nD) : Nat :=
  let c0_i32_314 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_308 : BitVec 32 := 4#32
  let c0_i32_11 : BitVec 32 := 0#32
  let v28 : BitVec 1 := Scalar.cmpi .sgt v16 c0_i32_11
  let v29 : BitVec 32 := Scalar.extui v28
  let c0_i32_12 : BitVec 32 := 0#32
  let v30 : BitVec 1 := Scalar.cmpi .slt v16 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi v16 c4_i32_10
  let c0_i32_15 : BitVec 32 := 0#32
  let v40 : BitVec 1 := Scalar.cmpi .ne v39 c0_i32_15
  let v41 : BitVec 1 := Scalar.andi v38 v40
  let v27 : BitVec 32 := Scalar.divsi v16 c4_i32_10
  let c1_i32_16 : BitVec 32 := 1#32
  let v42 : BitVec 32 := Scalar.subi v27 c1_i32_16
  let v43 : BitVec 32 := Scalar.select v41 v42 v27
  let c3_i32_297 : BitVec 32 := 3#32
  let v527 : BitVec 32 := Scalar.addi v43 c3_i32_297
  let c4_i32_298 : BitVec 32 := 4#32
  let c0_i32_299 : BitVec 32 := 0#32
  let v528 : BitVec 1 := Scalar.cmpi .eq c4_i32_298 c0_i32_299
  let c1_i32_300 : BitVec 32 := 1#32
  let v529 : BitVec 32 := Scalar.select v528 c1_i32_300 c4_i32_298
  let v530 : BitVec 32 := Scalar.remsi v527 v529
  let c0_i32_302 : BitVec 32 := 0#32
  let v532 : BitVec 1 := Scalar.cmpi .slt v530 c0_i32_302
  let c0_i32_303 : BitVec 32 := 0#32
  let v533 : BitVec 1 := Scalar.cmpi .slt v529 c0_i32_303
  let v534 : BitVec 1 := Scalar.xori v532 v533
  let c0_i32_301 : BitVec 32 := 0#32
  let v531 : BitVec 1 := Scalar.cmpi .ne v530 c0_i32_301
  let v535 : BitVec 1 := Scalar.andi v534 v531
  let v536 : BitVec 32 := Scalar.addi v530 v529
  let v537 : BitVec 32 := Scalar.select v535 v536 v530
  let v550 : BitVec 32 := Scalar.muli c4_i32_308 v537
  let v551 : BitVec 32 := Scalar.addi v26 v550
  let c1_i32_313 : BitVec 32 := 1#32
  let v554 : BitVec 32 := Scalar.muli v551 c1_i32_313
  let v555 : BitVec 32 := Scalar.addi c0_i32_314 v554
  v555.toNat
def k0_off7 (d0 : Dev nD) : Fin 2 → Nat :=
  let c64_i32 : BitVec 32 := 64#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v120 : BitVec 32 := Scalar.muli c64_i32 v26
  let c16_i32_62 : BitVec 32 := 16#32
  let c0_i32_11 : BitVec 32 := 0#32
  let v28 : BitVec 1 := Scalar.cmpi .sgt v16 c0_i32_11
  let v29 : BitVec 32 := Scalar.extui v28
  let c0_i32_12 : BitVec 32 := 0#32
  let v30 : BitVec 1 := Scalar.cmpi .slt v16 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi v16 c4_i32_10
  let c0_i32_15 : BitVec 32 := 0#32
  let v40 : BitVec 1 := Scalar.cmpi .ne v39 c0_i32_15
  let v41 : BitVec 1 := Scalar.andi v38 v40
  let v27 : BitVec 32 := Scalar.divsi v16 c4_i32_10
  let c1_i32_16 : BitVec 32 := 1#32
  let v42 : BitVec 32 := Scalar.subi v27 c1_i32_16
  let v43 : BitVec 32 := Scalar.select v41 v42 v27
  let v121 : BitVec 32 := Scalar.muli c16_i32_62 v43
  let v122 : BitVec 32 := Scalar.addi v120 v121
  let v599 : Index := Scalar.indexCast v122
  let c0_363 : Index := 0#32
  ![v599.toNat, 0]
def k0_off8 (d0 : Dev nD) : Fin 2 → Nat :=
  let c64_i32 : BitVec 32 := 64#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v120 : BitVec 32 := Scalar.muli c64_i32 v26
  let c16_i32_62 : BitVec 32 := 16#32
  let c0_i32_11 : BitVec 32 := 0#32
  let v28 : BitVec 1 := Scalar.cmpi .sgt v16 c0_i32_11
  let v29 : BitVec 32 := Scalar.extui v28
  let c0_i32_12 : BitVec 32 := 0#32
  let v30 : BitVec 1 := Scalar.cmpi .slt v16 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi v16 c4_i32_10
  let c0_i32_15 : BitVec 32 := 0#32
  let v40 : BitVec 1 := Scalar.cmpi .ne v39 c0_i32_15
  let v41 : BitVec 1 := Scalar.andi v38 v40
  let v27 : BitVec 32 := Scalar.divsi v16 c4_i32_10
  let c1_i32_16 : BitVec 32 := 1#32
  let v42 : BitVec 32 := Scalar.subi v27 c1_i32_16
  let v43 : BitVec 32 := Scalar.select v41 v42 v27
  let v121 : BitVec 32 := Scalar.muli c16_i32_62 v43
  let v122 : BitVec 32 := Scalar.addi v120 v121
  let c0_i32_387 : BitVec 32 := 0#32
  ![v122.toNat, 0]
def k0_dev13 (d0 : Dev nD) : Nat :=
  let c0_i32_386 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_383 : BitVec 32 := 4#32
  let c0_i32_11 : BitVec 32 := 0#32
  let v28 : BitVec 1 := Scalar.cmpi .sgt v16 c0_i32_11
  let v29 : BitVec 32 := Scalar.extui v28
  let c0_i32_12 : BitVec 32 := 0#32
  let v30 : BitVec 1 := Scalar.cmpi .slt v16 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi v16 c4_i32_10
  let c0_i32_15 : BitVec 32 := 0#32
  let v40 : BitVec 1 := Scalar.cmpi .ne v39 c0_i32_15
  let v41 : BitVec 1 := Scalar.andi v38 v40
  let v27 : BitVec 32 := Scalar.divsi v16 c4_i32_10
  let c1_i32_16 : BitVec 32 := 1#32
  let v42 : BitVec 32 := Scalar.subi v27 c1_i32_16
  let v43 : BitVec 32 := Scalar.select v41 v42 v27
  let c1_i32_376 : BitVec 32 := 1#32
  let v624 : BitVec 32 := Scalar.addi v43 c1_i32_376
  let c4_i32_377 : BitVec 32 := 4#32
  let c0_i32_378 : BitVec 32 := 0#32
  let v625 : BitVec 1 := Scalar.cmpi .eq c4_i32_377 c0_i32_378
  let c1_i32_379 : BitVec 32 := 1#32
  let v626 : BitVec 32 := Scalar.select v625 c1_i32_379 c4_i32_377
  let v627 : BitVec 32 := Scalar.remsi v624 v626
  let c0_i32_381 : BitVec 32 := 0#32
  let v629 : BitVec 1 := Scalar.cmpi .slt v627 c0_i32_381
  let c0_i32_382 : BitVec 32 := 0#32
  let v630 : BitVec 1 := Scalar.cmpi .slt v626 c0_i32_382
  let v631 : BitVec 1 := Scalar.xori v629 v630
  let c0_i32_380 : BitVec 32 := 0#32
  let v628 : BitVec 1 := Scalar.cmpi .ne v627 c0_i32_380
  let v632 : BitVec 1 := Scalar.andi v631 v628
  let v633 : BitVec 32 := Scalar.addi v627 v626
  let v634 : BitVec 32 := Scalar.select v632 v633 v627
  let v635 : BitVec 32 := Scalar.muli c4_i32_383 v634
  let v636 : BitVec 32 := Scalar.addi v26 v635
  let c1_i32_385 : BitVec 32 := 1#32
  let v637 : BitVec 32 := Scalar.muli v636 c1_i32_385
  let v638 : BitVec 32 := Scalar.addi c0_i32_386 v637
  v638.toNat
def k0_dev14 (d0 : Dev nD) : Nat :=
  let c0_i32_399 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_396 : BitVec 32 := 4#32
  let c0_i32_11 : BitVec 32 := 0#32
  let v28 : BitVec 1 := Scalar.cmpi .sgt v16 c0_i32_11
  let v29 : BitVec 32 := Scalar.extui v28
  let c0_i32_12 : BitVec 32 := 0#32
  let v30 : BitVec 1 := Scalar.cmpi .slt v16 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi v16 c4_i32_10
  let c0_i32_15 : BitVec 32 := 0#32
  let v40 : BitVec 1 := Scalar.cmpi .ne v39 c0_i32_15
  let v41 : BitVec 1 := Scalar.andi v38 v40
  let v27 : BitVec 32 := Scalar.divsi v16 c4_i32_10
  let c1_i32_16 : BitVec 32 := 1#32
  let v42 : BitVec 32 := Scalar.subi v27 c1_i32_16
  let v43 : BitVec 32 := Scalar.select v41 v42 v27
  let c2_i32_389 : BitVec 32 := 2#32
  let v645 : BitVec 32 := Scalar.addi v43 c2_i32_389
  let c4_i32_390 : BitVec 32 := 4#32
  let c0_i32_391 : BitVec 32 := 0#32
  let v646 : BitVec 1 := Scalar.cmpi .eq c4_i32_390 c0_i32_391
  let c1_i32_392 : BitVec 32 := 1#32
  let v647 : BitVec 32 := Scalar.select v646 c1_i32_392 c4_i32_390
  let v648 : BitVec 32 := Scalar.remsi v645 v647
  let c0_i32_394 : BitVec 32 := 0#32
  let v650 : BitVec 1 := Scalar.cmpi .slt v648 c0_i32_394
  let c0_i32_395 : BitVec 32 := 0#32
  let v651 : BitVec 1 := Scalar.cmpi .slt v647 c0_i32_395
  let v652 : BitVec 1 := Scalar.xori v650 v651
  let c0_i32_393 : BitVec 32 := 0#32
  let v649 : BitVec 1 := Scalar.cmpi .ne v648 c0_i32_393
  let v653 : BitVec 1 := Scalar.andi v652 v649
  let v654 : BitVec 32 := Scalar.addi v648 v647
  let v655 : BitVec 32 := Scalar.select v653 v654 v648
  let v656 : BitVec 32 := Scalar.muli c4_i32_396 v655
  let v657 : BitVec 32 := Scalar.addi v26 v656
  let c1_i32_398 : BitVec 32 := 1#32
  let v658 : BitVec 32 := Scalar.muli v657 c1_i32_398
  let v659 : BitVec 32 := Scalar.addi c0_i32_399 v658
  v659.toNat
def k0_dev15 (d0 : Dev nD) : Nat :=
  let c0_i32_413 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_409 : BitVec 32 := 4#32
  let c0_i32_11 : BitVec 32 := 0#32
  let v28 : BitVec 1 := Scalar.cmpi .sgt v16 c0_i32_11
  let v29 : BitVec 32 := Scalar.extui v28
  let c0_i32_12 : BitVec 32 := 0#32
  let v30 : BitVec 1 := Scalar.cmpi .slt v16 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi v16 c4_i32_10
  let c0_i32_15 : BitVec 32 := 0#32
  let v40 : BitVec 1 := Scalar.cmpi .ne v39 c0_i32_15
  let v41 : BitVec 1 := Scalar.andi v38 v40
  let v27 : BitVec 32 := Scalar.divsi v16 c4_i32_10
  let c1_i32_16 : BitVec 32 := 1#32
  let v42 : BitVec 32 := Scalar.subi v27 c1_i32_16
  let v43 : BitVec 32 := Scalar.select v41 v42 v27
  let c3_i32_402 : BitVec 32 := 3#32
  let v666 : BitVec 32 := Scalar.addi v43 c3_i32_402
  let c4_i32_403 : BitVec 32 := 4#32
  let c0_i32_404 : BitVec 32 := 0#32
  let v667 : BitVec 1 := Scalar.cmpi .eq c4_i32_403 c0_i32_404
  let c1_i32_405 : BitVec 32 := 1#32
  let v668 : BitVec 32 := Scalar.select v667 c1_i32_405 c4_i32_403
  let v669 : BitVec 32 := Scalar.remsi v666 v668
  let c0_i32_407 : BitVec 32 := 0#32
  let v671 : BitVec 1 := Scalar.cmpi .slt v669 c0_i32_407
  let c0_i32_408 : BitVec 32 := 0#32
  let v672 : BitVec 1 := Scalar.cmpi .slt v668 c0_i32_408
  let v673 : BitVec 1 := Scalar.xori v671 v672
  let c0_i32_406 : BitVec 32 := 0#32
  let v670 : BitVec 1 := Scalar.cmpi .ne v669 c0_i32_406
  let v674 : BitVec 1 := Scalar.andi v673 v670
  let v675 : BitVec 32 := Scalar.addi v669 v668
  let v676 : BitVec 32 := Scalar.select v674 v675 v669
  let v677 : BitVec 32 := Scalar.muli c4_i32_409 v676
  let v678 : BitVec 32 := Scalar.addi v26 v677
  let c1_i32_412 : BitVec 32 := 1#32
  let v679 : BitVec 32 := Scalar.muli v678 c1_i32_412
  let v680 : BitVec 32 := Scalar.addi c0_i32_413 v679
  v680.toNat
def k0_off9 (d0 : Dev nD) : Fin 2 → Nat :=
  let c64_i32 : BitVec 32 := 64#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v120 : BitVec 32 := Scalar.muli c64_i32 v26
  let c0_i32_458 : BitVec 32 := 0#32
  ![v120.toNat, 0]
def k0_dev16 (d0 : Dev nD) : Nat :=
  let c0_i32_457 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v44 : BitVec 32 := Scalar.subi v16 v26
  let c1_i32_449 : BitVec 32 := 1#32
  let v717 : BitVec 32 := Scalar.addi v26 c1_i32_449
  let c4_i32_450 : BitVec 32 := 4#32
  let c0_i32_451 : BitVec 32 := 0#32
  let v718 : BitVec 1 := Scalar.cmpi .eq c4_i32_450 c0_i32_451
  let c1_i32_452 : BitVec 32 := 1#32
  let v719 : BitVec 32 := Scalar.select v718 c1_i32_452 c4_i32_450
  let v720 : BitVec 32 := Scalar.remsi v717 v719
  let c0_i32_454 : BitVec 32 := 0#32
  let v722 : BitVec 1 := Scalar.cmpi .slt v720 c0_i32_454
  let c0_i32_455 : BitVec 32 := 0#32
  let v723 : BitVec 1 := Scalar.cmpi .slt v719 c0_i32_455
  let v724 : BitVec 1 := Scalar.xori v722 v723
  let c0_i32_453 : BitVec 32 := 0#32
  let v721 : BitVec 1 := Scalar.cmpi .ne v720 c0_i32_453
  let v725 : BitVec 1 := Scalar.andi v724 v721
  let v726 : BitVec 32 := Scalar.addi v720 v719
  let v727 : BitVec 32 := Scalar.select v725 v726 v720
  let v728 : BitVec 32 := Scalar.addi v44 v727
  let c1_i32_456 : BitVec 32 := 1#32
  let v729 : BitVec 32 := Scalar.muli v728 c1_i32_456
  let v730 : BitVec 32 := Scalar.addi c0_i32_457 v729
  v730.toNat
def k0_dev17 (d0 : Dev nD) : Nat :=
  let c0_i32_469 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v44 : BitVec 32 := Scalar.subi v16 v26
  let c2_i32_460 : BitVec 32 := 2#32
  let v737 : BitVec 32 := Scalar.addi v26 c2_i32_460
  let c4_i32_461 : BitVec 32 := 4#32
  let c0_i32_462 : BitVec 32 := 0#32
  let v738 : BitVec 1 := Scalar.cmpi .eq c4_i32_461 c0_i32_462
  let c1_i32_463 : BitVec 32 := 1#32
  let v739 : BitVec 32 := Scalar.select v738 c1_i32_463 c4_i32_461
  let v740 : BitVec 32 := Scalar.remsi v737 v739
  let c0_i32_465 : BitVec 32 := 0#32
  let v742 : BitVec 1 := Scalar.cmpi .slt v740 c0_i32_465
  let c0_i32_466 : BitVec 32 := 0#32
  let v743 : BitVec 1 := Scalar.cmpi .slt v739 c0_i32_466
  let v744 : BitVec 1 := Scalar.xori v742 v743
  let c0_i32_464 : BitVec 32 := 0#32
  let v741 : BitVec 1 := Scalar.cmpi .ne v740 c0_i32_464
  let v745 : BitVec 1 := Scalar.andi v744 v741
  let v746 : BitVec 32 := Scalar.addi v740 v739
  let v747 : BitVec 32 := Scalar.select v745 v746 v740
  let v748 : BitVec 32 := Scalar.addi v44 v747
  let c1_i32_468 : BitVec 32 := 1#32
  let v749 : BitVec 32 := Scalar.muli v748 c1_i32_468
  let v750 : BitVec 32 := Scalar.addi c0_i32_469 v749
  v750.toNat
def k0_dev18 (d0 : Dev nD) : Nat :=
  let c0_i32_482 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v44 : BitVec 32 := Scalar.subi v16 v26
  let c3_i32_472 : BitVec 32 := 3#32
  let v757 : BitVec 32 := Scalar.addi v26 c3_i32_472
  let c4_i32_473 : BitVec 32 := 4#32
  let c0_i32_474 : BitVec 32 := 0#32
  let v758 : BitVec 1 := Scalar.cmpi .eq c4_i32_473 c0_i32_474
  let c1_i32_475 : BitVec 32 := 1#32
  let v759 : BitVec 32 := Scalar.select v758 c1_i32_475 c4_i32_473
  let v760 : BitVec 32 := Scalar.remsi v757 v759
  let c0_i32_477 : BitVec 32 := 0#32
  let v762 : BitVec 1 := Scalar.cmpi .slt v760 c0_i32_477
  let c0_i32_478 : BitVec 32 := 0#32
  let v763 : BitVec 1 := Scalar.cmpi .slt v759 c0_i32_478
  let v764 : BitVec 1 := Scalar.xori v762 v763
  let c0_i32_476 : BitVec 32 := 0#32
  let v761 : BitVec 1 := Scalar.cmpi .ne v760 c0_i32_476
  let v765 : BitVec 1 := Scalar.andi v764 v761
  let v766 : BitVec 32 := Scalar.addi v760 v759
  let v767 : BitVec 32 := Scalar.select v765 v766 v760
  let v768 : BitVec 32 := Scalar.addi v44 v767
  let c1_i32_481 : BitVec 32 := 1#32
  let v769 : BitVec 32 := Scalar.muli v768 c1_i32_481
  let v770 : BitVec 32 := Scalar.addi c0_i32_482 v769
  v770.toNat
def k0_dev19 (d0 : Dev nD) : Nat :=
  let c0_i32_524_r0 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v44 : BitVec 32 := Scalar.subi v16 v26
  let c1_i32_17 : BitVec 32 := 1#32
  let v45 : BitVec 32 := Scalar.addi v26 c1_i32_17
  let c4_i32_18 : BitVec 32 := 4#32
  let c0_i32_19 : BitVec 32 := 0#32
  let v46 : BitVec 1 := Scalar.cmpi .eq c4_i32_18 c0_i32_19
  let c1_i32_20 : BitVec 32 := 1#32
  let v47 : BitVec 32 := Scalar.select v46 c1_i32_20 c4_i32_18
  let v48 : BitVec 32 := Scalar.remsi v45 v47
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let c0_i32_21 : BitVec 32 := 0#32
  let v49 : BitVec 1 := Scalar.cmpi .ne v48 c0_i32_21
  let v53 : BitVec 1 := Scalar.andi v52 v49
  let v54 : BitVec 32 := Scalar.addi v48 v47
  let v55 : BitVec 32 := Scalar.select v53 v54 v48
  let v56 : BitVec 32 := Scalar.addi v44 v55
  let c1_i32_523_r0 : BitVec 32 := 1#32
  let v811_r0 : BitVec 32 := Scalar.muli v56 c1_i32_523_r0
  let v812_r0 : BitVec 32 := Scalar.addi c0_i32_524_r0 v811_r0
  v812_r0.toNat
def k0_dev20 (d0 : Dev nD) : Nat :=
  let c0_i32_527_r0 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v44 : BitVec 32 := Scalar.subi v16 v26
  let c2_i32_24 : BitVec 32 := 2#32
  let v57 : BitVec 32 := Scalar.addi v26 c2_i32_24
  let c4_i32_25 : BitVec 32 := 4#32
  let c0_i32_26 : BitVec 32 := 0#32
  let v58 : BitVec 1 := Scalar.cmpi .eq c4_i32_25 c0_i32_26
  let c1_i32_27 : BitVec 32 := 1#32
  let v59 : BitVec 32 := Scalar.select v58 c1_i32_27 c4_i32_25
  let v60 : BitVec 32 := Scalar.remsi v57 v59
  let c0_i32_29 : BitVec 32 := 0#32
  let v62 : BitVec 1 := Scalar.cmpi .slt v60 c0_i32_29
  let c0_i32_30 : BitVec 32 := 0#32
  let v63 : BitVec 1 := Scalar.cmpi .slt v59 c0_i32_30
  let v64 : BitVec 1 := Scalar.xori v62 v63
  let c0_i32_28 : BitVec 32 := 0#32
  let v61 : BitVec 1 := Scalar.cmpi .ne v60 c0_i32_28
  let v65 : BitVec 1 := Scalar.andi v64 v61
  let v66 : BitVec 32 := Scalar.addi v60 v59
  let v67 : BitVec 32 := Scalar.select v65 v66 v60
  let v68 : BitVec 32 := Scalar.addi v44 v67
  let c1_i32_526_r0 : BitVec 32 := 1#32
  let v813_r0 : BitVec 32 := Scalar.muli v68 c1_i32_526_r0
  let v814_r0 : BitVec 32 := Scalar.addi c0_i32_527_r0 v813_r0
  v814_r0.toNat
def k0_dev21 (d0 : Dev nD) : Nat :=
  let c0_i32_530_r0 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v44 : BitVec 32 := Scalar.subi v16 v26
  let c3_i32_31 : BitVec 32 := 3#32
  let v69 : BitVec 32 := Scalar.addi v26 c3_i32_31
  let c4_i32_32 : BitVec 32 := 4#32
  let c0_i32_33 : BitVec 32 := 0#32
  let v70 : BitVec 1 := Scalar.cmpi .eq c4_i32_32 c0_i32_33
  let c1_i32_34 : BitVec 32 := 1#32
  let v71 : BitVec 32 := Scalar.select v70 c1_i32_34 c4_i32_32
  let v72 : BitVec 32 := Scalar.remsi v69 v71
  let c0_i32_36 : BitVec 32 := 0#32
  let v74 : BitVec 1 := Scalar.cmpi .slt v72 c0_i32_36
  let c0_i32_37 : BitVec 32 := 0#32
  let v75 : BitVec 1 := Scalar.cmpi .slt v71 c0_i32_37
  let v76 : BitVec 1 := Scalar.xori v74 v75
  let c0_i32_35 : BitVec 32 := 0#32
  let v73 : BitVec 1 := Scalar.cmpi .ne v72 c0_i32_35
  let v77 : BitVec 1 := Scalar.andi v76 v73
  let v78 : BitVec 32 := Scalar.addi v72 v71
  let v79 : BitVec 32 := Scalar.select v77 v78 v72
  let v80 : BitVec 32 := Scalar.addi v44 v79
  let c1_i32_529_r0 : BitVec 32 := 1#32
  let v815_r0 : BitVec 32 := Scalar.muli v80 c1_i32_529_r0
  let v816_r0 : BitVec 32 := Scalar.addi c0_i32_530_r0 v815_r0
  v816_r0.toNat
def k0_dev22 (d0 : Dev nD) : Nat :=
  let c0_i32_533_r0 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_45 : BitVec 32 := 4#32
  let c0_i32_11 : BitVec 32 := 0#32
  let v28 : BitVec 1 := Scalar.cmpi .sgt v16 c0_i32_11
  let v29 : BitVec 32 := Scalar.extui v28
  let c0_i32_12 : BitVec 32 := 0#32
  let v30 : BitVec 1 := Scalar.cmpi .slt v16 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi v16 c4_i32_10
  let c0_i32_15 : BitVec 32 := 0#32
  let v40 : BitVec 1 := Scalar.cmpi .ne v39 c0_i32_15
  let v41 : BitVec 1 := Scalar.andi v38 v40
  let v27 : BitVec 32 := Scalar.divsi v16 c4_i32_10
  let c1_i32_16 : BitVec 32 := 1#32
  let v42 : BitVec 32 := Scalar.subi v27 c1_i32_16
  let v43 : BitVec 32 := Scalar.select v41 v42 v27
  let c1_i32_38 : BitVec 32 := 1#32
  let v81 : BitVec 32 := Scalar.addi v43 c1_i32_38
  let c4_i32_39 : BitVec 32 := 4#32
  let c0_i32_40 : BitVec 32 := 0#32
  let v82 : BitVec 1 := Scalar.cmpi .eq c4_i32_39 c0_i32_40
  let c1_i32_41 : BitVec 32 := 1#32
  let v83 : BitVec 32 := Scalar.select v82 c1_i32_41 c4_i32_39
  let v84 : BitVec 32 := Scalar.remsi v81 v83
  let c0_i32_43 : BitVec 32 := 0#32
  let v86 : BitVec 1 := Scalar.cmpi .slt v84 c0_i32_43
  let c0_i32_44 : BitVec 32 := 0#32
  let v87 : BitVec 1 := Scalar.cmpi .slt v83 c0_i32_44
  let v88 : BitVec 1 := Scalar.xori v86 v87
  let c0_i32_42 : BitVec 32 := 0#32
  let v85 : BitVec 1 := Scalar.cmpi .ne v84 c0_i32_42
  let v89 : BitVec 1 := Scalar.andi v88 v85
  let v90 : BitVec 32 := Scalar.addi v84 v83
  let v91 : BitVec 32 := Scalar.select v89 v90 v84
  let v92 : BitVec 32 := Scalar.muli c4_i32_45 v91
  let v93 : BitVec 32 := Scalar.addi v26 v92
  let c1_i32_532_r0 : BitVec 32 := 1#32
  let v817_r0 : BitVec 32 := Scalar.muli v93 c1_i32_532_r0
  let v818_r0 : BitVec 32 := Scalar.addi c0_i32_533_r0 v817_r0
  v818_r0.toNat
def k0_dev23 (d0 : Dev nD) : Nat :=
  let c0_i32_536_r0 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_53 : BitVec 32 := 4#32
  let c0_i32_11 : BitVec 32 := 0#32
  let v28 : BitVec 1 := Scalar.cmpi .sgt v16 c0_i32_11
  let v29 : BitVec 32 := Scalar.extui v28
  let c0_i32_12 : BitVec 32 := 0#32
  let v30 : BitVec 1 := Scalar.cmpi .slt v16 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi v16 c4_i32_10
  let c0_i32_15 : BitVec 32 := 0#32
  let v40 : BitVec 1 := Scalar.cmpi .ne v39 c0_i32_15
  let v41 : BitVec 1 := Scalar.andi v38 v40
  let v27 : BitVec 32 := Scalar.divsi v16 c4_i32_10
  let c1_i32_16 : BitVec 32 := 1#32
  let v42 : BitVec 32 := Scalar.subi v27 c1_i32_16
  let v43 : BitVec 32 := Scalar.select v41 v42 v27
  let c2_i32_46 : BitVec 32 := 2#32
  let v94 : BitVec 32 := Scalar.addi v43 c2_i32_46
  let c4_i32_47 : BitVec 32 := 4#32
  let c0_i32_48 : BitVec 32 := 0#32
  let v95 : BitVec 1 := Scalar.cmpi .eq c4_i32_47 c0_i32_48
  let c1_i32_49 : BitVec 32 := 1#32
  let v96 : BitVec 32 := Scalar.select v95 c1_i32_49 c4_i32_47
  let v97 : BitVec 32 := Scalar.remsi v94 v96
  let c0_i32_51 : BitVec 32 := 0#32
  let v99 : BitVec 1 := Scalar.cmpi .slt v97 c0_i32_51
  let c0_i32_52 : BitVec 32 := 0#32
  let v100 : BitVec 1 := Scalar.cmpi .slt v96 c0_i32_52
  let v101 : BitVec 1 := Scalar.xori v99 v100
  let c0_i32_50 : BitVec 32 := 0#32
  let v98 : BitVec 1 := Scalar.cmpi .ne v97 c0_i32_50
  let v102 : BitVec 1 := Scalar.andi v101 v98
  let v103 : BitVec 32 := Scalar.addi v97 v96
  let v104 : BitVec 32 := Scalar.select v102 v103 v97
  let v105 : BitVec 32 := Scalar.muli c4_i32_53 v104
  let v106 : BitVec 32 := Scalar.addi v26 v105
  let c1_i32_535_r0 : BitVec 32 := 1#32
  let v819_r0 : BitVec 32 := Scalar.muli v106 c1_i32_535_r0
  let v820_r0 : BitVec 32 := Scalar.addi c0_i32_536_r0 v819_r0
  v820_r0.toNat
def k0_dev24 (d0 : Dev nD) : Nat :=
  let c0_i32_539_r0 : BitVec 32 := 0#32
  let v14 : BitVec 32 := Dev.word d0
  let c1_i32_4 : BitVec 32 := 1#32
  let v15 : BitVec 32 := Scalar.divsi v14 c1_i32_4
  let c16_i32_3 : BitVec 32 := 16#32
  let v16 : BitVec 32 := Scalar.remsi v15 c16_i32_3
  let c4_i32 : BitVec 32 := 4#32
  let c0_i32_5 : BitVec 32 := 0#32
  let v17 : BitVec 1 := Scalar.cmpi .eq c4_i32 c0_i32_5
  let c1_i32_6 : BitVec 32 := 1#32
  let v18 : BitVec 32 := Scalar.select v17 c1_i32_6 c4_i32
  let v19 : BitVec 32 := Scalar.remsi v16 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c4_i32_61 : BitVec 32 := 4#32
  let c0_i32_11 : BitVec 32 := 0#32
  let v28 : BitVec 1 := Scalar.cmpi .sgt v16 c0_i32_11
  let v29 : BitVec 32 := Scalar.extui v28
  let c0_i32_12 : BitVec 32 := 0#32
  let v30 : BitVec 1 := Scalar.cmpi .slt v16 c0_i32_12
  let v31 : BitVec 32 := Scalar.extui v30
  let v32 : BitVec 32 := Scalar.subi v29 v31
  let c4_i32_10 : BitVec 32 := 4#32
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi v16 c4_i32_10
  let c0_i32_15 : BitVec 32 := 0#32
  let v40 : BitVec 1 := Scalar.cmpi .ne v39 c0_i32_15
  let v41 : BitVec 1 := Scalar.andi v38 v40
  let v27 : BitVec 32 := Scalar.divsi v16 c4_i32_10
  let c1_i32_16 : BitVec 32 := 1#32
  let v42 : BitVec 32 := Scalar.subi v27 c1_i32_16
  let v43 : BitVec 32 := Scalar.select v41 v42 v27
  let c3_i32_54 : BitVec 32 := 3#32
  let v107 : BitVec 32 := Scalar.addi v43 c3_i32_54
  let c4_i32_55 : BitVec 32 := 4#32
  let c0_i32_56 : BitVec 32 := 0#32
  let v108 : BitVec 1 := Scalar.cmpi .eq c4_i32_55 c0_i32_56
  let c1_i32_57 : BitVec 32 := 1#32
  let v109 : BitVec 32 := Scalar.select v108 c1_i32_57 c4_i32_55
  let v110 : BitVec 32 := Scalar.remsi v107 v109
  let c0_i32_59 : BitVec 32 := 0#32
  let v112 : BitVec 1 := Scalar.cmpi .slt v110 c0_i32_59
  let c0_i32_60 : BitVec 32 := 0#32
  let v113 : BitVec 1 := Scalar.cmpi .slt v109 c0_i32_60
  let v114 : BitVec 1 := Scalar.xori v112 v113
  let c0_i32_58 : BitVec 32 := 0#32
  let v111 : BitVec 1 := Scalar.cmpi .ne v110 c0_i32_58
  let v115 : BitVec 1 := Scalar.andi v114 v111
  let v116 : BitVec 32 := Scalar.addi v110 v109
  let v117 : BitVec 32 := Scalar.select v115 v116 v110
  let v118 : BitVec 32 := Scalar.muli c4_i32_61 v117
  let v119 : BitVec 32 := Scalar.addi v26 v118
  let c1_i32_538_r0 : BitVec 32 := 1#32
  let v821_r0 : BitVec 32 := Scalar.muli v119 c1_i32_538_r0
  let v822_r0 : BitVec 32 := Scalar.addi c0_i32_539_r0 v821_r0
  v822_r0.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x1024 : Shape := ⟨2, ![256, 1024]⟩
abbrev S1024x16384 : Shape := ⟨2, ![1024, 16384]⟩
abbrev S1024x4096 : Shape := ⟨2, ![1024, 4096]⟩
abbrev S16384x1024 : Shape := ⟨2, ![16384, 1024]⟩
abbrev S1x256x1024 : Shape := ⟨3, ![1, 256, 1024]⟩
abbrev S1x256x16384 : Shape := ⟨3, ![1, 256, 16384]⟩
abbrev S1x256x128x128 : Shape := ⟨4, ![1, 256, 128, 128]⟩
abbrev S1x256x4096 : Shape := ⟨3, ![1, 256, 4096]⟩
abbrev S1x256x32x128 : Shape := ⟨4, ![1, 256, 32, 128]⟩
abbrev S1x256x32x4x128 : Shape := ⟨5, ![1, 256, 32, 4, 128]⟩
abbrev S1x128x256x256 : Shape := ⟨4, ![1, 128, 256, 256]⟩
abbrev S_ : Shape := ⟨0, ![]⟩
abbrev S1x128x256 : Shape := ⟨3, ![1, 128, 256]⟩
abbrev S1x128x256x1 : Shape := ⟨4, ![1, 128, 256, 1]⟩
abbrev S1x128x128x256 : Shape := ⟨4, ![1, 128, 128, 256]⟩
abbrev S1x256x128x1 : Shape := ⟨4, ![1, 256, 128, 1]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x16384, .f32⟩
  | .hbm, ⟨2, _⟩ => ⟨S1024x4096, .f32⟩
  | .hbm, ⟨3, _⟩ => ⟨S1024x4096, .f32⟩
  | .hbm, ⟨4, _⟩ => ⟨S16384x1024, .f32⟩
  | .hbm, ⟨5, _⟩ => ⟨S1x256x1024, .f32⟩
  | .hbm, ⟨6, _⟩ => ⟨S1x256x16384, .f32⟩
  | .hbm, ⟨7, _⟩ => ⟨S1x256x128x128, .f32⟩
  | .hbm, ⟨8, _⟩ => ⟨S1x256x4096, .f32⟩
  | .hbm, ⟨9, _⟩ => ⟨S1x256x32x128, .f32⟩
  | .hbm, ⟨10, _⟩ => ⟨S1x256x4096, .f32⟩
  | .hbm, ⟨11, _⟩ => ⟨S1x256x32x128, .f32⟩
  | .hbm, ⟨12, _⟩ => ⟨S1x256x32x4x128, .f32⟩
  | .hbm, ⟨13, _⟩ => ⟨S1x256x128x128, .f32⟩
  | .hbm, ⟨14, _⟩ => ⟨S1x256x32x4x128, .f32⟩
  | .hbm, ⟨15, _⟩ => ⟨S1x256x128x128, .f32⟩
  | .hbm, ⟨16, _⟩ => ⟨S1x128x256x256, .f32⟩
  | .hbm, ⟨17, _⟩ => ⟨S_, .f32⟩
  | .hbm, ⟨18, _⟩ => ⟨S1x128x256x256, .f32⟩
  | .hbm, ⟨19, _⟩ => ⟨S1x128x256x256, .f32⟩
  | .hbm, ⟨20, _⟩ => ⟨S_, .f32⟩
  | .hbm, ⟨21, _⟩ => ⟨S1x128x256, .f32⟩
  | .hbm, ⟨22, _⟩ => ⟨S1x128x256x1, .f32⟩
  | .hbm, ⟨23, _⟩ => ⟨S1x128x256x256, .f32⟩
  | .hbm, ⟨24, _⟩ => ⟨S1x128x256x256, .f32⟩
  | .hbm, ⟨25, _⟩ => ⟨S1x128x256x256, .f32⟩
  | .hbm, ⟨26, _⟩ => ⟨S_, .f32⟩
  | .hbm, ⟨27, _⟩ => ⟨S1x128x256, .f32⟩
  | .hbm, ⟨28, _⟩ => ⟨S1x128x256x1, .f32⟩
  | .hbm, ⟨29, _⟩ => ⟨S1x128x128x256, .f32⟩
  | .hbm, ⟨30, _⟩ => ⟨S1x256x128x128, .f32⟩
  | .hbm, ⟨31, _⟩ => ⟨S1x256x128x1, .f32⟩
  | .hbm, ⟨32, _⟩ => ⟨S1x256x128x128, .f32⟩
  | .hbm, ⟨33, _⟩ => ⟨S1x256x128x128, .f32⟩
  | .hbm, ⟨34, _⟩ => ⟨S1x256x16384, .f32⟩
  | .hbm, ⟨35, _⟩ => ⟨S1x256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Proof.KernelIdealMesh.lean ====
/-
# `KernelIdealMesh`: the 4 × 4 mesh, its neighbours, and the rows of the buffers

A device's number is `4 z + r`: `r` is its position in its plane of four devices, `z` the plane. Every device
exchanges data with its three plane neighbours and with the three devices at its position in the other planes. Here:
the six partners of a device and the way back; the device numbers and row offsets the kernel computes, in closed form;
and the parts of the buffers the transfers move — a quarter of the 256 rows, a sixteenth of them, one slot of a landing
buffer — with the contents a buffer has once such a part holds a given block.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit.Geometry
public import Idealize.ShloMosaic.Lib.ValueIdxCore
public import Idealize.ShloMosaic.Lib.ValueLayout
public import Idealize.ShloMosaic.Lib.Tactic

@[expose] public section

noncomputable section

namespace Cert.KernelIdealProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The mesh -/

/-- A device's position in its plane. -/
abbrev rr (c : Dev nD) : ℕ := c.val % 4
/-- A device's plane. -/
abbrev zz (c : Dev nD) : ℕ := c.val / 4

set_option backward.proofsInPublic true in
/-- The six partners: `0, 1, 2` the plane neighbours one, two, three places on; `3, 4, 5` the devices at the same
    position one, two, three planes on. -/
def P (k : Fin 6) (c : Dev nD) : Dev nD :=
  ⟨(if k.val < 3 then c.val / 4 * 4 + (c.val % 4 + k.val + 1) % 4 else (c.val + 4 * (k.val - 2)) % 16) % 16, Nat.mod_lt _ (by decide)⟩

/-- Going back: the partner number under which a device's `k`-th partner sees it. -/
def kinv : Fin 6 → Fin 6 := ![2, 1, 0, 5, 4, 3]

theorem P_kinv : ∀ (k : Fin 6) (c : Dev nD), P k (P (kinv k) c) = c := by decide +kernel
theorem kinv_P : ∀ (k : Fin 6) (c : Dev nD), P (kinv k) (P k c) = c := by decide +kernel
theorem kinv_kinv : ∀ k : Fin 6, kinv (kinv k) = k := by decide +kernel

/-- Being somebody's partner is a bijection. -/
def Pequiv (k : Fin 6) : Dev nD ≃ Dev nD := ⟨P k, P (kinv k), kinv_P k, P_kinv k⟩

/-! ### The device numbers the kernel computes -/

theorem dev1_eq : ∀ c : Dev nD, (⟨k0_dev1 c, k0_dev1_lt c⟩ : Dev nD) = P 0 c := by decide +kernel
theorem dev2_eq : ∀ c : Dev nD, (⟨k0_dev2 c, k0_dev2_lt c⟩ : Dev nD) = P 1 c := by decide +kernel
theorem dev3_eq : ∀ c : Dev nD, (⟨k0_dev3 c, k0_dev3_lt c⟩ : Dev nD) = P 2 c := by decide +kernel
theorem dev4_eq : ∀ c : Dev nD, (⟨k0_dev4 c, k0_dev4_lt c⟩ : Dev nD) = P 3 c := by decide +kernel
theorem dev5_eq : ∀ c : Dev nD, (⟨k0_dev5 c, k0_dev5_lt c⟩ : Dev nD) = P 4 c := by decide +kernel
theorem dev6_eq : ∀ c : Dev nD, (⟨k0_dev6 c, k0_dev6_lt c⟩ : Dev nD) = P 5 c := by decide +kernel
theorem dev7_eq : ∀ c : Dev nD, (⟨k0_dev7 c, k0_dev7_lt c⟩ : Dev nD) = P 0 c := by decide +kernel
theorem dev8_eq : ∀ c : Dev nD, (⟨k0_dev8 c, k0_dev8_lt c⟩ : Dev nD) = P 1 c := by decide +kernel
theorem dev9_eq : ∀ c : Dev nD, (⟨k0_dev9 c, k0_dev9_lt c⟩ : Dev nD) = P 2 c := by decide +kernel
theorem dev10_eq : ∀ c : Dev nD, (⟨k0_dev10 c, k0_dev10_lt c⟩ : Dev nD) = P 3 c := by decide +kernel
theorem dev11_eq : ∀ c : Dev nD, (⟨k0_dev11 c, k0_dev11_lt c⟩ : Dev nD) = P 4 c := by decide +kernel
theorem dev12_eq : ∀ c : Dev nD, (⟨k0_dev12 c, k0_dev12_lt c⟩ : Dev nD) = P 5 c := by decide +kernel
theorem dev13_eq : ∀ c : Dev nD, (⟨k0_dev13 c, k0_dev13_lt c⟩ : Dev nD) = P 3 c := by decide +kernel
theorem dev14_eq : ∀ c : Dev nD, (⟨k0_dev14 c, k0_dev14_lt c⟩ : Dev nD) = P 4 c := by decide +kernel
theorem dev15_eq : ∀ c : Dev nD, (⟨k0_dev15 c, k0_dev15_lt c⟩ : Dev nD) = P 5 c := by decide +kernel
theorem dev16_eq : ∀ c : Dev nD, (⟨k0_dev16 c, k0_dev16_lt c⟩ : Dev nD) = P 0 c := by decide +kernel
theorem dev17_eq : ∀ c : Dev nD, (⟨k0_dev17 c, k0_dev17_lt c⟩ : Dev nD) = P 1 c := by decide +kernel
theorem dev18_eq : ∀ c : Dev nD, (⟨k0_dev18 c, k0_dev18_lt c⟩ : Dev nD) = P 2 c := by decide +kernel
theorem dev19_eq : ∀ c : Dev nD, (⟨k0_dev19 c, k0_dev19_lt c⟩ : Dev nD) = P 0 c := by decide +kernel
theorem dev20_eq : ∀ c : Dev nD, (⟨k0_dev20 c, k0_dev20_lt c⟩ : Dev nD) = P 1 c := by decide +kernel
theorem dev21_eq : ∀ c : Dev nD, (⟨k0_dev21 c, k0_dev21_lt c⟩ : Dev nD) = P 2 c := by decide +kernel
theorem dev22_eq : ∀ c : Dev nD, (⟨k0_dev22 c, k0_dev22_lt c⟩ : Dev nD) = P 3 c := by decide +kernel
theorem dev23_eq : ∀ c : Dev nD, (⟨k0_dev23 c, k0_dev23_lt c⟩ : Dev nD) = P 4 c := by decide +kernel
theorem dev24_eq : ∀ c : Dev nD, (⟨k0_dev24 c, k0_dev24_lt c⟩ : Dev nD) = P 5 c := by decide +kernel

/-! ### The offsets the kernel computes -/

/-- A quarter's first row, and a sixteenth's. -/
abbrev qoff (q : ℕ) : ℕ := 64 * q
abbrev soff (q z : ℕ) : ℕ := 64 * q + 16 * z

theorem off1_eq : ∀ c : Dev nD, k0_off1 c = ![0, 256 * c.val] := by decide +kernel
theorem off2_eq : ∀ (c : Dev nD) (o : Fin 3), k0_off2 c (BitVec.ofNat 32 (1 + o.val)) = ![qoff (rr (P (o.castLE (by decide)) c)), 0] := by decide +kernel
theorem off3_eq : ∀ (c : Dev nD) (o : Fin 3), k0_off3 c (BitVec.ofNat 32 (1 + o.val)) = ![qoff (rr (P (o.castLE (by decide)) c)), 0] := by decide +kernel
theorem off4_eq : ∀ c : Dev nD, k0_off4 c = ![qoff (rr c), 0] := by decide +kernel
theorem off5_eq : ∀ (c : Dev nD) (o : Fin 3), k0_off5 c (BitVec.ofNat 32 (1 + o.val)) = ![soff (rr c) (zz (P (o.natAdd 3) c)), 0] := by decide +kernel
theorem off6_eq : ∀ (c : Dev nD) (o : Fin 3), k0_off6 c (BitVec.ofNat 32 (1 + o.val)) = ![soff (rr c) (zz (P (o.natAdd 3) c)), 0] := by decide +kernel
theorem off7_eq : ∀ c : Dev nD, k0_off7 c = ![soff (rr c) (zz c), 0] := by decide +kernel
theorem off8_eq : ∀ c : Dev nD, k0_off8 c = ![soff (rr c) (zz c), 0] := by decide +kernel
theorem off9_eq : ∀ c : Dev nD, k0_off9 c = ![qoff (rr c), 0] := by decide +kernel

/-! ## Rows of the 256 × 1024 buffers, and slots of the landing buffers -/

/-- The elements of rows `a, …, a + h - 1`. -/
def rows (a h : ℕ) : Finset S256x1024.Idx := Finset.univ.filter fun i => a ≤ (i 0).val ∧ (i 0).val < a + h
/-- Quarter `q`: 64 rows. -/
abbrev quarter (q : ℕ) : Finset S256x1024.Idx := rows (qoff q) 64
/-- Sixteenth `z` of quarter `q`: 16 rows. -/
abbrev sixteenth (q z : ℕ) : Finset S256x1024.Idx := rows (soff q z) 16
/-- One slot of the first landing buffer, and of the second. -/
def slotA (o : ℕ) : Finset S4x64x1024.Idx := Finset.univ.filter fun i => (i 0).val = o
def slotB (o : ℕ) : Finset S4x16x1024.Idx := Finset.univ.filter fun i => (i 0).val = o
/-- The columns of device `c`'s block of a 1024 × 4096 matrix. -/
def colsK (c : ℕ) : Finset S1024x4096.Idx := Finset.univ.filter fun i => 256 * c ≤ (i 1).val ∧ (i 1).val < 256 * c + 256

theorem mem_rows {a h : ℕ} {i : S256x1024.Idx} : i ∈ rows a h ↔ a ≤ (i 0).val ∧ (i 0).val < a + h := by simp [rows]
theorem mem_slotA {o : ℕ} {i : S4x64x1024.Idx} : i ∈ slotA o ↔ (i 0).val = o := by simp [slotA]
theorem mem_slotB {o : ℕ} {i : S4x16x1024.Idx} : i ∈ slotB o ↔ (i 0).val = o := by simp [slotB]
theorem mem_colsK {o : ℕ} {i : S1024x4096.Idx} : i ∈ colsK o ↔ 256 * o ≤ (i 1).val ∧ (i 1).val < 256 * o + 256 := by simp [colsK]

theorem rows_disjoint {a h a' h' : ℕ} (H : a + h ≤ a' ∨ a' + h' ≤ a) : Disjoint (rows a h) (rows a' h') :=
  Finset.disjoint_left.mpr fun i h1 h2 => by rw [mem_rows] at h1 h2; omega
theorem slotA_disjoint {o o' : ℕ} (H : o ≠ o') : Disjoint (slotA o) (slotA o') :=
  Finset.disjoint_left.mpr fun i h1 h2 => by rw [mem_slotA] at h1 h2; omega
theorem slotB_disjoint {o o' : ℕ} (H : o ≠ o') : Disjoint (slotB o) (slotB o') :=
  Finset.disjoint_left.mpr fun i h1 h2 => by rw [mem_slotB] at h1 h2; omega

/-- The rectangle of `h` rows from `a`, all columns, is those rows. -/
theorem set_rows {h : ℕ} {off : Fin 2 → ℕ} {a : ℕ} (hoff : off = ![a, 0]) (inb) :
    (Rect.unit (s := S256x1024) off (⟨2, ![h, 1024]⟩ : Shape).size inb).set = rows a h := by
  subst hoff
  ext i
  rw [Rect.mem_set_unit, mem_rows]
  refine Fin.forall_fin_two.trans ?_
  have h1 : (i 1).val < 1024 := (i 1).isLt
  show ((a ≤ (i 0).val ∧ (i 0).val < a + h) ∧ (0 ≤ (i 1).val ∧ (i 1).val < 0 + 1024)) ↔ _
  omega

theorem set_slotA {off : Fin 3 → ℕ} {o : ℕ} (hoff : off = ![o, 0, 0]) (inb) :
    (Rect.unit (s := S4x64x1024) off S1x64x1024.size inb).set = slotA o := by
  subst hoff
  ext i
  rw [Rect.mem_set_unit, mem_slotA]
  have h1 : (i 1).val < 64 := (i 1).isLt
  have h2 : (i 2).val < 1024 := (i 2).isLt
  constructor
  · intro H; have := H 0; simp only [Matrix.cons_val_zero] at this; change o ≤ (i 0).val ∧ (i 0).val < o + 1 at this; omega
  · intro H a
    match a with
    | 0 => show o ≤ (i 0).val ∧ (i 0).val < o + 1; omega
    | 1 => show 0 ≤ (i 1).val ∧ (i 1).val < 0 + 64; omega
    | 2 => show 0 ≤ (i 2).val ∧ (i 2).val < 0 + 1024; omega

theorem set_slotB {off : Fin 3 → ℕ} {o : ℕ} (hoff : off = ![o, 0, 0]) (inb) :
    (Rect.unit (s := S4x16x1024) off S1x16x1024.size inb).set = slotB o := by
  subst hoff
  ext i
  rw [Rect.mem_set_unit, mem_slotB]
  have h1 : (i 1).val < 16 := (i 1).isLt
  have h2 : (i 2).val < 1024 := (i 2).isLt
  constructor
  · intro H; have := H 0; simp only [Matrix.cons_val_zero] at this; change o ≤ (i 0).val ∧ (i 0).val < o + 1 at this; omega
  · intro H a
    match a with
    | 0 => show o ≤ (i 0).val ∧ (i 0).val < o + 1; omega
    | 1 => show 0 ≤ (i 1).val ∧ (i 1).val < 0 + 16; omega
    | 2 => show 0 ≤ (i 2).val ∧ (i 2).val < 0 + 1024; omega

theorem set_colsK {off : Fin 2 → ℕ} {c : ℕ} (hoff : off = ![0, 256 * c]) (inb) :
    (Rect.unit (s := S1024x4096) off S1024x256.size inb).set = colsK c := by
  subst hoff
  ext i
  rw [Rect.mem_set_unit, mem_colsK]
  refine Fin.forall_fin_two.trans ?_
  have h1 : (i 0).val < 1024 := (i 0).isLt
  show ((0 ≤ (i 0).val ∧ (i 0).val < 0 + 1024) ∧ (256 * c ≤ (i 1).val ∧ (i 1).val < 256 * c + 256)) ↔ _
  omega

/-! ## Contents: a block repeated down the rows, a block in every slot -/

section Contents
variable {α : Type}

/-- The 256 × 1024 contents holding `w` in each quarter, and in each sixteenth. -/
def spreadQ (w : S64x1024.Idx → α) : S256x1024.Idx → α := fun i => w (ix2 ⟨(i 0).val % 64, Nat.mod_lt _ (by decide)⟩ (i 1))
def spreadS (w : S16x1024.Idx → α) : S256x1024.Idx → α := fun i => w (ix2 ⟨(i 0).val % 16, Nat.mod_lt _ (by decide)⟩ (i 1))
/-- The landing buffers' contents holding `w` in every slot. -/
def spreadA (w : S64x1024.Idx → α) : S4x64x1024.Idx → α := fun i => w (ix2 (i 1) (i 2))
def spreadB (w : S16x1024.Idx → α) : S4x16x1024.Idx → α := fun i => w (ix2 (i 1) (i 2))
/-- A block with a leading axis of one. -/
def liftA (w : S64x1024.Idx → α) : S1x64x1024.Idx → α := fun i => w (ix2 (i 1) (i 2))
def liftB (w : S16x1024.Idx → α) : S1x16x1024.Idx → α := fun i => w (ix2 (i 1) (i 2))
/-- Quarter `q` of 256 × 1024 contents, sixteenth `z` of it, and sixteenth `z` of a quarter. -/
def quarterOf (f : S256x1024.Idx → α) (q : ℕ) : S64x1024.Idx → α := fun j =>
  f (ix2 ⟨(qoff q + (j 0).val) % 256, Nat.mod_lt _ (by decide)⟩ (j 1))
def sixteenthOf (w : S64x1024.Idx → α) (z : ℕ) : S16x1024.Idx → α := fun j =>
  w (ix2 ⟨(16 * z + (j 0).val) % 64, Nat.mod_lt _ (by decide)⟩ (j 1))
/-- Block `c` of 256 columns. -/
def colsOf (f : S1024x4096.Idx → α) (c : ℕ) : S1024x256.Idx → α := fun j =>
  f (ix2 (j 0) ⟨(256 * c + (j 1).val) % 4096, Nat.mod_lt _ (by decide)⟩)

end Contents

section Reads
variable {Val : EltTy → Type} {b : Ref sig .tc}

variable {Val : EltTy → Type}

theorem emb_unit2 {d : Fin 2 → ℕ} {off size : Fin 2 → ℕ} {a b : ℕ} (hoff : off = ![a, b]) (inb) (x : (Rect.unit (s := ⟨2, d⟩) off size inb).shape.Idx) :
    (((Rect.unit (s := ⟨2, d⟩) off size inb).emb x 0 : Fin _) : ℕ) = a + (x 0).val
      ∧ (((Rect.unit (s := ⟨2, d⟩) off size inb).emb x 1 : Fin _) : ℕ) = b + (x 1).val := by
  subst hoff
  exact ⟨ValueKit.rect_emb_unit_val _ _ _ x 0, ValueKit.rect_emb_unit_val _ _ _ x 1⟩

/-- What a block written through a view leaves on the view's elements is any contents the view reads that block from. -/
theorem write_eq_on {κ : Kind} {sp : Space} {s : Shape} {e : EltTy} (v : View sig κ sp s e) (f g : v.ty.Contents Val) (w : s.Idx → Val e)
    (h : v.read Val g = w) : ∀ i ∈ v.set, v.write Val f w Finset.univ i = g i := by
  intro i hi
  obtain ⟨x, -, rfl⟩ := Finset.mem_map.mp hi
  rw [View.write_emb_of_mem f w (Finset.mem_univ x), ← h, View.read_apply, cast_cast, cast_eq]

end Reads

/-! ### The blocks read back -/

section ReadBack
variable {α : Type}

theorem spreadQ_emb (w : S64x1024.Idx → α) {off : Fin 2 → ℕ} {q : ℕ} (hoff : off = ![qoff q, 0]) (inb) (x : S64x1024.Idx) :
    spreadQ w ((Rect.unit (s := S256x1024) off S64x1024.size inb).emb x) = w x := by
  obtain ⟨h0, h1⟩ := emb_unit2 hoff inb x
  have hx : (x 0).val < 64 := (x 0).isLt
  unfold spreadQ
  refine congrArg w ((congrArg₂ ix2 (Fin.ext ?_) (Fin.ext ?_)).trans (eq_ix2 x).symm)
  · show (((Rect.unit (s := S256x1024) off S64x1024.size inb).emb x 0 : Fin _) : ℕ) % 64 = (x 0).val
    rw [h0]; show (64 * q + _) % 64 = _; omega
  · exact h1.trans (Nat.zero_add _)

theorem spreadS_emb (w : S16x1024.Idx → α) {off : Fin 2 → ℕ} {q z : ℕ} (hoff : off = ![soff q z, 0]) (inb) (x : S16x1024.Idx) :
    spreadS w ((Rect.unit (s := S256x1024) off S16x1024.size inb).emb x) = w x := by
  obtain ⟨h0, h1⟩ := emb_unit2 hoff inb x
  have hx : (x 0).val < 16 := (x 0).isLt
  unfold spreadS
  refine congrArg w ((congrArg₂ ix2 (Fin.ext ?_) (Fin.ext ?_)).trans (eq_ix2 x).symm)
  · show (((Rect.unit (s := S256x1024) off S16x1024.size inb).emb x 0 : Fin _) : ℕ) % 16 = (x 0).val
    rw [h0]; show (64 * q + 16 * z + _) % 16 = _; omega
  · exact h1.trans (Nat.zero_add _)

/-- A sixteenth read from contents that repeat a quarter. -/
theorem spreadQ_emb16 (w : S64x1024.Idx → α) {off : Fin 2 → ℕ} {q z : ℕ} (hoff : off = ![soff q z, 0]) (inb) (x : S16x1024.Idx) :
    spreadQ w ((Rect.unit (s := S256x1024) off S16x1024.size inb).emb x) = sixteenthOf w z x := by
  obtain ⟨h0, h1⟩ := emb_unit2 hoff inb x
  unfold spreadQ sixteenthOf
  refine congrArg w (congrArg₂ ix2 (Fin.ext ?_) (Fin.ext ?_))
  · show (((Rect.unit (s := S256x1024) off S16x1024.size inb).emb x 0 : Fin _) : ℕ) % 64 = (16 * z + (x 0).val) % 64
    rw [h0]; show (64 * q + 16 * z + _) % 64 = _; omega
  · exact h1.trans (Nat.zero_add _)

theorem quarterOf_emb (f : S256x1024.Idx → α) {off : Fin 2 → ℕ} {q : ℕ} (hq : q < 4) (hoff : off = ![qoff q, 0]) (inb) (x : S64x1024.Idx) :
    f ((Rect.unit (s := S256x1024) off S64x1024.size inb).emb x) = quarterOf f q x := by
  obtain ⟨h0, h1⟩ := emb_unit2 hoff inb x
  have hx : (x 0).val < 64 := (x 0).isLt
  unfold quarterOf
  refine congrArg f ((eq_ix2 _).trans (congrArg₂ ix2 (Fin.ext ?_) (Fin.ext ?_)))
  · show (((Rect.unit (s := S256x1024) off S64x1024.size inb).emb x 0 : Fin _) : ℕ) = (qoff q + (x 0).val) % 256
    rw [h0]; show 64 * q + _ = (64 * q + _) % 256; omega
  · exact h1.trans (Nat.zero_add _)

theorem colsOf_emb (f : S1024x4096.Idx → α) {off : Fin 2 → ℕ} {c : ℕ} (hc : c < 16) (hoff : off = ![0, 256 * c]) (inb) (x : S1024x256.Idx) :
    f ((Rect.unit (s := S1024x4096) off S1024x256.size inb).emb x) = colsOf f c x := by
  obtain ⟨h0, h1⟩ := emb_unit2 hoff inb x
  have hx : (x 1).val < 256 := (x 1).isLt
  unfold colsOf
  refine congrArg f ((eq_ix2 _).trans (congrArg₂ ix2 (Fin.ext ?_) (Fin.ext ?_)))
  · exact h0.trans (Nat.zero_add _)
  · show (((Rect.unit (s := S1024x4096) off S1024x256.size inb).emb x 1 : Fin _) : ℕ) = (256 * c + (x 1).val) % 4096
    rw [h1]; omega

theorem emb_slotA {off : Fin 3 → ℕ} {o : ℕ} (hoff : off = ![o, 0, 0]) (inb) (y : S1x64x1024.Idx) :
    (((Rect.unit (s := S4x64x1024) off S1x64x1024.size inb).emb y 1 : Fin _) : ℕ) = (y 1).val
      ∧ (((Rect.unit (s := S4x64x1024) off S1x64x1024.size inb).emb y 2 : Fin _) : ℕ) = (y 2).val := by
  subst hoff
  exact ⟨(ValueKit.rect_emb_unit_val (s := S4x64x1024) _ _ inb y 1).trans (Nat.zero_add _), (ValueKit.rect_emb_unit_val (s := S4x64x1024) _ _ inb y 2).trans (Nat.zero_add _)⟩

theorem emb_slotB {off : Fin 3 → ℕ} {o : ℕ} (hoff : off = ![o, 0, 0]) (inb) (y : S1x16x1024.Idx) :
    (((Rect.unit (s := S4x16x1024) off S1x16x1024.size inb).emb y 1 : Fin _) : ℕ) = (y 1).val
      ∧ (((Rect.unit (s := S4x16x1024) off S1x16x1024.size inb).emb y 2 : Fin _) : ℕ) = (y 2).val := by
  subst hoff
  exact ⟨(ValueKit.rect_emb_unit_val (s := S4x16x1024) _ _ inb y 1).trans (Nat.zero_add _), (ValueKit.rect_emb_unit_val (s := S4x16x1024) _ _ inb y 2).trans (Nat.zero_add _)⟩

theorem spreadA_emb (w : S64x1024.Idx → α) {off : Fin 3 → ℕ} {o : ℕ} (hoff : off = ![o, 0, 0]) (inb) (y : S1x64x1024.Idx) :
    spreadA w ((Rect.unit (s := S4x64x1024) off S1x64x1024.size inb).emb y) = liftA w y := by
  obtain ⟨h1, h2⟩ := emb_slotA hoff inb y
  exact congrArg w (congrArg₂ ix2 (Fin.ext h1) (Fin.ext h2))

theorem spreadB_emb (w : S16x1024.Idx → α) {off : Fin 3 → ℕ} {o : ℕ} (hoff : off = ![o, 0, 0]) (inb) (y : S1x16x1024.Idx) :
    spreadB w ((Rect.unit (s := S4x16x1024) off S1x16x1024.size inb).emb y) = liftB w y := by
  obtain ⟨h1, h2⟩ := emb_slotB hoff inb y
  exact congrArg w (congrArg₂ ix2 (Fin.ext h1) (Fin.ext h2))

theorem liftA_reshape (w : S64x1024.Idx → α) (h : S64x1024.numel = S1x64x1024.numel) (x : S64x1024.Idx) :
    liftA w (Shape.reshapeEquiv h x) = w x := by
  obtain ⟨a, b, rfl⟩ : ∃ a b, x = ix2 a b := ⟨_, _, eq_ix2 x⟩
  rw [reshapeEquiv_ix2_1ab h a b]; rfl

theorem liftB_reshape (w : S16x1024.Idx → α) (h : S16x1024.numel = S1x16x1024.numel) (x : S16x1024.Idx) :
    liftB w (Shape.reshapeEquiv h x) = w x := by
  obtain ⟨a, b, rfl⟩ : ∃ a b, x = ix2 a b := ⟨_, _, eq_ix2 x⟩
  rw [reshapeEquiv_ix2_1ab h a b]; rfl

end ReadBack

end Cert.KernelIdealProof

end
-- ==== Proof.KernelIdealSched.lean ====
/-
# `KernelIdealSched`: what every device computes, and the schedule of the kernel's semaphores

The values the kernel's run goes through on each device, as functions of the memory at launch: the attention of its two
groups of heads, its partial products, the two rounds of sums over its plane and across the planes, and the final rows
every device ends with. Then the 30 semaphores of a device as cells with one round each — who raises them, by how much,
and which parts of which buffers, at which contents, the raise hands over — with what each device owes at launch and the
levels that order the waits.
-/
module

public import proofs.«01_k».proof.Proof.KernelIdealMesh

@[expose] public section

noncomputable section

namespace Cert.KernelIdealProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline library's and the exchange's, whose duties are the six partners. -/
abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- The contents of argument `b` on device `c`. -/
abbrev at_ (c : Dev nD) (b : Ref sig .tc) : Buf (Elt F) ((c : Thread nD τ).loc b) := m ((c : Thread nD τ).loc b)

/-- The staged `x`. -/
def xstg (c : Dev nD) : (cc0_stg0_0 : Ref sig .tc).ty.Contents (Elt F) :=
  (win0_0.blk (0 : Fin 1)).view.read (Elt F) (at_ m c main_arg0)
/-- Device `c`'s blocks of columns of the key and value weights. -/
def wkOf (c : Dev nD) : FVec F S1024x256 .f32 := colsOf (at_ m c main_arg2) c.val
def wvOf (c : Dev nD) : FVec F S1024x256 .f32 := colsOf (at_ m c main_arg3) c.val
/-- Queries, keys and values. -/
def qOf (c : Dev nD) : FVec F S256x1024 .f32 := k0_pay2 (xstg m c) (at_ m c main_arg1)
def kOf (c : Dev nD) : FVec F S256x256 .bf16 := k0_pay3 (xstg m c) (wkOf m c)
def vOf (c : Dev nD) : FVec F S256x256 .bf16 := k0_pay4 (xstg m c) (wvOf m c)

/-- The attention of eight heads from queries, keys and values. -/
def attnOf (q : FVec F S256x1024 .f32) (k v : FVec F S256x256 .bf16) : FVec F S256x1024 .bf16 :=
  k0_pay16 (k0_pay15 k v (k0_pay5 q) (k0_pay6 q k v) (k0_pay7 q k v) (k0_pay10 (k0_pay8 v) (k0_pay9 q k))
    (k0_pay11 k v (k0_pay5 q)) (k0_pay12 k v (k0_pay5 q)) (k0_pay13 v) (k0_pay14 k (k0_pay5 q)))
def attn (c : Dev nD) : FVec F S256x1024 .bf16 := attnOf (qOf m c) (kOf m c) (vOf m c)

/-- The output weights in the product's format. -/
def wo (c : Dev nD) : FVec F S1024x1024 .bf16 := k0_pay17 (at_ m c main_arg4)
/-- Device `c`'s product for quarter `q`, as it sends it, and as it keeps its own. -/
def part (c : Dev nD) (q : ℕ) : FVec F S64x1024 .bf16 := k0_pay18 (wo m c) (quarterOf (attn m c) q)
def own (c : Dev nD) : FVec F S64x1024 .f32 := k0_pay21 (wo m c) (quarterOf (attn m c) (rr c))
/-- The first sum: the own quarter over the plane. -/
def red1 (c : Dev nD) : FVec F S64x1024 .f32 :=
  k0_pay22 (own m c) (liftA (part m (P 0 c) (rr c))) (liftA (part m (P 1 c) (rr c))) (liftA (part m (P 2 c) (rr c)))
/-- A sixteenth of it, as sent across the planes. -/
def sub (c : Dev nD) (z : ℕ) : FVec F S16x1024 .bf16 := k0_pay23 (sixteenthOf (red1 m c) z)
/-- The second sum: the own sixteenth over the planes. -/
def red2 (c : Dev nD) : FVec F S16x1024 .f32 :=
  k0_pay27 (sixteenthOf (red1 m c) (zz c)) (liftB (sub m (P 3 c) (zz c))) (liftB (sub m (P 4 c) (zz c))) (liftB (sub m (P 5 c) (zz c)))
def fin16 (c : Dev nD) : FVec F S16x1024 .bf16 := k0_pay28 (red2 m c)

/-- The device that finishes row `i`. -/
def rowDev (i : ℕ) : Dev nD := ⟨(i / 64 + 4 * (i % 64 / 16)) % 16, Nat.mod_lt _ (by decide)⟩
/-- The final rows. -/
def FIN : FVec F S256x1024 .bf16 := fun i => spreadS (fin16 m (rowDev (i 0).val)) i
def outAt : FVec F S256x1024 .f32 := k0_pay29 (FIN m)

theorem rowDev_of_mem {c : Dev nD} {i : S256x1024.Idx} (h : i ∈ sixteenth (rr c) (zz c)) : rowDev (i 0).val = c := by
  rw [mem_rows] at h
  have hc : c.val < 16 := c.isLt
  change 64 * (c.val % 4) + 16 * (c.val / 4) ≤ (i 0).val ∧ (i 0).val < 64 * (c.val % 4) + 16 * (c.val / 4) + 16 at h
  refine Fin.ext ?_
  show ((i 0).val / 64 + 4 * ((i 0).val % 64 / 16)) % 16 = c.val
  generalize c.val = n at h hc ⊢
  generalize (i 0).val = a at h ⊢
  have hd : n / 4 ≤ 3 := by omega
  have h2 : a / 64 = n % 4 := by omega
  have h3 : a % 64 / 16 = n / 4 := by omega
  rw [h2, h3]; omega

theorem FIN_eq_on (c : Dev nD) : ∀ i ∈ sixteenth (rr c) (zz c), spreadS (fin16 m c) i = FIN m i := fun i hi => by
  unfold FIN; rw [rowDev_of_mem hi]

/-! ## The cells -/

/-- A device's cells: the runtime's barrier semaphore, the second barrier, the send and receive semaphores of the four
    phases, the semaphores of the four copies of weights. -/
inductive Cix | bar | bar2 | snd (p : Fin 4) (i : Fin 3) | rcv (p : Fin 4) (i : Fin 3) | cp (i : Fin 4)
  deriving DecidableEq

/-- All of them, in the order barrier, second barrier, sends, receives, copies. -/
def cells30 : List Cix :=
  [.bar, .bar2, .snd 0 0, .snd 0 1, .snd 0 2, .snd 1 0, .snd 1 1, .snd 1 2, .snd 2 0, .snd 2 1, .snd 2 2, .snd 3 0, .snd 3 1, .snd 3 2,
   .rcv 0 0, .rcv 0 1, .rcv 0 2, .rcv 1 0, .rcv 1 1, .rcv 1 2, .rcv 2 0, .rcv 2 1, .rcv 2 2, .rcv 3 0, .rcv 3 1, .rcv 3 2,
   .cp 0, .cp 1, .cp 2, .cp 3]

instance : Fintype Cix := ⟨⟨(cells30 : Multiset Cix), by decide⟩, fun k => by
  cases k with
  | bar => decide
  | bar2 => decide
  | snd p i => fin_cases p <;> fin_cases i <;> decide
  | rcv p i => fin_cases p <;> fin_cases i <;> decide
  | cp i => fin_cases i <;> decide⟩

abbrev barS : Sem sig := (SemArray.scalar (sig.barrier 0 rfl) : Sems sig S_).sem
abbrev bar2S : Sem sig := (cc0_scoped0 : Sems sig S_).sem

def csem : Cix → SemLoc sig
  | .bar => .reg barS
  | .bar2 => .reg bar2S
  | .snd p i => .dma (⟨6 + (3 * p.val + i.val), by omega⟩ : Fin 30)
  | .rcv p i => .dma (⟨18 + (3 * p.val + i.val), by omega⟩ : Fin 30)
  | .cp i => .dma (⟨2 + i.val, by omega⟩ : Fin 30)

/-- Which cell a semaphore is. -/
def cix : SemLoc sig → Option Cix
  | .reg s => if s = barS then some .bar else some .bar2
  | .dma q =>
    if (q : Fin 30).val < 2 then none
    else if (q : Fin 30).val < 6 then some (.cp ⟨((q : Fin 30).val - 2) % 4, Nat.mod_lt _ (by decide)⟩)
    else if (q : Fin 30).val < 18 then some (.snd ⟨((q : Fin 30).val - 6) / 3 % 4, Nat.mod_lt _ (by decide)⟩ ⟨((q : Fin 30).val - 6) % 3, Nat.mod_lt _ (by decide)⟩)
    else some (.rcv ⟨((q : Fin 30).val - 18) / 3 % 4, Nat.mod_lt _ (by decide)⟩ ⟨((q : Fin 30).val - 18) % 3, Nat.mod_lt _ (by decide)⟩)

theorem cix_csem : ∀ k : Cix, cix (csem k) = some k := by decide +kernel

abbrev kcell (ck : Dev nD × Cix) : GSem nD τ sig := ((ck.1 : Thread nD τ), csem ck.2)

theorem csem_injective : Function.Injective csem := fun k k' h => by
  have := congrArg cix h; rw [cix_csem, cix_csem] at this; exact Option.some.inj this

theorem kcell_injective : Function.Injective (kcell : Dev nD × Cix → GSem nD τ sig) := by
  rintro ⟨c, k⟩ ⟨c', k'⟩ h
  have h1 : c = c' := by have := congrArg (fun g : GSem nD τ sig => g.1.1) h; exact this
  exact Prod.ext h1 (csem_injective (congrArg Prod.snd h))

/-! ## Amounts -/

abbrev tmpA : Memref sig .tc .vmem S4x64x1024 .bf16 := Memref.whole cc0_scratch6
abbrev tmpB : Memref sig .tc .vmem S4x16x1024 .bf16 := Memref.whole cc0_scratch7
abbrev outb : Memref sig .tc .vmem S256x1024 .bf16 := Memref.whole cc0_scratch5
abbrev slotAM (o : ℕ) (inb : ∀ a, (![o, 0, 0] : Fin 3 → ℕ) a + S1x64x1024.size a ≤ S4x64x1024.size a) : Memref sig .tc .vmem S64x1024 .bf16 :=
  (tmpA.slice (Rect.unit (s := S4x64x1024) ![o, 0, 0] S1x64x1024.size inb) (fun _ => rfl)).squeeze S64x1024 squeezes_S1x64x1024_S64x1024
abbrev slotBM (o : ℕ) (inb : ∀ a, (![o, 0, 0] : Fin 3 → ℕ) a + S1x16x1024.size a ≤ S4x16x1024.size a) : Memref sig .tc .vmem S16x1024 .bf16 :=
  (tmpB.slice (Rect.unit (s := S4x16x1024) ![o, 0, 0] S1x16x1024.size inb) (fun _ => rfl)).squeeze S16x1024 squeezes_S1x16x1024_S16x1024
abbrev rowsM64 (off : Fin 2 → ℕ) (inb : ∀ a, off a + S64x1024.size a ≤ S256x1024.size a) : Memref sig .tc .vmem S64x1024 .bf16 := outb.slice (Rect.unit (s := S256x1024) off S64x1024.size inb) (fun _ => rfl)
abbrev rowsM16 (off : Fin 2 → ℕ) (inb : ∀ a, off a + S16x1024.size a ≤ S256x1024.size a) : Memref sig .tc .vmem S16x1024 .bf16 := outb.slice (Rect.unit (s := S256x1024) off S16x1024.size inb) (fun _ => rfl)

/-- The units a cell's semaphore gets from one raise. -/
def amt : Cix → ℕ
  | .bar => 1
  | .bar2 => 1
  | .snd 0 _ | .rcv 0 _ => (slotAM 1 inb_S4x64x1024_S1x64x1024_1_0_0).view.dmaCredit
  | .snd 1 _ | .rcv 1 _ => (slotBM 1 inb_S4x16x1024_S1x16x1024_1_0_0).view.dmaCredit
  | .snd 2 _ | .rcv 2 _ => (rowsM16 (k0_off8 0) (k0_off8_inb 0)).view.dmaCredit
  | .snd 3 _ | .rcv 3 _ => (rowsM64 (k0_off9 0) (k0_off9_inb 0)).view.dmaCredit
  | .cp 0 => (Memref.whole cc0_scratch1 : Memref sig .tc .vmem S1024x1024 .f32).view.dmaCredit
  | .cp 1 => (Memref.whole cc0_scratch2 : Memref sig .tc .vmem S1024x1024 .f32).view.dmaCredit
  | .cp 2 => (Memref.whole cc0_scratch3 : Memref sig .tc .vmem S1024x256 .f32).view.dmaCredit
  | .cp 3 => (Memref.whole cc0_scratch4 : Memref sig .tc .vmem S1024x256 .f32).view.dmaCredit

theorem amt_pos (k : Cix) : 0 < amt k := by
  cases k with
  | bar => exact Nat.one_pos
  | bar2 => exact Nat.one_pos
  | snd p i => fin_cases p <;> exact View.dmaCredit_pos _ (by decide)
  | rcv p i => fin_cases p <;> exact View.dmaCredit_pos _ (by decide)
  | cp i => fin_cases i <;> exact View.dmaCredit_pos _ (by decide)

/-! ## Payloads -/

/-- Elements `S` of buffer `b` of device `c` at contents `f`. -/
abbrev pts (c : Dev nD) (b : Ref sig .tc) (S : Finset ((c : Thread nD τ).loc b).ty.shape.Idx) (q : PosShare TreeShare)
    (f : Buf (Elt F) ((c : Thread nD τ).loc b)) : sProp 𝕄 := iprop(((c : Thread nD τ).loc b) ↦[S]{q} f)

/-- The partner number of the `i`-th transfer of phase `p`: in the plane in phases 0 and 3, across planes in 1 and 2. -/
def kp : Fin 4 → Fin 3 → Fin 6
  | 0, i | 3, i => i.castLE (by decide)
  | 1, i | 2, i => i.natAdd 3

theorem kp_rev : ∀ (p : Fin 4) (i : Fin 3) (c : Dev nD), P (kp p i.rev) (P (kp p i) c) = c := by decide +kernel
theorem kp_rev' : ∀ (p : Fin 4) (i : Fin 3) (c : Dev nD), P (kp p i) (P (kp p i.rev) c) = c := by decide +kernel

/-- The three shares in which the final rows are read by three transfers. -/
def sh : Fin 3 → PosShare TreeShare := ![fullShare.left, fullShare.right.left, fullShare.right.right]

/-- The landing slots device `c` may write once its barrier is raised by the partner of duty `d`. -/
def barPay (c : Dev nD) (d : Fin 6) : sProp 𝕄 :=
  if d.val < 3 then iprop(∃ f, pts (F := F) (P (kinv d) c) cc0_scratch6 (slotA (d.val + 1)) fullShare f)
  else iprop(∃ f, pts (F := F) (P (kinv d) c) cc0_scratch7 (slotB (d.val - 2)) fullShare f)

def sndPay (c : Dev nD) : Fin 4 → Fin 3 → sProp 𝕄
  | 0, _ => iprop(emp)
  | 1, _ => iprop(emp)
  | 2, i => pts c cc0_scratch5 (sixteenth (rr c) (zz c)) (sh i) (FIN m)
  | 3, i => pts c cc0_scratch5 (quarter (rr c)) (sh i) (FIN m)

def rcvPay (c : Dev nD) : Fin 4 → Fin 3 → sProp 𝕄
  | 0, i => iprop(pts c cc0_scratch6 (slotA (i.val + 1)) fullShare (spreadA (part m (P (kp 0 i) c) (rr c)))
      ∗ ∃ f, pts (F := F) (P (kp 0 i) c) cc0_scratch5 (quarter (rr c)) fullShare f)
  | 1, i => iprop(pts c cc0_scratch7 (slotB (i.val + 1)) fullShare (spreadB (sub m (P (kp 1 i) c) (zz c)))
      ∗ ∃ f, pts (F := F) (P (kp 1 i) c) cc0_scratch5 (sixteenth (rr c) (zz c)) fullShare f)
  | 2, i => pts c cc0_scratch5 (sixteenth (rr c) (zz (P (kp 2 i) c))) fullShare (FIN m)
  | 3, i => pts c cc0_scratch5 (quarter (rr (P (kp 3 i) c))) fullShare (FIN m)

def cpPay (c : Dev nD) : Fin 4 → sProp 𝕄
  | 0 => iprop(pts c cc0_scratch1 Finset.univ fullShare (at_ m c main_arg1) ∗ pts c main_arg1 Finset.univ fullShare (at_ m c main_arg1))
  | 1 => iprop(pts c cc0_scratch2 Finset.univ fullShare (at_ m c main_arg4) ∗ pts c main_arg4 Finset.univ fullShare (at_ m c main_arg4))
  | 2 => iprop(pts c cc0_scratch3 Finset.univ fullShare (wkOf m c) ∗ pts c main_arg2 (colsK c.val) fullShare (at_ m c main_arg2))
  | 3 => iprop(pts c cc0_scratch4 Finset.univ fullShare (wvOf m c) ∗ pts c main_arg3 (colsK c.val) fullShare (at_ m c main_arg3))

def Pay (c : Dev nD) : Cix → Fin 6 → sProp 𝕄
  | .bar, d => barPay c d
  | .bar2, _ => iprop(emp)
  | .snd p i, _ => sndPay m c p i
  | .rcv p i, _ => rcvPay m c p i
  | .cp i, _ => cpPay m c i

/-- The duties of a cell: the six partners on a barrier, one elsewhere. -/
def dut : Cix → Finset (Fin 6)
  | .bar | .bar2 => Finset.univ
  | _ => {0}

/-! ## The schedule -/

def ringRd : Rounds.Schedule (GSem nD τ sig) (Fin 6) 𝕄 where
  duties g r := if r = 0 ∧ g.1.2 = .tc then (match cix g.2 with | none => ∅ | some k => dut k) else ∅
  unitless _ := False
  amount g _ _ := match cix g.2 with | none => 1 | some k => amt k
  payload g _ d := match cix g.2 with | none => iprop(emp) | some k => Pay m g.1.1 k d
  amount_pos g _ _ _ := by
    cases cix g.2 with
    | none => exact Nat.one_pos
    | some k => exact amt_pos k

instance Pay_storable (c : Dev nD) (k : Cix) (d : Fin 6) : BI.Storable (upEmb : UEmb _ 𝕄) (Pay (F := F) m c k d) := by
  cases k with
  | bar => show BI.Storable upEmb (barPay c d); unfold barPay; split <;> infer_instance
  | bar2 => show BI.Storable upEmb iprop(emp); infer_instance
  | snd p i => show BI.Storable upEmb (sndPay m c p i); fin_cases p <;> (dsimp only [sndPay]; infer_instance)
  | rcv p i => show BI.Storable upEmb (rcvPay m c p i); fin_cases p <;> (dsimp only [rcvPay]; infer_instance)
  | cp i => show BI.Storable upEmb (cpPay m c i); fin_cases i <;> (dsimp only [cpPay]; infer_instance)

instance ringRd_payload_storable (g : GSem nD τ sig) (r : ℕ) (d : Fin 6) :
    BI.Storable (upEmb : UEmb _ 𝕄) ((ringRd (F := F) m).payload g r d) := by
  show BI.Storable upEmb (match cix g.2 with | none => iprop(emp) | some k => Pay m g.1.1 k d)
  cases cix g.2 with
  | none => show BI.Storable upEmb iprop(emp); infer_instance
  | some k => exact Pay_storable m g.1.1 k d

theorem duties_eq (c : Dev nD) (k : Cix) : (ringRd (F := F) m).duties (kcell (c, k)) 0 = dut k := by
  show (if (0 : ℕ) = 0 ∧ (kcell (c, k)).1.2 = .tc then (match cix (csem k) with | none => ∅ | some k => dut k) else ∅) = _
  rw [cix_csem]; exact if_pos ⟨rfl, rfl⟩
theorem duties_later (g : GSem nD τ sig) : ∀ r, 1 ≤ r → (ringRd (F := F) m).duties g r = ∅ :=
  fun r hr => if_neg fun h => by omega
theorem amount_eq (c : Dev nD) (k : Cix) (d : Fin 6) : (ringRd (F := F) m).amount (kcell (c, k)) 0 d = amt k := by
  show (match cix (csem k) with | none => 1 | some k => amt k) = _; rw [cix_csem]
theorem payload_eq (c : Dev nD) (k : Cix) (d : Fin 6) : (ringRd (F := F) m).payload (kcell (c, k)) 0 d = Pay m c k d := by
  show (match cix (csem k) with | none => iprop(emp) | some k => Pay m c k d) = _; rw [cix_csem]

/-- What a cell's round amounts to. -/
def tot : Cix → ℕ
  | .bar | .bar2 => 6
  | k => amt k

theorem expect_eq (c : Dev nD) (k : Cix) : (ringRd (F := F) m).expect (kcell (c, k)) 0 = tot k := by
  unfold Schedule.expect Schedule.amountOf
  rw [duties_eq, Finset.sum_congr rfl fun d _ => amount_eq m c k d]
  cases k <;> rfl

/-- What a cell's round hands its owner. -/
def rest (c : Dev nD) : Cix → sProp 𝕄
  | .bar => iprop(barPay c 0 ∗ barPay c 1 ∗ barPay c 2 ∗ barPay c 3 ∗ barPay c 4 ∗ barPay c 5)
  | .bar2 => iprop(emp)
  | .snd p i => sndPay m c p i
  | .rcv p i => rcvPay m c p i
  | .cp i => cpPay m c i

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem rest_eq (c : Dev nD) (k : Cix) :
    (bigSep ((ringRd (F := F) m).duties (kcell (c, k)) 0 \ ∅) fun d => (ringRd (F := F) m).payload (kcell (c, k)) 0 d) ⊢ rest m c k := by
  rw [Finset.sdiff_empty, duties_eq, bigSep_congr fun d _ => payload_eq m c k d]
  cases k with
  | bar => show bigSep Finset.univ _ ⊢ _; rw [bigSep_fin6]; exact BI.Entails.refl _
  | bar2 => iintro -; unfold rest; iempintro
  | snd p i => show bigSep {0} _ ⊢ _; rw [bigSep_singleton]; exact BI.Entails.refl _
  | rcv p i => show bigSep {0} _ ⊢ _; rw [bigSep_singleton]; exact BI.Entails.refl _
  | cp i => show bigSep {0} _ ⊢ _; rw [bigSep_singleton]; exact BI.Entails.refl _

/-! ## What is owed at launch, and the levels -/

/-- What device `c` raises on other devices' cells, in program order. -/
def pays (c : Dev nD) : List (GSem nD τ sig × ℕ) :=
  [(kcell (P 0 c, .bar), 1), (kcell (P 1 c, .bar), 1), (kcell (P 2 c, .bar), 1), (kcell (P 3 c, .bar), 1), (kcell (P 4 c, .bar), 1), (kcell (P 5 c, .bar), 1),
   (kcell (P (kp 0 0) c, .rcv 0 2), amt (.rcv 0 2)), (kcell (P (kp 0 1) c, .rcv 0 1), amt (.rcv 0 1)), (kcell (P (kp 0 2) c, .rcv 0 0), amt (.rcv 0 0)),
   (kcell (P (kp 1 0) c, .rcv 1 2), amt (.rcv 1 2)), (kcell (P (kp 1 1) c, .rcv 1 1), amt (.rcv 1 1)), (kcell (P (kp 1 2) c, .rcv 1 0), amt (.rcv 1 0)),
   (kcell (P (kp 2 0) c, .rcv 2 2), amt (.rcv 2 2)), (kcell (P (kp 2 1) c, .rcv 2 1), amt (.rcv 2 1)), (kcell (P (kp 2 2) c, .rcv 2 0), amt (.rcv 2 0)),
   (kcell (P (kp 3 0) c, .rcv 3 2), amt (.rcv 3 2)), (kcell (P (kp 3 1) c, .rcv 3 1), amt (.rcv 3 1)), (kcell (P (kp 3 2) c, .rcv 3 0), amt (.rcv 3 0)),
   (kcell (P 0 c, .bar2), 1), (kcell (P 1 c, .bar2), 1), (kcell (P 2 c, .bar2), 1), (kcell (P 3 c, .bar2), 1), (kcell (P 4 c, .bar2), 1), (kcell (P 5 c, .bar2), 1)]

def Orem (l : List (GSem nD τ sig × ℕ)) : CellTallies nD τ sig Unit := l.foldr (fun x acc => acc + tallyAt x.1 () x.2) 0
def O₀ (c : Dev nD) : CellTallies nD τ sig Unit := Orem (pays c)

theorem Orem_pos {l : List (GSem nD τ sig × ℕ)} {g : GSem nD τ sig} {u : Unit} (h : 0 < Orem l g u) : ∃ x ∈ l, g = x.1 := by
  induction l with
  | nil => exact absurd h (Nat.lt_irrefl 0)
  | cons x l ih =>
    change 0 < (Orem l + tallyAt x.1 () x.2) g u at h
    rw [Pi.add_apply, Finsupp.add_apply, tallyAt_apply] at h
    by_cases hx : g = x.1 ∧ u = ()
    · exact ⟨x, List.mem_cons_self, hx.1⟩
    · rw [if_neg hx, Nat.add_zero] at h
      obtain ⟨y, hy, hg⟩ := ih h
      exact ⟨y, List.mem_cons_of_mem _ hy, hg⟩

def L (g : GSem nD τ sig) : Finset Unit := if g.1.2 = .tc then {()} else ∅
/-- The level of a semaphore: the barrier, then the receives phase by phase, then the second barrier; the rest below. -/
def lvS (s : SemLoc sig) : ℕ := match cix s with
  | some .bar => 1 | some (.rcv p _) => 2 + p.val | some .bar2 => 6 | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- A device may wait on a semaphore below everything it still owes. -/
theorem mayWait (c : Dev nD) (s : SemLoc sig) (l : List (GSem nD τ sig × ℕ)) (h : ∀ x ∈ l, x.1.1.2 = .tc ∧ lvS s < lvS x.1.2) :
    (levAts L lv : sProp 𝕄) ⊢ MayWait (c : Thread nD τ) s () (Orem l) :=
  MayOwe.of_cut (L := L) (lev := lv) (lvS s) (fun p hp => by rw [Finset.mem_singleton.mp hp, L_tc]; exact Finset.mem_singleton_self _)
    (fun g u hg => by obtain ⟨x, hx, rfl⟩ := Orem_pos hg; unfold L; rw [if_pos (h x hx).1]; exact Finset.mem_singleton_self _)
    (fun p hp => by rw [Finset.mem_singleton.mp hp]; exact le_refl _)
    (fun g u hg => by obtain ⟨x, hx, rfl⟩ := Orem_pos hg; exact (h x hx).2)

end Cert.KernelIdealProof

end
-- ==== Proof.KernelIdealSteps.lean ====
/-
# `KernelIdealSteps`: one operation of the kernel at a time

The rules for the kernel's operations, said once for the schedule of `KernelIdealSched`: raising a partner's barrier,
waiting on one of the device's own cells, sending to a partner, copying a block of weights, and loads and stores of a
rectangle of a buffer, at the contents those give. A device's debts are counted by how many of its 24 raises are done.
-/
module

public import proofs.«01_k».proof.Proof.KernelIdealSched

@[expose] public section

noncomputable section

namespace Cert.KernelIdealProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cix → ℕ)

abbrev 𝒱₀ : Variants := Variants.none

/-- The run of a program on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Records, debts -/

/-- All cells' invariants, and that each has reached its round. -/
def recs : sProp 𝕄 :=
  bigSep Finset.univ fun ck : Dev nD × Cix => iprop(cellInv ER (ringRd m) (K ck) (kcell ck) ∗ reached ER (kcell ck) 0)

instance recs_persistent : BI.Persistent (recs m K) := by unfold recs; infer_instance

theorem recs_at (ck : Dev nD × Cix) : recs m K ⊢ iprop(cellInv ER (ringRd m) (K ck) (kcell ck) ∗ reached ER (kcell ck) 0) :=
  bigSep_elim (Finset.mem_univ ck)

/-- What device `c` owes once `n` of its raises are done. -/
def ow (c : Dev nD) (n : ℕ) : sProp 𝕄 := iprop(∃ W, owes (c : Thread nD τ) (Orem ((pays c).drop n)) W)

abbrev lvls : sProp 𝕄 := levAts L lv
abbrev tok (c : Dev nD) (k : Cix) (d : Fin 6) : sProp 𝕄 := dutyTok ER (kcell (c, k)) 0 d
abbrev pos (c : Dev nD) (k : Cix) : sProp 𝕄 := atPos ER (kcell (c, k)) 0 ∅ 0
abbrev crd (c : Dev nD) (k : Cix) : sProp 𝕄 := cred (tallyAt (kcell (c, k)) () (tot k))
abbrev sv0 (c : Dev nD) (k : Cix) : sProp 𝕄 := semVal (kcell (c, k)) 0

variable {α : Type} {Q : α → sProp (MT nD τ sig Unit (Elt F) ℕ UU ℕ)} {kk : PUnit → Prog (TpuEff nD τ sig (Elt F) Λ₀ .tc) α}

/-! ## Barriers -/

theorem step_signal (c : Dev nD) (k : Fin 6) (b : Cix) (hb : b = .bar ∨ b = .bar2) {n : Dev nD} (hn : n = P k c) {s : Sem sig} (hs : csem b = .reg s)
    {z : ℤ} (hz : z = 1) (j : ℕ) (hj : (pays c).drop j = (kcell (P k c, b), 1) :: (pays c).drop (j + 1)) :
    iprop(recs m K ∗ ow c j ∗ tok (P k c) b k ∗ Pay m (P k c) b k)
      ⊢ iprop((ow c (j + 1) -∗ WP c (kk ⟨⟩) Q) -∗ WP c (.op (.semSignal (Dev.tc n) s z) kk) Q) := by
  subst hn hz
  have hk : kcell (P k c, b) = ((P k c : Thread nD τ), .reg s) := congrArg (Prod.mk _) hs
  have hd : k ∈ (ringRd (F := F) m).duties (kcell (P k c, b)) 0 := by
    rw [duties_eq]; rcases hb with rfl | rfl <;> exact Finset.mem_univ _
  have ha : (ringRd (F := F) m).amount (kcell (P k c, b)) 0 k = 1 := by
    rw [amount_eq]; rcases hb with rfl | rfl <;> rfl
  have hI := recs_at m K (P k c, b)
  have hp := payload_eq m (P k c) b k
  unfold ow tok
  rw [hj, ← hp]
  rw [hk] at *
  iintro ⟨#HR, ⟨%W, HO⟩, Ht, Hp⟩ Hk
  ihave HI := hI $$ HR
  icases HI with ⟨#HI, #Hr⟩
  iapply (Rounds.wp_signal 𝒱₀ ER (ringRd m) (c : Thread nD τ) none (dst := (P k c : Thread nD τ)) (κ := K (P k c, b))
      (d := k) (k' := 1) hd ha () (Orem ((pays c).drop (j + 1))) rfl (W := W)) $$ [HO Ht Hp]
  · isplitr; · iexact HI
    isplitl [HO]; · iexact HO
    isplitl [Ht]; · iexact Ht
    isplitl [Hp]; · iexact Hp
    iexact Hr
  iintro HO
  iapply Hk
  iexists W; iexact HO

/-! ## Waits -/

/-- A wait on one of the device's own cells for its whole round: the cell's payloads, and its counter at zero again. -/
theorem step_wait (c : Dev nD) (k : Cix) {w : TpuEff nD τ sig (Elt F) Λ₀ .tc PUnit} {a : ℕ}
    (hw : ∀ K' : PUnit → sProp 𝕄, wpE (defs₀ (F := F)) 𝒱₀ (c : Thread nD τ) none Set.univ w K' = waitSpec (c : Thread nD τ) Set.univ (csem k) a K') (ha : a = tot k)
    (j : ℕ) (hlev : ∀ x ∈ (pays c).drop j, x.1.1.2 = .tc ∧ lvS (csem k) < lvS x.1.2) :
    iprop(recs m K ∗ lvls ∗ crd c k ∗ ow c j ∗ pos c k)
      ⊢ iprop(((ow c j ∗ sv0 c k ∗ rest m c k) -∗ WP c (kk ⟨⟩) Q) -∗ WP c (.op w kk) Q) := by
  subst ha
  unfold ow
  iintro ⟨#HR, #Hl, Hc, ⟨%W, HO⟩, Ha⟩ Hk
  ihave HI := (recs_at m K (c, k)) $$ HR
  icases HI with ⟨#HI, #Hr⟩
  iapply (Rounds.wp_wait_rest_token 𝒱₀ ER (ringRd m) (c : Thread nD τ) none (κ := K (c, k)) (sm := csem k) hw (Set.mem_univ _) ()
      (O := Orem ((pays c).drop j)) (W := W) (R := 0) (m := 0) (T := ∅) (by rw [Nat.zero_add]; exact (expect_eq m c k).symm)) $$ [Hc HO Ha]
  · isplitr; · iexact HI
    isplitl [Hc]; · iexact Hc
    isplitl [HO]; · iexact HO
    isplitr; · iapply (mayWait c (csem k) _ hlev); iexact Hl
    iexact Ha
  iintro ⟨HO, Ha, -, Hp⟩
  ihave Hp := (rest_eq m c k) $$ Hp
  imod (Rounds.cell_close ER (ringRd m) (Set.mem_univ (K (c, k))) (fun h => h) (R := 0 + 1) (duties_later m (kcell (c, k)))) $$ [Ha] with Hz
  · isplitr; · iexact HI
    iexact Ha
  iapply Hk
  isplitl [HO]; · iexists _; iexact HO
  isplitl [Hz] <;> iassumption

theorem step_semwait (c : Dev nD) (k : Cix) {s : Sem sig} (hs : csem k = .reg s) {z : ℤ} (hz : z = 6) (ht : tot k = 6)
    (j : ℕ) (hlev : ∀ x ∈ (pays c).drop j, x.1.1.2 = .tc ∧ lvS (csem k) < lvS x.1.2) :
    iprop(recs m K ∗ lvls ∗ crd c k ∗ ow c j ∗ pos c k)
      ⊢ iprop(((ow c j ∗ sv0 c k ∗ rest m c k) -∗ WP c (kk ⟨⟩) Q) -∗ WP c (.op (.semWait s z) kk) Q) := by
  subst hz
  exact step_wait m K c k (w := .semWait s 6) (a := 6) (fun K' => by rw [hs]; exact wpE_semWait_eq 𝒱₀ (c : Thread nD τ) none Set.univ (k := 6) K') ht.symm j hlev

theorem step_dmawait (c : Dev nD) (k : Cix) {sp sp' : Space} {s : Shape} {e : EltTy} {src : Memref sig .tc sp s e} {dst : Memref sig .tc sp' s e} {q : DmaSem sig}
    (hq : csem k = .dma q) {h1 h2} (ht : dst.view.dmaCredit = tot k)
    (j : ℕ) (hlev : ∀ x ∈ (pays c).drop j, x.1.1.2 = .tc ∧ lvS (csem k) < lvS x.1.2) :
    iprop(recs m K ∗ lvls ∗ crd c k ∗ ow c j ∗ pos c k)
      ⊢ iprop(((ow c j ∗ sv0 c k ∗ rest m c k) -∗ WP c (kk ⟨⟩) Q) -∗ WP c (.op (.waitDma2 q src dst h1 h2) kk) Q) :=
  step_wait m K c k (w := .waitDma2 q src dst h1 h2) (a := dst.view.dmaCredit) (fun K' => by rw [hq]; exact wpE_waitDma2_eq 𝒱₀ (c : Thread nD τ) none Set.univ K') ht j hlev

/-! ## Transfers -/

theorem amt_snd (p : Fin 4) (i : Fin 3) : amt (.snd p i) = amt (.rcv p i.rev) := by fin_cases p <;> rfl

section Send
variable (c : Dev nD) (p : Fin 4) (i : Fin 3) {n : Dev nD} (hn : n = P (kp p i) c)
  {sp sp' : Space} {s : Shape} {e : EltTy} {src : Memref sig .tc sp s e} {dst : Memref sig .tc sp' s e}
  {sS sR : SemLoc sig} (hS : sS = csem (.snd p i)) (hR : sR = csem (.rcv p i.rev)) {hsc : dst.view.ref.isScScratch = false}
  {hsrc : src.view.WordExact} {hdst : dst.view.WordExact} {hsem : DmaTarget.Typed (nD := nD) sp sR (.remote (Dev.tc n : Thread nD τ) dst sS hsc)}
  {q : PosShare TreeShare} {fs : Buf (Elt F) (src.view.loc (c : Thread nD τ))} {fd : Buf (Elt F) (dst.view.loc (P (kp p i) c : Thread nD τ))}
  (hN : dst.view.dmaCredit = amt (.rcv p i.rev))
  (j : ℕ) (hj : (pays c).drop j = (kcell (P (kp p i) c, .rcv p i.rev), amt (.rcv p i.rev)) :: (pays c).drop (j + 1))

include hn hS hR hN hj

/-- A transfer to a partner, its source back with the send semaphore. -/
theorem step_send
    (hpay₁ : (src.view.loc (c : Thread nD τ) ↦[src.view.set]{q} fs) ⊢ sndPay m c p i)
    (hpay₂ : (dst.view.loc (P (kp p i) c : Thread nD τ) ↦[dst.view.set]{fullShare} (dst.view.write (Elt F) fd (src.view.read (Elt F) fs) Finset.univ))
      ⊢ rcvPay m (P (kp p i) c) p i.rev) :
    iprop(recs m K ∗ ow c j ∗ (src.view.loc (c : Thread nD τ) ↦[src.view.set]{q} fs) ∗ (dst.view.loc (P (kp p i) c : Thread nD τ) ↦[dst.view.set]{fullShare} fd)
        ∗ tok c (.snd p i) 0 ∗ tok (P (kp p i) c) (.rcv p i.rev) 0)
      ⊢ iprop(((ow c (j + 1) ∗ crd c (.snd p i)) -∗ WP c (kk ⟨⟩) Q)
          -∗ WP c (.op (.enqueueDma src (.remote (Dev.tc n : Thread nD τ) dst sS hsc) sR hsrc hdst hsem) kk) Q) := by
  subst hn hS hR
  unfold ow
  rw [hj]
  iintro ⟨#HR, ⟨%W, HO⟩, Hs, Hd, Ht, Ht'⟩ Hk
  ihave HI := (recs_at m K (c, .snd p i)) $$ HR
  icases HI with ⟨#HI, #Hr⟩
  ihave HI' := (recs_at m K (P (kp p i) c, .rcv p i.rev)) $$ HR
  icases HI' with ⟨#HI', #Hr'⟩
  iapply (Rounds.wp_send_pointsTo 𝒱₀ ER (ringRd m) (c : Thread nD τ) none (κ₁ := K (c, .snd p i)) (κ₂ := K (P (kp p i) c, .rcv p i.rev))
    (r₁ := 0) (r₂ := 0) (d₁ := 0) (d₂ := 0) (fd := fd)
    (by have := duties_eq (F := F) m c (.snd p i); rw [this]; exact Finset.mem_singleton_self _)
    (by have := duties_eq (F := F) m (P (kp p i) c) (.rcv p i.rev); rw [this]; exact Finset.mem_singleton_self _)
    () () (amt (.rcv p i.rev)) (show dst.view.amount (csem (.rcv p i.rev)) = _ from hN) ((amount_eq m c (.snd p i) 0).trans (amt_snd p i)) (amount_eq m (P (kp p i) c) (.rcv p i.rev) 0)
    (Orem ((pays c).drop (j + 1))) rfl (W := W)
    (by have := payload_eq m c (.snd p i) 0; rw [this]; exact hpay₁)
    (by have := payload_eq m (P (kp p i) c) (.rcv p i.rev) 0; rw [this]; exact hpay₂)) $$ [HO Hs Hd Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  iapply (Entails.of_eq (congrArg (fun a => cred (tallyAt (kcell (c, .snd p i)) () a)) (amt_snd p i).symm)); iexact Hc

/-- A transfer to a partner, its source going over with what lands. -/
theorem step_send_landing
    (hpay₁ : (emp : sProp 𝕄) ⊢ sndPay m c p i)
    (hpay₂ : iprop((dst.view.loc (P (kp p i) c : Thread nD τ) ↦[dst.view.set]{fullShare} (dst.view.write (Elt F) fd (src.view.read (Elt F) fs) Finset.univ))
        ∗ (src.view.loc (c : Thread nD τ) ↦[src.view.set]{q} fs))
      ⊢ rcvPay m (P (kp p i) c) p i.rev) :
    iprop(recs m K ∗ ow c j ∗ (src.view.loc (c : Thread nD τ) ↦[src.view.set]{q} fs) ∗ (dst.view.loc (P (kp p i) c : Thread nD τ) ↦[dst.view.set]{fullShare} fd)
        ∗ tok c (.snd p i) 0 ∗ tok (P (kp p i) c) (.rcv p i.rev) 0)
      ⊢ iprop(((ow c (j + 1) ∗ crd c (.snd p i)) -∗ WP c (kk ⟨⟩) Q)
          -∗ WP c (.op (.enqueueDma src (.remote (Dev.tc n : Thread nD τ) dst sS hsc) sR hsrc hdst hsem) kk) Q) := by
  subst hn hS hR
  unfold ow
  rw [hj]
  iintro ⟨#HR, ⟨%W, HO⟩, Hs, Hd, Ht, Ht'⟩ Hk
  ihave HI := (recs_at m K (c, .snd p i)) $$ HR
  icases HI with ⟨#HI, #Hr⟩
  ihave HI' := (recs_at m K (P (kp p i) c, .rcv p i.rev)) $$ HR
  icases HI' with ⟨#HI', #Hr'⟩
  iapply (Rounds.wp_send_landing_pointsTo 𝒱₀ ER (ringRd m) (c : Thread nD τ) none (κ₁ := K (c, .snd p i)) (κ₂ := K (P (kp p i) c, .rcv p i.rev))
    (r₁ := 0) (r₂ := 0) (d₁ := 0) (d₂ := 0) (fd := fd)
    (by have := duties_eq (F := F) m c (.snd p i); rw [this]; exact Finset.mem_singleton_self _)
    (by have := duties_eq (F := F) m (P (kp p i) c) (.rcv p i.rev); rw [this]; exact Finset.mem_singleton_self _)
    () () (amt (.rcv p i.rev)) (show dst.view.amount (csem (.rcv p i.rev)) = _ from hN) ((amount_eq m c (.snd p i) 0).trans (amt_snd p i)) (amount_eq m (P (kp p i) c) (.rcv p i.rev) 0)
    (Orem ((pays c).drop (j + 1))) rfl (W := W)
    (by have := payload_eq m c (.snd p i) 0; rw [this]; exact hpay₁)
    (by have := payload_eq m (P (kp p i) c) (.rcv p i.rev) 0; rw [this]; exact hpay₂)) $$ [HO Hs Hd Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  iapply (Entails.of_eq (congrArg (fun a => cred (tallyAt (kcell (c, .snd p i)) () a)) (amt_snd p i).symm)); iexact Hc

end Send

/-- A copy of weights into the device's own memory. -/
theorem step_copy (c : Dev nD) (i : Fin 4) {sp sp' : Space} {s : Shape} {e : EltTy} {src : Memref sig .tc sp s e} {dst : Memref sig .tc sp' s e}
    {sm : SemLoc sig} (hS : sm = csem (.cp i)) {hsrc : src.view.WordExact} {hdst : dst.view.WordExact}
    {hsem : DmaTarget.Typed sp sm (.here dst : DmaTarget nD τ sig .tc sp' s e)}
    {q : PosShare TreeShare} {fs : Buf (Elt F) (src.view.loc (c : Thread nD τ))} {fd : Buf (Elt F) (dst.view.loc (c : Thread nD τ))}
    (hN : dst.view.dmaCredit = amt (.cp i))
    (hpay : iprop((dst.view.loc (c : Thread nD τ) ↦[dst.view.set]{fullShare} (dst.view.write (Elt F) fd (src.view.read (Elt F) fs) Finset.univ))
        ∗ (src.view.loc (c : Thread nD τ) ↦[src.view.set]{q} fs)) ⊢ cpPay m c i) :
    iprop(recs m K ∗ (src.view.loc (c : Thread nD τ) ↦[src.view.set]{q} fs) ∗ (dst.view.loc (c : Thread nD τ) ↦[dst.view.set]{fullShare} fd) ∗ tok c (.cp i) 0)
      ⊢ iprop((crd c (.cp i) -∗ WP c (kk ⟨⟩) Q) -∗ WP c (.op (.enqueueDma src (.here dst) sm hsrc hdst hsem) kk) Q) := by
  subst hS
  iintro ⟨#HR, Hs, Hd, Ht⟩ Hk
  ihave HI := (recs_at m K (c, .cp i)) $$ HR
  icases HI with ⟨#HI, #Hr⟩
  iapply (Rounds.wp_copy_pointsTo 𝒱₀ ER (ringRd m) (c : Thread nD τ) none (κ := K (c, .cp i)) (r := 0) (d := 0)
    (by have := duties_eq (F := F) m c (.cp i); rw [this]; exact Finset.mem_singleton_self _)
    () (amt (.cp i)) (show dst.view.amount (csem (.cp i)) = _ from hN) (amount_eq m c (.cp i) 0)
    (by have := payload_eq m c (.cp i) 0; rw [this]; exact hpay)) $$ [Hs Hd Ht]
  · isplitr; · iexact HI
    isplitl [Hs]; · iexact Hs
    isplitl [Hd]; · iexact Hd
    isplitl [Ht]; · iexact Ht
    iexact Hr
  iexact Hk

/-! ## Loads and stores -/

/-- A load of a rectangle that reads `w`. -/
theorem step_load (c : Dev nD) {sp : CoreSpace} {s : Shape} {e : EltTy} {mm : Memref sig .tc sp s e} {r : LoadRect s} {h : mm.view.LoadsAt r}
    {k' : (r.shape.Idx → Elt F e) → Prog (TpuEff nD τ sig (Elt F) Λ₀ .tc) α}
    {S : Finset (Idx (mm.view.loc (c : Thread nD τ)))} {q : PosShare TreeShare} {f : Buf (Elt F) (mm.view.loc (c : Thread nD τ))}
    (hS : mm.view.setOn r.set ⊆ S) (w) (hw : mm.view.readAt (Elt F) r f = w) :
    (mm.view.loc (c : Thread nD τ) ↦[S]{q} f : sProp 𝕄)
      ⊢ iprop(((mm.view.loc (c : Thread nD τ) ↦[S]{q} f) -∗ WP c (k' w) Q) -∗ WP c (.op (.load mm r h) k') Q) := by
  subst hw
  iintro H Hk
  iapply (wp_load 𝒱₀ (c : Thread nD τ) none Set.univ (m := mm) hS) $$ H
  iexact Hk

/-- A store of a rectangle: on it, any contents that hold there what was stored. -/
theorem step_store (c : Dev nD) {sp : CoreSpace} {s : Shape} {e : EltTy} {mm : Memref sig .tc sp s e} {r : Rect s} {w : r.shape.Idx → Elt F e}
    {hx : (mm.access r).Stores Finset.univ} {hm : (Finset.univ : Finset r.shape.Idx) = Finset.univ ∨ ∀ a, r.stride a = 1}
    {S : Finset (Idx ((mm.access r).loc (c : Thread nD τ)))} {f : Buf (Elt F) ((mm.access r).loc (c : Thread nD τ))}
    (hS : (mm.access r).set = S) (g : Buf (Elt F) ((mm.access r).loc (c : Thread nD τ))) (hg : (mm.access r).read (Elt F) g = w) :
    ((mm.access r).loc (c : Thread nD τ) ↦[S]{fullShare} f : sProp 𝕄)
      ⊢ iprop((((mm.access r).loc (c : Thread nD τ) ↦[S]{fullShare} g) -∗ WP c (kk ⟨⟩) Q) -∗ WP c (.op (.store mm r w Finset.univ hx hm) kk) Q) := by
  subst hS
  iintro H Hk
  iapply (wp_store 𝒱₀ (c : Thread nD τ) none Set.univ (m := mm) (r := r) (Mk := Finset.univ) (subset_of_eq (View.setOn_univ _))) $$ H
  iintro H
  iapply Hk
  iapply (Entails.of_eq (pointsTo_congr (write_eq_on (mm.access r) f g w hg)))
  iexact H

end Cert.KernelIdealProof

end
-- ==== Proof.KernelIdealExch.lean ====
/-
# `KernelIdealExch`: the loads, the stores and the transfers of the exchange

Loads and stores of the rows and slots the exchange works on, at the contents they hold, and the transfers of the four
phases: what each takes from the sender and what it leaves with the partner it addresses.
-/
module

public import proofs.«01_k».proof.Proof.KernelIdealSteps

@[expose] public section

noncomputable section

namespace Cert.KernelIdealProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cix → ℕ)

variable {α : Type} {Q : α → sProp (MT nD τ sig Unit (Elt F) ℕ UU ℕ)} {kk : PUnit → Prog (TpuEff nD τ sig (Elt F) Λ₀ .tc) α}

abbrev attnM : Memref sig .tc .vmem S256x1024 .bf16 := Memref.whole cc0_scratch0
abbrev o5 : Memref sig .tc .vmem S256x1024 .f32 := Memref.whole cc0_stg1_0

theorem hz2 : (![0, 0] : Fin 2 → Nat) = fun _ => 0 := funext fun a => by fin_cases a <;> rfl

/-- The elements a load of a rectangle of a whole buffer touches are the rectangle's. -/
theorem setOn_w (b : Ref sig .tc) (r : Rect b.ty.shape) : (View.whole b).setOn r.set = r.set :=
  (View.set_slice (View.whole b) r).symm.trans (View.set_slice_whole b r)

/-! ## Whole buffers -/

/-! ## Rows of the three 256 × 1024 buffers -/

section Rows
variable (c : Dev nD)

theorem ld_attn64 {off : Fin 2 → ℕ} {q : ℕ} (hq : q < 4) (hoff : off = ![qoff q, 0]) {inb}
    {h : attnM.view.LoadsAt (Rect.unit (s := S256x1024) off S64x1024.size inb).toLoadRect} {k'} {sh : PosShare TreeShare} {f : FVec F S256x1024 .bf16} :
    (pts c cc0_scratch0 Finset.univ sh f : sProp 𝕄)
      ⊢ iprop((pts c cc0_scratch0 Finset.univ sh f -∗ WP c (k' (quarterOf f q)) Q)
        -∗ WP c (.op (.load attnM (Rect.unit (s := S256x1024) off S64x1024.size inb).toLoadRect h) k') Q) :=
  step_load c (mm := attnM) (r := (Rect.unit (s := S256x1024) off S64x1024.size inb).toLoadRect) (S := Finset.univ) (q := sh) (f := f) (Finset.subset_univ _) (quarterOf f q) (funext fun x => quarterOf_emb f hq hoff inb x)

theorem ld_outb64 {off : Fin 2 → ℕ} {q : ℕ} (hoff : off = ![qoff q, 0]) {inb}
    {h : outb.view.LoadsAt (Rect.unit (s := S256x1024) off S64x1024.size inb).toLoadRect} {k'} {sh : PosShare TreeShare} {f : FVec F S256x1024 .bf16} :
    (pts c cc0_scratch5 (quarter q) sh f : sProp 𝕄)
      ⊢ iprop((pts c cc0_scratch5 (quarter q) sh f -∗ WP c (k' (outb.view.readAt (Elt F) (Rect.unit (s := S256x1024) off S64x1024.size inb).toLoadRect f)) Q)
        -∗ WP c (.op (.load outb (Rect.unit (s := S256x1024) off S64x1024.size inb).toLoadRect h) k') Q) :=
  step_load c (mm := outb) (subset_of_eq ((setOn_w cc0_scratch5 _).trans (set_rows (h := 64) hoff inb))) _ rfl

theorem st_outb64 {off : Fin 2 → ℕ} {q : ℕ} (hoff : off = ![qoff q, 0]) {inb} {w : FVec F S64x1024 .bf16}
    {hx : (outb.access (Rect.unit (s := S256x1024) off S64x1024.size inb)).Stores Finset.univ} {hm} {f : FVec F S256x1024 .bf16} :
    (pts c cc0_scratch5 (quarter q) fullShare f : sProp 𝕄)
      ⊢ iprop((pts c cc0_scratch5 (quarter q) fullShare (spreadQ w) -∗ WP c (kk ⟨⟩) Q)
        -∗ WP c (.op (.store outb (Rect.unit (s := S256x1024) off S64x1024.size inb) w Finset.univ hx hm) kk) Q) :=
  step_store c (mm := outb) (r := Rect.unit (s := S256x1024) off S64x1024.size inb) (w := w) (S := (quarter q)) (f := f)
    ((View.set_slice_whole cc0_scratch5 _).trans (set_rows (h := 64) hoff inb)) (spreadQ w) (funext fun x => spreadQ_emb w hoff inb x)

theorem ld_outb16 {off : Fin 2 → ℕ} {q z : ℕ} (hoff : off = ![soff q z, 0]) {inb}
    {h : outb.view.LoadsAt (Rect.unit (s := S256x1024) off S16x1024.size inb).toLoadRect} {k'} {sh : PosShare TreeShare} {f : FVec F S256x1024 .bf16} :
    (pts c cc0_scratch5 (sixteenth q z) sh f : sProp 𝕄)
      ⊢ iprop((pts c cc0_scratch5 (sixteenth q z) sh f -∗ WP c (k' (outb.view.readAt (Elt F) (Rect.unit (s := S256x1024) off S16x1024.size inb).toLoadRect f)) Q)
        -∗ WP c (.op (.load outb (Rect.unit (s := S256x1024) off S16x1024.size inb).toLoadRect h) k') Q) :=
  step_load c (mm := outb) (subset_of_eq ((setOn_w cc0_scratch5 _).trans (set_rows (h := 16) hoff inb))) _ rfl

theorem st_outb16 {off : Fin 2 → ℕ} {q z : ℕ} (hoff : off = ![soff q z, 0]) {inb} {w : FVec F S16x1024 .bf16}
    {hx : (outb.access (Rect.unit (s := S256x1024) off S16x1024.size inb)).Stores Finset.univ} {hm} {f : FVec F S256x1024 .bf16} :
    (pts c cc0_scratch5 (sixteenth q z) fullShare f : sProp 𝕄)
      ⊢ iprop((pts c cc0_scratch5 (sixteenth q z) fullShare (spreadS w) -∗ WP c (kk ⟨⟩) Q)
        -∗ WP c (.op (.store outb (Rect.unit (s := S256x1024) off S16x1024.size inb) w Finset.univ hx hm) kk) Q) :=
  step_store c (mm := outb) (r := Rect.unit (s := S256x1024) off S16x1024.size inb) (w := w) (S := (sixteenth q z)) (f := f)
    ((View.set_slice_whole cc0_scratch5 _).trans (set_rows (h := 16) hoff inb)) (spreadS w) (funext fun x => spreadS_emb w hoff inb x)

/-- A load of the staged result whose value is not used: any elements that include the rectangle's. -/
theorem ld_o5_any {r : Rect S256x1024} {S : Finset S256x1024.Idx} (hS : r.set ⊆ S)
    {h : o5.view.LoadsAt r.toLoadRect} {k'} {sh : PosShare TreeShare} {f : FVec F S256x1024 .f32} :
    (pts c cc0_stg1_0 S sh f : sProp 𝕄)
      ⊢ iprop((pts c cc0_stg1_0 S sh f -∗ WP c (k' (o5.view.readAt (Elt F) r.toLoadRect f)) Q)
        -∗ WP c (.op (.load o5 r.toLoadRect h) k') Q) :=
  step_load c (mm := o5) ((subset_of_eq (setOn_w cc0_stg1_0 _)).trans hS) _ rfl

theorem ld_o5_64 {off : Fin 2 → ℕ} {q : ℕ} (hoff : off = ![qoff q, 0]) {inb}
    {h : o5.view.LoadsAt (Rect.unit (s := S256x1024) off S64x1024.size inb).toLoadRect} {k'} {sh : PosShare TreeShare} {w : FVec F S64x1024 .f32} :
    (pts c cc0_stg1_0 (quarter q) sh (spreadQ w) : sProp 𝕄)
      ⊢ iprop((pts c cc0_stg1_0 (quarter q) sh (spreadQ w) -∗ WP c (k' w) Q)
        -∗ WP c (.op (.load o5 (Rect.unit (s := S256x1024) off S64x1024.size inb).toLoadRect h) k') Q) :=
  step_load c (mm := o5) (subset_of_eq ((setOn_w cc0_stg1_0 _).trans (set_rows (h := 64) hoff inb))) w (funext fun x => spreadQ_emb w hoff inb x)

theorem sixteenth_sub {q z : ℕ} (hz : z < 4) : sixteenth q z ⊆ quarter q := fun i hi => by
  rw [mem_rows] at hi ⊢; simp only [soff, qoff] at *; omega

theorem ld_o5_16 {off : Fin 2 → ℕ} {q z : ℕ} (hz : z < 4) (hoff : off = ![soff q z, 0]) {inb}
    {h : o5.view.LoadsAt (Rect.unit (s := S256x1024) off S16x1024.size inb).toLoadRect} {k'} {sh : PosShare TreeShare} {w : FVec F S64x1024 .f32} :
    (pts c cc0_stg1_0 (quarter q) sh (spreadQ w) : sProp 𝕄)
      ⊢ iprop((pts c cc0_stg1_0 (quarter q) sh (spreadQ w) -∗ WP c (k' (sixteenthOf w z)) Q)
        -∗ WP c (.op (.load o5 (Rect.unit (s := S256x1024) off S16x1024.size inb).toLoadRect h) k') Q) :=
  step_load c (mm := o5) ((subset_of_eq ((setOn_w cc0_stg1_0 _).trans (set_rows (h := 16) hoff inb))).trans (sixteenth_sub hz)) _
    (funext fun x => spreadQ_emb16 w hoff inb x)

theorem ld_o5_s {off : Fin 2 → ℕ} {q z : ℕ} (hoff : off = ![soff q z, 0]) {inb}
    {h : o5.view.LoadsAt (Rect.unit (s := S256x1024) off S16x1024.size inb).toLoadRect} {k'} {sh : PosShare TreeShare} {w : FVec F S16x1024 .f32} :
    (pts c cc0_stg1_0 (sixteenth q z) sh (spreadS w) : sProp 𝕄)
      ⊢ iprop((pts c cc0_stg1_0 (sixteenth q z) sh (spreadS w) -∗ WP c (k' w) Q)
        -∗ WP c (.op (.load o5 (Rect.unit (s := S256x1024) off S16x1024.size inb).toLoadRect h) k') Q) :=
  step_load c (mm := o5) (subset_of_eq ((setOn_w cc0_stg1_0 _).trans (set_rows (h := 16) hoff inb))) w (funext fun x => spreadS_emb w hoff inb x)

theorem st_o5_64 {off : Fin 2 → ℕ} {q : ℕ} (hoff : off = ![qoff q, 0]) {inb} {w : FVec F S64x1024 .f32}
    {hx : (o5.access (Rect.unit (s := S256x1024) off S64x1024.size inb)).Stores Finset.univ} {hm} {f : FVec F S256x1024 .f32} :
    (pts c cc0_stg1_0 (quarter q) fullShare f : sProp 𝕄)
      ⊢ iprop((pts c cc0_stg1_0 (quarter q) fullShare (spreadQ w) -∗ WP c (kk ⟨⟩) Q)
        -∗ WP c (.op (.store o5 (Rect.unit (s := S256x1024) off S64x1024.size inb) w Finset.univ hx hm) kk) Q) :=
  step_store c (mm := o5) (r := Rect.unit (s := S256x1024) off S64x1024.size inb) (w := w) (S := (quarter q)) (f := f)
    ((View.set_slice_whole cc0_stg1_0 _).trans (set_rows (h := 64) hoff inb)) (spreadQ w) (funext fun x => spreadQ_emb w hoff inb x)

theorem st_o5_16 {off : Fin 2 → ℕ} {q z : ℕ} (hoff : off = ![soff q z, 0]) {inb} {w : FVec F S16x1024 .f32}
    {hx : (o5.access (Rect.unit (s := S256x1024) off S16x1024.size inb)).Stores Finset.univ} {hm} {f : FVec F S256x1024 .f32} :
    (pts c cc0_stg1_0 (sixteenth q z) fullShare f : sProp 𝕄)
      ⊢ iprop((pts c cc0_stg1_0 (sixteenth q z) fullShare (spreadS w) -∗ WP c (kk ⟨⟩) Q)
        -∗ WP c (.op (.store o5 (Rect.unit (s := S256x1024) off S16x1024.size inb) w Finset.univ hx hm) kk) Q) :=
  step_store c (mm := o5) (r := Rect.unit (s := S256x1024) off S16x1024.size inb) (w := w) (S := (sixteenth q z)) (f := f)
    ((View.set_slice_whole cc0_stg1_0 _).trans (set_rows (h := 16) hoff inb)) (spreadS w) (funext fun x => spreadS_emb w hoff inb x)

/-! ## Slots of the landing buffers -/

theorem ld_tmpA {o : ℕ} {inb} {h : tmpA.view.LoadsAt (Rect.unit (s := S4x64x1024) ![o, 0, 0] S1x64x1024.size inb).toLoadRect} {k'}
    {sh : PosShare TreeShare} {w : FVec F S64x1024 .bf16} :
    (pts c cc0_scratch6 (slotA o) sh (spreadA w) : sProp 𝕄)
      ⊢ iprop((pts c cc0_scratch6 (slotA o) sh (spreadA w) -∗ WP c (k' (liftA w)) Q)
        -∗ WP c (.op (.load tmpA (Rect.unit (s := S4x64x1024) ![o, 0, 0] S1x64x1024.size inb).toLoadRect h) k') Q) :=
  step_load c (mm := tmpA) (subset_of_eq ((setOn_w cc0_scratch6 _).trans (set_slotA rfl inb))) (liftA w) (funext fun x => spreadA_emb w rfl inb x)

theorem ld_tmpB {o : ℕ} {inb} {h : tmpB.view.LoadsAt (Rect.unit (s := S4x16x1024) ![o, 0, 0] S1x16x1024.size inb).toLoadRect} {k'}
    {sh : PosShare TreeShare} {w : FVec F S16x1024 .bf16} :
    (pts c cc0_scratch7 (slotB o) sh (spreadB w) : sProp 𝕄)
      ⊢ iprop((pts c cc0_scratch7 (slotB o) sh (spreadB w) -∗ WP c (k' (liftB w)) Q)
        -∗ WP c (.op (.load tmpB (Rect.unit (s := S4x16x1024) ![o, 0, 0] S1x16x1024.size inb).toLoadRect h) k') Q) :=
  step_load c (mm := tmpB) (subset_of_eq ((setOn_w cc0_scratch7 _).trans (set_slotB rfl inb))) (liftB w) (funext fun x => spreadB_emb w rfl inb x)

end Rows

/-! ## What the transfers' views are -/

theorem set_rowsM64 {off : Fin 2 → ℕ} {q : ℕ} (hoff : off = ![qoff q, 0]) (inb) : (rowsM64 off inb).view.set = quarter q :=
  (View.set_slice_whole cc0_scratch5 _).trans (set_rows (h := 64) hoff inb)
theorem set_rowsM16 {off : Fin 2 → ℕ} {q z : ℕ} (hoff : off = ![soff q z, 0]) (inb) : (rowsM16 off inb).view.set = sixteenth q z :=
  (View.set_slice_whole cc0_scratch5 _).trans (set_rows (h := 16) hoff inb)
theorem set_slotAM (o : ℕ) (inb) : (slotAM o inb).view.set = slotA o :=
  (View.set_reshape _ _).trans ((View.set_slice_whole cc0_scratch6 _).trans (set_slotA rfl inb))
theorem set_slotBM (o : ℕ) (inb) : (slotBM o inb).view.set = slotB o :=
  (View.set_reshape _ _).trans ((View.set_slice_whole cc0_scratch7 _).trans (set_slotB rfl inb))
theorem read_rowsM64 (w : FVec F S64x1024 .bf16) {off : Fin 2 → ℕ} {q : ℕ} (hoff : off = ![qoff q, 0]) (inb) :
    (rowsM64 off inb).view.read (Elt F) (spreadQ w) = w := funext fun x => spreadQ_emb w hoff inb x
theorem read_rowsM16 (w : FVec F S16x1024 .bf16) {off : Fin 2 → ℕ} {q z : ℕ} (hoff : off = ![soff q z, 0]) (inb) :
    (rowsM16 off inb).view.read (Elt F) (spreadS w) = w := funext fun x => spreadS_emb w hoff inb x
theorem read_slotAM (w : FVec F S64x1024 .bf16) (o : ℕ) (inb) : (slotAM o inb).view.read (Elt F) (spreadA w) = w :=
  funext fun x => (spreadA_emb w rfl inb _).trans (liftA_reshape w _ x)
theorem read_slotBM (w : FVec F S16x1024 .bf16) (o : ℕ) (inb) : (slotBM o inb).view.read (Elt F) (spreadB w) = w :=
  funext fun x => (spreadB_emb w rfl inb _).trans (liftB_reshape w _ x)

/-! ## The four phases' transfers -/

section Phases
variable (c : Dev nD) (i : Fin 3) (j : ℕ) {sS sR : SemLoc sig}

/-- The first phase: a quarter of the partial product to the plane neighbour it belongs to. -/
theorem send0 {n : Dev nD} (hn : n = P (kp 0 i) c) {off inb} (hoff : off = ![qoff (rr (P (kp 0 i) c)), 0]) {o : ℕ} (ho : o = i.rev.val + 1) {inb'}
    (hS : sS = csem (.snd 0 i)) (hR : sR = csem (.rcv 0 i.rev)) {hsc hsrc hdst hsem}
    (hj : (pays c).drop j = (kcell (P (kp 0 i) c, .rcv 0 i.rev), amt (.rcv 0 i.rev)) :: (pays c).drop (j + 1)) :
    iprop(recs m K ∗ ow c j ∗ pts c cc0_scratch5 (quarter (rr (P (kp 0 i) c))) fullShare (spreadQ (part m c (rr (P (kp 0 i) c))))
        ∗ (∃ f, pts (F := F) (P (kp 0 i) c) cc0_scratch6 (slotA (i.rev.val + 1)) fullShare f)
        ∗ tok c (.snd 0 i) 0 ∗ tok (P (kp 0 i) c) (.rcv 0 i.rev) 0)
      ⊢ iprop(((ow c (j + 1) ∗ crd c (.snd 0 i)) -∗ WP c (kk ⟨⟩) Q)
          -∗ WP c (.op (.enqueueDma (rowsM64 off inb) (.remote (Dev.tc n : Thread nD τ) (slotAM o inb') sS hsc) sR hsrc hdst hsem) kk) Q) := by
  subst ho
  iintro ⟨#HR, HO, Hs, ⟨%fd, Hd⟩, Ht, Ht'⟩ Hk
  iapply (step_send_landing m K c 0 i hn hS hR (src := rowsM64 off inb) (dst := slotAM (i.rev.val + 1) inb')
    (q := fullShare) (fs := spreadQ (part m c (rr (P (kp 0 i) c)))) (fd := fd) rfl j hj
    (by show _ ⊢ iprop(emp); exact BI.Entails.refl _)
    (by
      rw [set_slotAM, set_rowsM64 hoff, read_rowsM64 _ hoff]
      show _ ⊢ iprop(pts (P (kp 0 i) c) cc0_scratch6 (slotA (i.rev.val + 1)) fullShare (spreadA (part m (P (kp 0 i.rev) (P (kp 0 i) c)) (rr (P (kp 0 i) c))))
        ∗ ∃ f, pts (F := F) (P (kp 0 i.rev) (P (kp 0 i) c)) cc0_scratch5 (quarter (rr (P (kp 0 i) c))) fullShare f)
      rw [kp_rev]
      iintro ⟨H, Hs⟩
      isplitl [H]
      · have hw := write_eq_on (slotAM (i.rev.val + 1) inb').view fd (spreadA (part m c (rr (P (kp 0 i) c)))) _ (read_slotAM _ _ _)
        rw [set_slotAM] at hw
        iapply (Entails.of_eq (pointsTo_congr hw)); iexact H
      · iexists _; iexact Hs)) $$ [HO Hs Hd Ht Ht']
  · isplitr; · iexact HR
    isplitl [HO]; · iexact HO
    isplitl [Hs]; · rw [set_rowsM64 hoff]; iexact Hs
    isplitl [Hd]; · rw [set_slotAM]; iexact Hd
    isplitl [Ht] <;> iassumption
  iexact Hk

/-- The second phase: a sixteenth of the sum over the plane to the device, in another plane, that finishes it. -/
theorem send1 {n : Dev nD} (hn : n = P (kp 1 i) c) {off inb} (hoff : off = ![soff (rr c) (zz (P (kp 1 i) c)), 0]) {o : ℕ} (ho : o = i.rev.val + 1) {inb'}
    (hS : sS = csem (.snd 1 i)) (hR : sR = csem (.rcv 1 i.rev)) {hsc hsrc hdst hsem}
    (hj : (pays c).drop j = (kcell (P (kp 1 i) c, .rcv 1 i.rev), amt (.rcv 1 i.rev)) :: (pays c).drop (j + 1)) (hr : rr (P (kp 1 i) c) = rr c) :
    iprop(recs m K ∗ ow c j ∗ pts c cc0_scratch5 (sixteenth (rr c) (zz (P (kp 1 i) c))) fullShare (spreadS (sub m c (zz (P (kp 1 i) c))))
        ∗ (∃ f, pts (F := F) (P (kp 1 i) c) cc0_scratch7 (slotB (i.rev.val + 1)) fullShare f)
        ∗ tok c (.snd 1 i) 0 ∗ tok (P (kp 1 i) c) (.rcv 1 i.rev) 0)
      ⊢ iprop(((ow c (j + 1) ∗ crd c (.snd 1 i)) -∗ WP c (kk ⟨⟩) Q)
          -∗ WP c (.op (.enqueueDma (rowsM16 off inb) (.remote (Dev.tc n : Thread nD τ) (slotBM o inb') sS hsc) sR hsrc hdst hsem) kk) Q) := by
  subst ho
  iintro ⟨#HR, HO, Hs, ⟨%fd, Hd⟩, Ht, Ht'⟩ Hk
  iapply (step_send_landing m K c 1 i hn hS hR (src := rowsM16 off inb) (dst := slotBM (i.rev.val + 1) inb')
    (q := fullShare) (fs := spreadS (sub m c (zz (P (kp 1 i) c)))) (fd := fd) rfl j hj
    (by show _ ⊢ iprop(emp); exact BI.Entails.refl _)
    (by
      rw [set_slotBM, set_rowsM16 hoff, read_rowsM16 _ hoff]
      show _ ⊢ iprop(pts (P (kp 1 i) c) cc0_scratch7 (slotB (i.rev.val + 1)) fullShare (spreadB (sub m (P (kp 1 i.rev) (P (kp 1 i) c)) (zz (P (kp 1 i) c))))
        ∗ ∃ f, pts (F := F) (P (kp 1 i.rev) (P (kp 1 i) c)) cc0_scratch5 (sixteenth (rr (P (kp 1 i) c)) (zz (P (kp 1 i) c))) fullShare f)
      rw [kp_rev, hr]
      iintro ⟨H, Hs⟩
      isplitl [H]
      · have hw := write_eq_on (slotBM (i.rev.val + 1) inb').view fd (spreadB (sub m c (zz (P (kp 1 i) c)))) _ (read_slotBM _ _ _)
        rw [set_slotBM] at hw
        iapply (Entails.of_eq (pointsTo_congr hw)); iexact H
      · iexists _; iexact Hs)) $$ [HO Hs Hd Ht Ht']
  · isplitr; · iexact HR
    isplitl [HO]; · iexact HO
    isplitl [Hs]; · rw [set_rowsM16 hoff]; iexact Hs
    isplitl [Hd]; · rw [set_slotBM]; iexact Hd
    isplitl [Ht] <;> iassumption
  iexact Hk

/-- The third phase: the finished sixteenth back across the planes, into the same rows there. -/
theorem send2 {n : Dev nD} (hn : n = P (kp 2 i) c) {off inb} (hoff : off = ![soff (rr c) (zz c), 0]) {off' inb'} (hoff' : off' = ![soff (rr c) (zz c), 0])
    (hS : sS = csem (.snd 2 i)) (hR : sR = csem (.rcv 2 i.rev)) {hsc hsrc hdst hsem}
    (hj : (pays c).drop j = (kcell (P (kp 2 i) c, .rcv 2 i.rev), amt (.rcv 2 i.rev)) :: (pays c).drop (j + 1)) (hr : rr (P (kp 2 i) c) = rr c) :
    iprop(recs m K ∗ ow c j ∗ pts c cc0_scratch5 (sixteenth (rr c) (zz c)) (sh i) (FIN m)
        ∗ (∃ f, pts (F := F) (P (kp 2 i) c) cc0_scratch5 (sixteenth (rr c) (zz c)) fullShare f)
        ∗ tok c (.snd 2 i) 0 ∗ tok (P (kp 2 i) c) (.rcv 2 i.rev) 0)
      ⊢ iprop(((ow c (j + 1) ∗ crd c (.snd 2 i)) -∗ WP c (kk ⟨⟩) Q)
          -∗ WP c (.op (.enqueueDma (rowsM16 off inb) (.remote (Dev.tc n : Thread nD τ) (rowsM16 off' inb') sS hsc) sR hsrc hdst hsem) kk) Q) := by
  obtain rfl : off' = off := hoff'.trans hoff.symm
  iintro ⟨#HR, HO, Hs, ⟨%fd, Hd⟩, Ht, Ht'⟩ Hk
  iapply (step_send m K c 2 i hn hS hR (src := rowsM16 off' inb) (dst := rowsM16 off' inb')
    (q := sh i) (fs := FIN m) (fd := fd) rfl j hj
    (by rw [set_rowsM16 hoff]; exact BI.Entails.refl _)
    (by
      have hw := write_eq_on (rowsM16 off' inb').view fd (FIN m) _ rfl
      rw [set_rowsM16 hoff'] at hw ⊢
      show _ ⊢ iprop(pts (P (kp 2 i) c) cc0_scratch5 (sixteenth (rr (P (kp 2 i) c)) (zz (P (kp 2 i.rev) (P (kp 2 i) c)))) fullShare (FIN m))
      rw [kp_rev, hr]
      exact Entails.of_eq (pointsTo_congr hw))) $$ [HO Hs Hd Ht Ht']
  · isplitr; · iexact HR
    isplitl [HO]; · iexact HO
    isplitl [Hs]; · rw [set_rowsM16 hoff]; iexact Hs
    isplitl [Hd]; · rw [set_rowsM16 hoff']; iexact Hd
    isplitl [Ht] <;> iassumption
  iexact Hk

/-- The last phase: the finished quarter to the plane neighbours, into the same rows there. -/
theorem send3 {n : Dev nD} (hn : n = P (kp 3 i) c) {off inb} (hoff : off = ![qoff (rr c), 0]) {off' inb'} (hoff' : off' = ![qoff (rr c), 0])
    (hS : sS = csem (.snd 3 i)) (hR : sR = csem (.rcv 3 i.rev)) {hsc hsrc hdst hsem}
    (hj : (pays c).drop j = (kcell (P (kp 3 i) c, .rcv 3 i.rev), amt (.rcv 3 i.rev)) :: (pays c).drop (j + 1)) :
    iprop(recs m K ∗ ow c j ∗ pts c cc0_scratch5 (quarter (rr c)) (sh i) (FIN m)
        ∗ (∃ f, pts (F := F) (P (kp 3 i) c) cc0_scratch5 (quarter (rr c)) fullShare f)
        ∗ tok c (.snd 3 i) 0 ∗ tok (P (kp 3 i) c) (.rcv 3 i.rev) 0)
      ⊢ iprop(((ow c (j + 1) ∗ crd c (.snd 3 i)) -∗ WP c (kk ⟨⟩) Q)
          -∗ WP c (.op (.enqueueDma (rowsM64 off inb) (.remote (Dev.tc n : Thread nD τ) (rowsM64 off' inb') sS hsc) sR hsrc hdst hsem) kk) Q) := by
  obtain rfl : off' = off := hoff'.trans hoff.symm
  iintro ⟨#HR, HO, Hs, ⟨%fd, Hd⟩, Ht, Ht'⟩ Hk
  iapply (step_send m K c 3 i hn hS hR (src := rowsM64 off' inb) (dst := rowsM64 off' inb')
    (q := sh i) (fs := FIN m) (fd := fd) rfl j hj
    (by rw [set_rowsM64 hoff]; exact BI.Entails.refl _)
    (by
      have hw := write_eq_on (rowsM64 off' inb').view fd (FIN m) _ rfl
      rw [set_rowsM64 hoff'] at hw ⊢
      show _ ⊢ iprop(pts (P (kp 3 i) c) cc0_scratch5 (quarter (rr (P (kp 3 i.rev) (P (kp 3 i) c)))) fullShare (FIN m))
      rw [kp_rev]
      exact Entails.of_eq (pointsTo_congr hw))) $$ [HO Hs Hd Ht Ht']
  · isplitr; · iexact HR
    isplitl [HO]; · iexact HO
    isplitl [Hs]; · rw [set_rowsM64 hoff]; iexact Hs
    isplitl [Hd]; · rw [set_rowsM64 hoff']; iexact Hd
    isplitl [Ht] <;> iassumption
  iexact Hk

end Phases

end Cert.KernelIdealProof

end
-- ==== Proof.KernelIdealWaits.lean ====
/-
# `KernelIdealWaits`: the raises still owed at each point, and the bundles a phase works on
-/
module

public import proofs.«01_k».proof.Proof.KernelIdealExch

@[expose] public section

noncomputable section

namespace Cert.KernelIdealProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cix → ℕ)

variable {α : Type} {Q : α → sProp (MT nD τ sig Unit (Elt F) ℕ UU ℕ)} {kk : PUnit → Prog (TpuEff nD τ sig (Elt F) Λ₀ .tc) α}

/-! ## The raises still owed, as pairs of a partner and a cell -/

/-- The raises in program order: on which cell, of which partner. -/
def payL : List (Fin 6 × Cix) :=
  [(0, .bar), (1, .bar), (2, .bar), (3, .bar), (4, .bar), (5, .bar),
   (kp 0 0, .rcv 0 2), (kp 0 1, .rcv 0 1), (kp 0 2, .rcv 0 0), (kp 1 0, .rcv 1 2), (kp 1 1, .rcv 1 1), (kp 1 2, .rcv 1 0),
   (kp 2 0, .rcv 2 2), (kp 2 1, .rcv 2 1), (kp 2 2, .rcv 2 0), (kp 3 0, .rcv 3 2), (kp 3 1, .rcv 3 1), (kp 3 2, .rcv 3 0),
   (0, .bar2), (1, .bar2), (2, .bar2), (3, .bar2), (4, .bar2), (5, .bar2)]

theorem pays_eq (c : Dev nD) : pays c = payL.map fun y => (kcell (P y.1 c, y.2), amt y.2) := rfl

/-- A wait on `k` may stand before the raises still owed after `j` of them, when all of those lie on cells of higher level. -/
theorem hlev (c : Dev nD) (j : ℕ) (k : Cix) (h : ∀ y ∈ payL.drop j, lvS (csem k) < lvS (csem y.2)) :
    ∀ x ∈ (pays c).drop j, x.1.1.2 = .tc ∧ lvS (csem k) < lvS x.1.2 := by
  intro x hx
  rw [pays_eq, ← List.map_drop] at hx
  obtain ⟨y, hy, rfl⟩ := List.mem_map.mp hx
  exact ⟨rfl, h y hy⟩

/-! ## Bundles -/

/-- The two tokens of a send: on the sender's semaphore and on the partner's. -/
abbrev sndIn (c : Dev nD) (p : Fin 4) (i : Fin 3) : sProp 𝕄 := iprop(tok c (.snd p i) 0 ∗ tok (P (kp p i) c) (.rcv p i.rev) 0)
/-- What a wait for a landing takes. -/
abbrev rcvIn (c : Dev nD) (p : Fin 4) (i : Fin 3) : sProp 𝕄 := iprop(crd c (.rcv p i) ∗ pos c (.rcv p i))
/-- The partners' landing slots. -/
abbrev dstA (c : Dev nD) (i : Fin 3) : sProp 𝕄 := iprop(∃ f, pts (F := F) (P (kp 0 i) c) cc0_scratch6 (slotA (i.rev.val + 1)) fullShare f)
abbrev dstB (c : Dev nD) (i : Fin 3) : sProp 𝕄 := iprop(∃ f, pts (F := F) (P (kp 1 i) c) cc0_scratch7 (slotB (i.rev.val + 1)) fullShare f)
/-- The own landing slots. -/
abbrev ownA (c : Dev nD) (o : ℕ) : sProp 𝕄 := iprop(∃ f, pts (F := F) c cc0_scratch6 (slotA o) fullShare f)
abbrev ownB (c : Dev nD) (o : ℕ) : sProp 𝕄 := iprop(∃ f, pts (F := F) c cc0_scratch7 (slotB o) fullShare f)
/-- Some contents on elements of a buffer. -/
abbrev some_ (c : Dev nD) (b : Ref sig .tc) (S : Finset ((c : Thread nD τ).loc b).ty.shape.Idx) : sProp 𝕄 := iprop(∃ f, pts (F := F) c b S fullShare f)

theorem barPay_own (c : Dev nD) (k : Fin 6) (h : k.val < 3) : ownA (F := F) c (k.val + 1) ⊢ Pay m (P k c) .bar k := by
  show _ ⊢ barPay (P k c) k
  unfold barPay
  rw [if_pos h, kinv_P]
theorem barPay_own' (c : Dev nD) (k : Fin 6) (h : ¬ k.val < 3) : ownB (F := F) c (k.val - 2) ⊢ Pay m (P k c) .bar k := by
  show _ ⊢ barPay (P k c) k
  unfold barPay
  rw [if_neg h, kinv_P]
theorem barPay_dstA (c : Dev nD) (i : Fin 3) : barPay (F := F) c (kp 0 i.rev) ⊢ dstA (F := F) c i := by
  fin_cases i <;> exact BI.Entails.refl _
theorem barPay_dstB (c : Dev nD) (i : Fin 3) : barPay (F := F) c (kp 1 i.rev) ⊢ dstB (F := F) c i := by
  fin_cases i <;> exact BI.Entails.refl _

/-- A wait for a transfer, on the semaphore of cell `k`, once `j` raises are done. -/
theorem wait_at (c : Dev nD) (k : Cix) (j : ℕ) (h : ∀ y ∈ payL.drop j, lvS (csem k) < lvS (csem y.2)) {sp sp' : Space} {s : Shape} {e : EltTy}
    {src : Memref sig .tc sp' s e} {dst : Memref sig .tc sp s e} {q : DmaSem sig} (hq : csem k = .dma q) {hsrc hdst} (ht : dst.view.dmaCredit = tot k)
    {R : sProp 𝕄} (hR : rest m c k ⊢ R) :
    iprop(recs m K ∗ lvls ∗ ow c j ∗ crd c k ∗ pos c k)
      ⊢ iprop(((ow c j ∗ sv0 c k ∗ R) -∗ WP c (kk ⟨⟩) Q) -∗ WP c (.op (.waitDma2 q src dst hsrc hdst) kk) Q) := by
  iintro ⟨#HR, #HL, HO, Hc, Hp⟩ Hk
  iapply (step_dmawait m K c k hq ht j (hlev c j k h)) $$ [HO Hc Hp]
  · isplitr; · iexact HR
    isplitr; · iexact HL
    isplitl [Hc]; · iexact Hc
    isplitl [HO] <;> iassumption
  iintro ⟨HO, Hv, Hr⟩
  iapply Hk
  isplitl [HO]; · iexact HO
  isplitl [Hv]; · iexact Hv
  iapply hR; iexact Hr

theorem set_unit_zero {s : Shape} {off : Fin s.rank → ℕ} (h : off = fun _ => 0) (inb) : (Rect.unit off s.size inb).set = Finset.univ := by
  subst h
  ext i
  rw [Rect.mem_set_unit]
  exact ⟨fun _ => Finset.mem_univ _, fun _ a => ⟨Nat.zero_le _, (i a).isLt.trans_le (Nat.le_add_left _ _)⟩⟩

end Cert.KernelIdealProof

end
-- ==== Proof.KernelIdealCalls.lean ====
/-
# `KernelIdealCalls`: the pieces of the body at the buffers it is called with

The printed body is a chain of pieces; each is named here at the launch's own buffers.
-/
module

public import proofs.«01_k».proof.Proof.KernelIdealExch

@[expose] public section

noncomputable section

namespace Cert.KernelIdealProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cix → ℕ)

section
abbrev B1  := k0_part1 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0
abbrev B2 (v16 v26 c4_i32_10 v27 v32 : BitVec 32) (v33 : BitVec 1) := k0_part2 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 v16 v26 c4_i32_10 v27 v32 v33
abbrev B3 (v26 v43 v44 v71 v72 : BitVec 32) := k0_part3 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 v26 v43 v44 v71 v72
abbrev B4 (d0 : Dev nD) (v26 v43 v107 v109 : BitVec 32) := k0_part4 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 d0 v26 v43 v107 v109
abbrev B5 (v142 : FVec F S256x1024 .f32) (v143 v144 : FVec F S256x256 .bf16) := k0_part5 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 v142 v143 v144
abbrev B6 (v143 v144 : FVec F S256x256 .bf16) (v145 : FVec F S256x1024 .bf16) (v182 : FVec F S256x128 .bf16) (v190 : FVec F S256x256 .f32) := k0_part6 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 v143 v144 v145 v182 v190
abbrev B7 (v143 v144 : FVec F S256x256 .bf16) (v145 : FVec F S256x1024 .bf16) (v162 v179 v196 v213 v230 : FVec F S256x128 .f32) (v233 : FVec F S256x128 .bf16) (v236 : FVec F S256x256 .f32) := k0_part7 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 v143 v144 v145 v162 v179 v196 v213 v230 v233 v236
abbrev B8 (d0 : Dev nD) (v26 v56 v68 v80 v93 v106 v119 : BitVec 32) (v283 : FVec F S256x1024 .bf16) := k0_part8 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 d0 v26 v56 v68 v80 v93 v106 v119 v283
abbrev B9 (d0 : Dev nD) (v26 v44 : BitVec 32) (v303 : FVec F S1024x1024 .bf16) (v304 v306 : BitVec 32) := k0_part9 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 d0 v26 v44 v303 v304 v306
abbrev B10 (d0 : Dev nD) (v26 v44 : BitVec 32) (v303 : FVec F S1024x1024 .bf16) (v337 v338 : BitVec 32) (v339 v340 v341 : BitVec 1) := k0_part10 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 d0 v26 v44 v303 v337 v338 v339 v340 v341
abbrev B11 (d0 : Dev nD) (v44 v120 : BitVec 32) (v303 : FVec F S1024x1024 .bf16) (v324 v376 v377 : BitVec 32) := k0_part11 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 d0 v44 v120 v303 v324 v376 v377
abbrev B12 (d0 : Dev nD) (v355 v386 v407 c0 : BitVec 32) := k0_part12 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 d0 v355 v386 v407 c0
abbrev B13 (d0 : Dev nD) (v43 v120 : BitVec 32) := k0_part13 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 d0 v43 v120
abbrev B14 (d0 : Dev nD) (v26 v43 v120 v465 : BitVec 32) := k0_part14 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 d0 v26 v43 v120 v465
abbrev B15 (d0 : Dev nD) (v26 v43 v120 v501 : BitVec 32) (v505 : Vec F S16x1024 .f32) := k0_part15 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 d0 v26 v43 v120 v501 v505
abbrev B16 (d0 : Dev nD) (v26 v120 v479 v537 : BitVec 32) (v542 : FVec F S16x1024 .f32) := k0_part16 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 d0 v26 v120 v479 v537 v542
abbrev B17 (d0 : Dev nD) (v515 v551 : BitVec 32) := k0_part17 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 d0 v515 v551
abbrev B18 (d0 : Dev nD) (v43 v122 : BitVec 32) := k0_part18 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 d0 v43 v122
abbrev B19 (d0 : Dev nD) (v26 v43 v634 c4 : BitVec 32) := k0_part19 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 d0 v26 v43 v634 c4
abbrev B20 (d0 : Dev nD) (v26 v636 v666 v668 : BitVec 32) := k0_part20 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 d0 v26 v636 v666 v668
abbrev B21 (d0 : Dev nD) (v26 v44 v657 v678 : BitVec 32) := k0_part21 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 d0 v26 v44 v657 v678
abbrev B22 (d0 : Dev nD) (v26 v44 v728 c1 : BitVec 32) := k0_part22 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 d0 v26 v44 v728 c1
abbrev B23 (d0 : Dev nD) (v44 v728 v748 v759 v760 : BitVec 32) (v761 v762 v763 : BitVec 1) := k0_part23 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 d0 v44 v728 v748 v759 v760 v761 v762 v763
abbrev B24 (d0 : Dev nD) (v56 v68 v80 v93 v768 : BitVec 32) := k0_part24 (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 d0 v56 v68 v80 v93 v768
end

end Cert.KernelIdealProof

end
-- ==== Proof.KernelIdealPartsA.lean ====
/-
# `KernelIdealPartsA`: the body up to the first barrier
-/
module

public import proofs.«01_k».proof.Proof.KernelIdealWaits
public import proofs.«01_k».proof.Proof.KernelIdealCalls

@[expose] public section

noncomputable section

namespace Cert.KernelIdealProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cix → ℕ)

/-! ## The pieces of arithmetic -/

theorem part2 (c : Dev nD) (v16 v26 c4_i32_10 v27 v32 v33) (Q) :
    iprop(∀ r, Q r) ⊢ WP c (B2 (F := F) v16 v26 c4_i32_10 v27 v32 v33) Q := by
  unfold B2; rw [k0_part2_eq_skeleton]; unfold k0_part2_skel
  simp only [semSignalWord, semWaitWord, Prog.lift, Prog.bind_op, Prog.bind_ret, Prog.pure_eq_ret, wp_deviceId]
  exact (sProp.forall_elim _).trans (le_wp_ret _ _ _ _ _)

theorem part3 (c : Dev nD) (v26 v43 v44 v71 v72) (Q) :
    iprop(∀ r, Q r) ⊢ WP c (B3 (F := F) v26 v43 v44 v71 v72) Q := by
  unfold B3; rw [k0_part3_eq_skeleton]; unfold k0_part3_skel
  simp only [semSignalWord, semWaitWord, Prog.lift, Prog.bind_op, Prog.bind_ret, Prog.pure_eq_ret, wp_deviceId]
  exact (sProp.forall_elim _).trans (le_wp_ret _ _ _ _ _)

theorem part5 (c : Dev nD) (q k v) (Q) :
    Q ⟨k0_pay5 q, k0_pay6 q k v, k0_pay7 q k v, k0_pay8 v, k0_pay9 q k⟩ ⊢ WP c (B5 (F := F) q k v) Q := by
  unfold B5; rw [k0_part5_eq_skeleton]; unfold k0_part5_skel
  simp only [semSignalWord, semWaitWord, Prog.lift, Prog.bind_op, Prog.bind_ret, Prog.pure_eq_ret, wp_deviceId]
  exact le_wp_ret _ _ _ _ _

theorem part6 (c : Dev nD) (k v v145 v182 v190) (Q) :
    Q ⟨k0_pay10 v182 v190, k0_pay11 k v v145, k0_pay12 k v v145, k0_pay13 v, k0_pay14 k v145⟩ ⊢ WP c (B6 (F := F) k v v145 v182 v190) Q := by
  unfold B6; rw [k0_part6_eq_skeleton]; unfold k0_part6_skel
  simp only [semSignalWord, semWaitWord, Prog.lift, Prog.bind_op, Prog.bind_ret, Prog.pure_eq_ret, wp_deviceId]
  exact le_wp_ret _ _ _ _ _

theorem part7 (c : Dev nD) (k v v145 v162 v179 v196 v213 v230 v233 v236) (Q) :
    Q (k0_pay15 k v v145 v162 v179 v196 v213 v230 v233 v236) ⊢ WP c (B7 (F := F) k v v145 v162 v179 v196 v213 v230 v233 v236) Q := by
  unfold B7; rw [k0_part7_eq_skeleton]; unfold k0_part7_skel
  simp only [semSignalWord, semWaitWord, Prog.lift, Prog.bind_op, Prog.bind_ret, Prog.pure_eq_ret, wp_deviceId]
  exact le_wp_ret _ _ _ _ _

/-! ## The copies of the weights -/

section Copies
variable {α : Type} {Q : α → sProp (MT nD τ sig Unit (Elt F) ℕ UU ℕ)} {kk : PUnit → Prog (TpuEff nD τ sig (Elt F) Λ₀ .tc) α}
variable (c : Dev nD) {sm : SemLoc sig}

/-- A copy into a whole buffer, from any view that reads `w`. -/
theorem copy_at (i : Fin 4) (hs : sm = csem (.cp i)) {b : Ref sig .tc} {sp : Space} {src : Memref sig .tc sp b.ty.shape b.ty.elt}
    {S : Finset (Idx (src.view.loc (c : Thread nD τ)))} (hS : src.view.set = S) {fs : Buf (Elt F) (src.view.loc (c : Thread nD τ))}
    {w : b.ty.Contents (Elt F)} (hw : src.view.read (Elt F) fs = w) (hN : (View.whole b : View sig .tc _ _ _).dmaCredit = amt (.cp i))
    {hsrc hdst hsem} (hpay : iprop(pts c b Finset.univ fullShare w ∗ (src.view.loc (c : Thread nD τ) ↦[S]{fullShare} fs)) ⊢ cpPay m c i) :
    iprop(recs m K ∗ (src.view.loc (c : Thread nD τ) ↦[S]{fullShare} fs) ∗ some_ (F := F) c b Finset.univ ∗ tok c (.cp i) 0)
      ⊢ iprop((crd c (.cp i) -∗ WP c (kk ⟨⟩) Q) -∗ WP c (.op (.enqueueDma src (.here (Memref.whole b)) sm hsrc hdst hsem) kk) Q) := by
  subst hS hw
  iintro ⟨#HR, Hs, ⟨%fd, Hd⟩, Ht⟩ Hk
  iapply (step_copy m K c i hs (src := src) (dst := Memref.whole b) (q := fullShare) (fs := fs) (fd := fd) hN (by
    refine BI.Entails.trans ?_ hpay
    show iprop(((c : Thread nD τ).loc b ↦[(View.whole b).set]{fullShare} ((View.whole b).write (Elt F) fd (src.view.read (Elt F) fs) Finset.univ)) ∗ _) ⊢ _
    rw [View.set_whole, View.write_whole_univ])) $$ [Hs Hd Ht]
  · isplitr; · iexact HR
    isplitl [Hs]; · iexact Hs
    isplitl [Hd]
    · rw [show (Memref.whole b : Memref sig .tc _ _ _).view.set = Finset.univ from View.set_whole b]; iexact Hd
    iexact Ht
  iexact Hk

end Copies

theorem part1 (c : Dev nD) (Q) :
    iprop(recs m K
        ∗ (pts c main_arg1 Finset.univ fullShare (at_ m c main_arg1) ∗ some_ (F := F) c cc0_scratch1 Finset.univ ∗ tok c (.cp 0) 0)
        ∗ (pts c main_arg4 Finset.univ fullShare (at_ m c main_arg4) ∗ some_ (F := F) c cc0_scratch2 Finset.univ ∗ tok c (.cp 1) 0)
        ∗ (pts c main_arg2 (colsK c.val) fullShare (at_ m c main_arg2) ∗ some_ (F := F) c cc0_scratch3 Finset.univ ∗ tok c (.cp 2) 0)
        ∗ (pts c main_arg3 (colsK c.val) fullShare (at_ m c main_arg3) ∗ some_ (F := F) c cc0_scratch4 Finset.univ ∗ tok c (.cp 3) 0))
      ⊢ iprop((∀ r, (crd c (.cp 0) ∗ crd c (.cp 1) ∗ crd c (.cp 2) ∗ crd c (.cp 3)) -∗ Q ⟨c, r⟩) -∗ WP c (B1 (F := F)) Q) := by
  unfold B1; rw [k0_part1_eq_skeleton]; unfold k0_part1_skel
  simp only [semSignalWord, semWaitWord, Prog.lift, Prog.bind_op, Prog.bind_ret, Prog.pure_eq_ret, wp_deviceId]
  iintro ⟨#HR, ⟨Ha1, ⟨%f1, Hs1⟩, Ht1⟩, ⟨Ha4, ⟨%f4, Hs4⟩, Ht4⟩, ⟨Ha2, ⟨%f2, Hs2⟩, Ht2⟩, ⟨Ha3, ⟨%f3, Hs3⟩, Ht3⟩⟩ Hk
  iapply (copy_at m K c 2 rfl (b := cc0_scratch3)
    (src := (Memref.whole main_arg2).slice (Rect.unit (s := S1024x4096) (k0_off1 c) S1024x256.size (k0_off1_inb c)) (fun _ => rfl)) (S := colsK c.val) ((View.set_slice_whole main_arg2 _).trans (set_colsK (off1_eq c) _))
    (w := wkOf m c) (funext fun x => colsOf_emb _ c.isLt (off1_eq c) _ x) rfl (BI.Entails.refl _)) $$ [Ha2 Hs2 Ht2]
  · isplitr; · iexact HR
    isplitl [Ha2]; · iexact Ha2
    isplitl [Hs2]; · iexists _; iexact Hs2
    iexact Ht2
  iintro H2
  iapply (copy_at m K c 3 rfl (b := cc0_scratch4)
    (src := (Memref.whole main_arg3).slice (Rect.unit (s := S1024x4096) (k0_off1 c) S1024x256.size (k0_off1_inb c)) (fun _ => rfl)) (S := colsK c.val) ((View.set_slice_whole main_arg3 _).trans (set_colsK (off1_eq c) _))
    (w := wvOf m c) (funext fun x => colsOf_emb _ c.isLt (off1_eq c) _ x) rfl (BI.Entails.refl _)) $$ [Ha3 Hs3 Ht3]
  · isplitr; · iexact HR
    isplitl [Ha3]; · iexact Ha3
    isplitl [Hs3]; · iexists _; iexact Hs3
    iexact Ht3
  iintro H3
  iapply (copy_at m K c 0 rfl (b := cc0_scratch1) (src := Memref.whole main_arg1) (S := Finset.univ) (View.set_whole _)
    (w := at_ m c main_arg1) rfl rfl (BI.Entails.refl _)) $$ [Ha1 Hs1 Ht1]
  · isplitr; · iexact HR
    isplitl [Ha1]; · iexact Ha1
    isplitl [Hs1]; · iexists _; iexact Hs1
    iexact Ht1
  iintro H1
  iapply (copy_at m K c 1 rfl (b := cc0_scratch2) (src := Memref.whole main_arg4) (S := Finset.univ) (View.set_whole _)
    (w := at_ m c main_arg4) rfl rfl (BI.Entails.refl _)) $$ [Ha4 Hs4 Ht4]
  · isplitr; · iexact HR
    isplitl [Ha4]; · iexact Ha4
    isplitl [Hs4]; · iexists _; iexact Hs4
    iexact Ht4
  iintro H4
  iapply (le_wp_ret _ _ _ _ _)
  iapply Hk
  isplitl [H1]; · iexact H1
  isplitl [H4]; · iexact H4
  isplitl [H2] <;> iassumption

/-! ## Queries, keys and values -/

theorem part4 (c : Dev nD) (v26 v43 v107 v109) (Q) :
    iprop(recs m K ∗ lvls ∗ ow c 0 ∗ pts c cc0_stg0_0 Finset.univ fullShare (xstg m c)
        ∗ (crd c (.cp 0) ∗ pos c (.cp 0)) ∗ (crd c (.cp 2) ∗ pos c (.cp 2)) ∗ (crd c (.cp 3) ∗ pos c (.cp 3)))
      ⊢ iprop((∀ a, ∀ b, ∀ d, (ow c 0 ∗ pts c cc0_stg0_0 Finset.univ fullShare (xstg m c) ∗ (sv0 c (.cp 0) ∗ cpPay m c 0)
            ∗ (sv0 c (.cp 2) ∗ cpPay m c 2) ∗ (sv0 c (.cp 3) ∗ cpPay m c 3)) -∗ Q ⟨a, b, d, qOf m c, kOf m c, vOf m c⟩)
          -∗ WP c (B4 (F := F) c v26 v43 v107 v109) Q) := by
  unfold B4; rw [k0_part4_eq_skeleton]; unfold k0_part4_skel
  simp only [semSignalWord, semWaitWord, Prog.lift, Prog.bind_op, Prog.bind_ret, Prog.pure_eq_ret, wp_deviceId]
  unfold qOf kOf vOf; dsimp only [cpPay]
  iintro ⟨#HR, #HL, HO, Hx, ⟨Hc0, Hp0⟩, ⟨Hc2, Hp2⟩, ⟨Hc3, Hp3⟩⟩ Hk
  iapply (step_load c (mm := Memref.whole cc0_stg0_0) (S := Finset.univ) (Finset.subset_univ _) (xstg m c)
    (Memref.readAt_unit_zero (Elt F) cc0_stg0_0 hz2 _ _)) $$ Hx
  iintro Hx
  iapply (wait_at m K c (.cp 2) 0 (by decide +kernel) rfl rfl
    (R := iprop(pts c cc0_scratch3 Finset.univ fullShare (wkOf m c) ∗ pts c main_arg2 (colsK c.val) fullShare (at_ m c main_arg2))) (BI.Entails.refl _)) $$ [HO Hc2 Hp2]
  · isplitr; · iexact HR
    isplitr; · iexact HL
    isplitl [HO]; · iexact HO
    isplitl [Hc2] <;> iassumption
  iintro ⟨HO, Hv2, ⟨Hs2, Ha2⟩⟩
  iapply (step_load c (mm := Memref.whole cc0_scratch3) (S := Finset.univ) (Finset.subset_univ _) (wkOf m c)
    (Memref.readAt_unit_zero (Elt F) cc0_scratch3 hz2 _ _)) $$ Hs2
  iintro Hs2
  iapply (wait_at m K c (.cp 3) 0 (by decide +kernel) rfl rfl
    (R := iprop(pts c cc0_scratch4 Finset.univ fullShare (wvOf m c) ∗ pts c main_arg3 (colsK c.val) fullShare (at_ m c main_arg3))) (BI.Entails.refl _)) $$ [HO Hc3 Hp3]
  · isplitr; · iexact HR
    isplitr; · iexact HL
    isplitl [HO]; · iexact HO
    isplitl [Hc3] <;> iassumption
  iintro ⟨HO, Hv3, ⟨Hs3, Ha3⟩⟩
  iapply (step_load c (mm := Memref.whole cc0_scratch4) (S := Finset.univ) (Finset.subset_univ _) (wvOf m c)
    (Memref.readAt_unit_zero (Elt F) cc0_scratch4 hz2 _ _)) $$ Hs3
  iintro Hs3
  iapply (wait_at m K c (.cp 0) 0 (by decide +kernel) rfl rfl
    (R := iprop(pts c cc0_scratch1 Finset.univ fullShare (at_ m c main_arg1) ∗ pts c main_arg1 Finset.univ fullShare (at_ m c main_arg1))) (BI.Entails.refl _)) $$ [HO Hc0 Hp0]
  · isplitr; · iexact HR
    isplitr; · iexact HL
    isplitl [HO]; · iexact HO
    isplitl [Hc0] <;> iassumption
  iintro ⟨HO, Hv0, ⟨Hs0, Ha0⟩⟩
  iapply (step_load c (mm := Memref.whole cc0_scratch1) (S := Finset.univ) (Finset.subset_univ _) (at_ m c main_arg1)
    (Memref.readAt_unit_zero (Elt F) cc0_scratch1 hz2 _ _)) $$ Hs0
  iintro Hs0
  iapply (le_wp_ret _ _ _ _ _)
  iapply Hk
  isplitl [HO]; · iexact HO
  isplitl [Hx]; · iexact Hx
  isplitl [Hv0 Hs0 Ha0]
  · isplitl [Hv0]; · iexact Hv0
    isplitl [Hs0] <;> iassumption
  isplitl [Hv2 Hs2 Ha2]
  · isplitl [Hv2]; · iexact Hv2
    isplitl [Hs2] <;> iassumption
  isplitl [Hv3]; · iexact Hv3
  isplitl [Hs3] <;> iassumption

/-! ## The first barrier, and the output weights -/

/-- One raise of the barrier: the partner gets the own landing slot it will write. -/
theorem raise (c : Dev nD) (k : Fin 6) (j : ℕ) (hj : (pays c).drop j = (kcell (P k c, .bar), 1) :: List.drop (j + 1) (pays c))
    {α : Type} {Q : α → sProp 𝕄} {kk : PUnit → Prog (TpuEff nD τ sig (Elt F) Λ₀ .tc) α} {n : Dev nD} (hn : n = P k c) {z : ℤ} (hz : z = 1)
    {R : sProp 𝕄} (hR : R ⊢ Pay m (P k c) .bar k) :
    iprop(recs m K ∗ ow c j ∗ tok (P k c) .bar k ∗ R)
      ⊢ iprop((ow c (j + 1) -∗ WP c (kk ⟨⟩) Q) -∗ WP c (.op (.semSignal (Dev.tc n) barS z) kk) Q) :=
  by
  iintro ⟨#HR, HO, Ht, Hr⟩ Hk
  iapply (step_signal m K c k .bar (.inl rfl) hn rfl hz j hj) $$ [HO Ht Hr]
  · isplitr; · iexact HR
    isplitl [HO]; · iexact HO
    isplitl [Ht]; · iexact Ht
    iapply hR; iexact Hr
  iexact Hk

theorem part8 (c : Dev nD) (v26 v56 v68 v80 v93 v106 v119) (g : FVec F S256x1024 .bf16) (hg : k0_pay16 g = attn m c) (Q) :
    iprop(recs m K ∗ lvls ∗ ow c 0 ∗ some_ (F := F) c cc0_scratch0 Finset.univ
        ∗ (tok (P 0 c) .bar 0 ∗ tok (P 1 c) .bar 1 ∗ tok (P 2 c) .bar 2 ∗ tok (P 3 c) .bar 3 ∗ tok (P 4 c) .bar 4 ∗ tok (P 5 c) .bar 5)
        ∗ (ownA (F := F) c 1 ∗ ownA (F := F) c 2 ∗ ownA (F := F) c 3 ∗ ownB (F := F) c 1 ∗ ownB (F := F) c 2 ∗ ownB (F := F) c 3)
        ∗ (crd c .bar ∗ pos c .bar) ∗ (crd c (.cp 1) ∗ pos c (.cp 1)))
      ⊢ iprop((∀ a, ∀ b, (ow c 6 ∗ pts c cc0_scratch0 Finset.univ fullShare (attn m c)
            ∗ (dstA (F := F) c 0 ∗ dstA (F := F) c 1 ∗ dstA (F := F) c 2) ∗ (dstB (F := F) c 0 ∗ dstB (F := F) c 1 ∗ dstB (F := F) c 2)
            ∗ sv0 c .bar ∗ (sv0 c (.cp 1) ∗ cpPay m c 1)) -∗ Q ⟨wo m c, a, b⟩)
          -∗ WP c (B8 (F := F) c v26 v56 v68 v80 v93 v106 v119 g) Q) := by
  unfold B8; rw [k0_part8_eq_skeleton]; unfold k0_part8_skel
  simp only [semSignalWord, semWaitWord, Prog.lift, Prog.bind_op, Prog.bind_ret, Prog.pure_eq_ret, wp_deviceId]
  unfold wo; dsimp only [cpPay]
  iintro ⟨#HR, #HL, HO, ⟨%f0, Ha⟩, ⟨Ht0, Ht1, Ht2, Ht3, Ht4, Ht5⟩, ⟨HA1, HA2, HA3, HB1, HB2, HB3⟩, ⟨Hcb, Hpb⟩, ⟨Hc1, Hp1⟩⟩ Hk
  iapply (step_load c (mm := attnM) (S := Finset.univ) (Finset.subset_univ _) f0
    (Memref.readAt_unit_zero (Elt F) cc0_scratch0 hz2 _ _)) $$ Ha
  iintro Ha
  iapply (step_store c (mm := attnM) (r := Rect.unit (s := S256x1024) ![0, 0] S256x1024.size inb_S256x1024_S256x1024_0_0) (w := k0_pay16 g) (S := Finset.univ) (f := f0) ((View.set_slice_whole cc0_scratch0 _).trans (set_unit_zero hz2 inb_S256x1024_S256x1024_0_0)) (attn m c)
    ((Memref.readAt_unit_zero (Elt F) cc0_scratch0 hz2 _ _).trans hg.symm)) $$ Ha
  iintro Ha
  iapply (raise m K c 0 0 rfl (dev1_eq c) (by decide) (barPay_own m c 0 (by decide))) $$ [HO Ht0 HA1]
  · isplitr; · iexact HR
    isplitl [HO]; · iexact HO
    isplitl [Ht0]; · iexact Ht0
    iexact HA1
  iintro HO
  iapply (raise m K c 1 1 rfl (dev2_eq c) (by decide) (barPay_own m c 1 (by decide))) $$ [HO Ht1 HA2]
  · isplitr; · iexact HR
    isplitl [HO]; · iexact HO
    isplitl [Ht1]; · iexact Ht1
    iexact HA2
  iintro HO
  iapply (raise m K c 2 2 rfl (dev3_eq c) (by decide) (barPay_own m c 2 (by decide))) $$ [HO Ht2 HA3]
  · isplitr; · iexact HR
    isplitl [HO]; · iexact HO
    isplitl [Ht2]; · iexact Ht2
    iexact HA3
  iintro HO
  iapply (raise m K c 3 3 rfl (dev4_eq c) (by decide) (barPay_own' m c 3 (by decide))) $$ [HO Ht3 HB1]
  · isplitr; · iexact HR
    isplitl [HO]; · iexact HO
    isplitl [Ht3]; · iexact Ht3
    iexact HB1
  iintro HO
  iapply (raise m K c 4 4 rfl (dev5_eq c) (by decide) (barPay_own' m c 4 (by decide))) $$ [HO Ht4 HB2]
  · isplitr; · iexact HR
    isplitl [HO]; · iexact HO
    isplitl [Ht4]; · iexact Ht4
    iexact HB2
  iintro HO
  iapply (raise m K c 5 5 rfl (dev6_eq c) (by decide) (barPay_own' m c 5 (by decide))) $$ [HO Ht5 HB3]
  · isplitr; · iexact HR
    isplitl [HO]; · iexact HO
    isplitl [Ht5]; · iexact Ht5
    iexact HB3
  iintro HO
  iapply (step_semwait m K c .bar rfl (by decide) rfl 6 (hlev c 6 .bar (by decide +kernel))) $$ [HO Hcb Hpb]
  · isplitr; · iexact HR
    isplitr; · iexact HL
    isplitl [Hcb]; · iexact Hcb
    isplitl [HO] <;> iassumption
  iintro ⟨HO, Hvb, Hd⟩
  ihave Hd := (show rest m c .bar ⊢ iprop(barPay (F := F) c 0 ∗ barPay (F := F) c 1 ∗ barPay (F := F) c 2 ∗ barPay (F := F) c 3 ∗ barPay (F := F) c 4 ∗ barPay (F := F) c 5) from BI.Entails.refl _) $$ Hd
  icases Hd with ⟨Hd0, Hd1, Hd2, Hd3, Hd4, Hd5⟩
  iapply (wait_at m K c (.cp 1) 6 (by decide +kernel) rfl rfl
    (R := iprop(pts c cc0_scratch2 Finset.univ fullShare (at_ m c main_arg4) ∗ pts c main_arg4 Finset.univ fullShare (at_ m c main_arg4))) (BI.Entails.refl _)) $$ [HO Hc1 Hp1]
  · isplitr; · iexact HR
    isplitr; · iexact HL
    isplitl [HO]; · iexact HO
    isplitl [Hc1] <;> iassumption
  iintro ⟨HO, Hv1, ⟨Hs1, Ha1⟩⟩
  iapply (step_load c (mm := Memref.whole cc0_scratch2) (S := Finset.univ) (Finset.subset_univ _) (at_ m c main_arg4)
    (Memref.readAt_unit_zero (Elt F) cc0_scratch2 hz2 _ _)) $$ Hs1
  iintro Hs1
  iapply (le_wp_ret _ _ _ _ _)
  iapply Hk
  isplitl [HO]; · iexact HO
  isplitl [Ha]; · iexact Ha
  isplitl [Hd0 Hd1 Hd2]
  · isplitl [Hd2]; · iapply (barPay_dstA c 0); iexact Hd2
    isplitl [Hd1]; · iapply (barPay_dstA c 1); iexact Hd1
    iapply (barPay_dstA c 2); iexact Hd0
  isplitl [Hd3 Hd4 Hd5]
  · isplitl [Hd5]; · iapply (barPay_dstB c 0); iexact Hd5
    isplitl [Hd4]; · iapply (barPay_dstB c 1); iexact Hd4
    iapply (barPay_dstB c 2); iexact Hd3
  isplitl [Hvb]; · iexact Hvb
  isplitl [Hv1]; · iexact Hv1
  isplitl [Hs1] <;> iassumption

end Cert.KernelIdealProof

end
-- ==== Proof.KernelIdealPartsB.lean ====
/-
# `KernelIdealPartsB`: the two sums

The first phase sums the own quarter of the product over the plane, the second the own sixteenth of that over the planes.
-/
module

public import proofs.«01_k».proof.Proof.KernelIdealWaits
public import proofs.«01_k».proof.Proof.KernelIdealCalls

@[expose] public section

noncomputable section

namespace Cert.KernelIdealProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cix → ℕ)

/-! ## What landings bring -/

abbrev landA (c : Dev nD) (i : Fin 3) : sProp 𝕄 := pts c cc0_scratch6 (slotA (i.val + 1)) fullShare (spreadA (part m (P (kp 0 i) c) (rr c)))
abbrev freeQ (c : Dev nD) (i : Fin 3) : sProp 𝕄 := some_ (F := F) (P (kp 0 i) c) cc0_scratch5 (quarter (rr c))
abbrev landB (c : Dev nD) (i : Fin 3) : sProp 𝕄 := pts c cc0_scratch7 (slotB (i.val + 1)) fullShare (spreadB (sub m (P (kp 1 i) c) (zz c)))
abbrev freeS (c : Dev nD) (i : Fin 3) : sProp 𝕄 := some_ (F := F) (P (kp 1 i) c) cc0_scratch5 (sixteenth (rr c) (zz c))
abbrev shrS (c : Dev nD) (i : Fin 3) : sProp 𝕄 := pts c cc0_scratch5 (sixteenth (rr c) (zz c)) (sh i) (FIN m)
abbrev shrQ (c : Dev nD) (i : Fin 3) : sProp 𝕄 := pts c cc0_scratch5 (quarter (rr c)) (sh i) (FIN m)
abbrev gotS (c : Dev nD) (i : Fin 3) : sProp 𝕄 := pts c cc0_scratch5 (sixteenth (rr c) (zz (P (kp 2 i) c))) fullShare (FIN m)
abbrev gotQ (c : Dev nD) (i : Fin 3) : sProp 𝕄 := pts c cc0_scratch5 (quarter (rr (P (kp 3 i) c))) fullShare (FIN m)

theorem rr_kp1 : ∀ (i : Fin 3) (c : Dev nD), rr (P (kp 1 i) c) = rr c := by decide +kernel

/-! ## Waits, by what they wait for -/

section WaitsBy
variable {α : Type} {Q : α → sProp (MT nD τ sig Unit (Elt F) ℕ UU ℕ)} {kk : PUnit → Prog (TpuEff nD τ sig (Elt F) Λ₀ .tc) α}

theorem waitA (c : Dev nD) (k : Cix) (j : ℕ) (h : ∀ y ∈ payL.drop j, lvS (csem k) < lvS (csem y.2)) {sp' : Space} {o inb}
    {src : Memref sig .tc sp' S64x1024 .bf16} {q : DmaSem sig} (hq : csem k = .dma q) {hsrc hdst} (ht : tot k = (slotAM 1 inb_S4x64x1024_S1x64x1024_1_0_0).view.dmaCredit)
    {R : sProp 𝕄} (hR : rest m c k ⊢ R) :
    iprop(recs m K ∗ lvls ∗ ow c j ∗ crd c k ∗ pos c k)
      ⊢ iprop(((ow c j ∗ sv0 c k ∗ R) -∗ WP c (kk ⟨⟩) Q) -∗ WP c (.op (.waitDma2 q src (slotAM o inb) hsrc hdst) kk) Q) :=
  wait_at m K c k j h (src := src) (dst := slotAM o inb) (hsrc := hsrc) (hdst := hdst) hq ht.symm hR

theorem waitB (c : Dev nD) (k : Cix) (j : ℕ) (h : ∀ y ∈ payL.drop j, lvS (csem k) < lvS (csem y.2)) {sp' : Space} {o inb}
    {src : Memref sig .tc sp' S16x1024 .bf16} {q : DmaSem sig} (hq : csem k = .dma q) {hsrc hdst} (ht : tot k = (slotBM 1 inb_S4x16x1024_S1x16x1024_1_0_0).view.dmaCredit)
    {R : sProp 𝕄} (hR : rest m c k ⊢ R) :
    iprop(recs m K ∗ lvls ∗ ow c j ∗ crd c k ∗ pos c k)
      ⊢ iprop(((ow c j ∗ sv0 c k ∗ R) -∗ WP c (kk ⟨⟩) Q) -∗ WP c (.op (.waitDma2 q src (slotBM o inb) hsrc hdst) kk) Q) :=
  wait_at m K c k j h (src := src) (dst := slotBM o inb) (hsrc := hsrc) (hdst := hdst) hq ht.symm hR

theorem wait64 (c : Dev nD) (k : Cix) (j : ℕ) (h : ∀ y ∈ payL.drop j, lvS (csem k) < lvS (csem y.2)) {sp' : Space} {off inb}
    {src : Memref sig .tc sp' S64x1024 .bf16} {q : DmaSem sig} (hq : csem k = .dma q) {hsrc hdst} (ht : tot k = (rowsM64 (k0_off9 0) (k0_off9_inb 0)).view.dmaCredit)
    {R : sProp 𝕄} (hR : rest m c k ⊢ R) :
    iprop(recs m K ∗ lvls ∗ ow c j ∗ crd c k ∗ pos c k)
      ⊢ iprop(((ow c j ∗ sv0 c k ∗ R) -∗ WP c (kk ⟨⟩) Q) -∗ WP c (.op (.waitDma2 q src (rowsM64 off inb) hsrc hdst) kk) Q) :=
  wait_at m K c k j h (src := src) (dst := rowsM64 off inb) (hsrc := hsrc) (hdst := hdst) hq ht.symm hR

theorem wait16 (c : Dev nD) (k : Cix) (j : ℕ) (h : ∀ y ∈ payL.drop j, lvS (csem k) < lvS (csem y.2)) {sp' : Space} {off inb}
    {src : Memref sig .tc sp' S16x1024 .bf16} {q : DmaSem sig} (hq : csem k = .dma q) {hsrc hdst} (ht : tot k = (rowsM16 (k0_off8 0) (k0_off8_inb 0)).view.dmaCredit)
    {R : sProp 𝕄} (hR : rest m c k ⊢ R) :
    iprop(recs m K ∗ lvls ∗ ow c j ∗ crd c k ∗ pos c k)
      ⊢ iprop(((ow c j ∗ sv0 c k ∗ R) -∗ WP c (kk ⟨⟩) Q) -∗ WP c (.op (.waitDma2 q src (rowsM16 off inb) hsrc hdst) kk) Q) :=
  wait_at m K c k j h (src := src) (dst := rowsM16 off inb) (hsrc := hsrc) (hdst := hdst) hq ht.symm hR

theorem ld_landA (c : Dev nD) (i : Fin 3) {o : ℕ} (ho : o = i.val + 1) {inb} {h : tmpA.view.LoadsAt (Rect.unit (s := S4x64x1024) ![o, 0, 0] S1x64x1024.size inb).toLoadRect} {k'} :
    (landA m c i : sProp 𝕄)
      ⊢ iprop((landA m c i -∗ WP c (k' (liftA (part m (P (kp 0 i) c) (rr c)))) Q)
        -∗ WP c (.op (.load tmpA (Rect.unit (s := S4x64x1024) ![o, 0, 0] S1x64x1024.size inb).toLoadRect h) k') Q) := by
  subst ho
  exact ld_tmpA c

theorem ld_landB (c : Dev nD) (i : Fin 3) {o : ℕ} (ho : o = i.val + 1) {inb} {h : tmpB.view.LoadsAt (Rect.unit (s := S4x16x1024) ![o, 0, 0] S1x16x1024.size inb).toLoadRect} {k'} :
    (landB m c i : sProp 𝕄)
      ⊢ iprop((landB m c i -∗ WP c (k' (liftB (sub m (P (kp 1 i) c) (zz c)))) Q)
        -∗ WP c (.op (.load tmpB (Rect.unit (s := S4x16x1024) ![o, 0, 0] S1x16x1024.size inb).toLoadRect h) k') Q) := by
  subst ho
  exact ld_tmpB c

end WaitsBy

theorem rr_lt : ∀ c : Dev nD, rr c < 4 := by decide +kernel
theorem zz_lt : ∀ c : Dev nD, zz c < 4 := by decide +kernel

/-! ## One transfer of the first phase, and of the second -/

section Pieces
variable {α : Type} {Q : α → sProp (MT nD τ sig Unit (Elt F) ℕ UU ℕ)} {kk : PUnit → Prog (TpuEff nD τ sig (Elt F) Λ₀ .tc) α}
variable (c : Dev nD) (i : Fin 3) (j : ℕ) {sS sR : SemLoc sig}

theorem ph0 {n : Dev nD} (hn : n = P (kp 0 i) c) {off inb} (hoff : off = ![qoff (rr (P (kp 0 i) c)), 0]) {off' inb'} (hoff' : off' = ![qoff (rr (P (kp 0 i) c)), 0])
    {o : ℕ} (ho : o = i.rev.val + 1) {inb''} (hS : sS = csem (.snd 0 i)) (hR : sR = csem (.rcv 0 i.rev)) {hsc hsrc hdst hsem} {hx hm}
    {h1 : attnM.view.LoadsAt (Rect.unit (s := S256x1024) off S64x1024.size inb).toLoadRect} {h2 : outb.view.LoadsAt (Rect.unit (s := S256x1024) off S64x1024.size inb).toLoadRect}
    {pay : FVec F S1024x1024 .bf16 → FVec F S64x1024 .bf16 → FVec F S64x1024 .bf16} (hpay : pay = k0_pay18)
    (hj : (pays c).drop j = (kcell (P (kp 0 i) c, .rcv 0 i.rev), amt (.rcv 0 i.rev)) :: (pays c).drop (j + 1)) :
    iprop(recs m K ∗ ow c j ∗ pts c cc0_scratch0 Finset.univ fullShare (attn m c) ∗ some_ (F := F) c cc0_scratch5 (quarter (rr (P (kp 0 i) c)))
        ∗ dstA (F := F) c i ∗ sndIn c 0 i)
      ⊢ iprop(((ow c (j + 1) ∗ crd c (.snd 0 i) ∗ pts c cc0_scratch0 Finset.univ fullShare (attn m c)) -∗ WP c (kk ⟨⟩) Q)
          -∗ WP c (.op (.load (cs := .vmem) (e := .bf16) attnM (Rect.unit (s := S256x1024) off S64x1024.size inb).toLoadRect h1) fun (v : FVec F S64x1024 .bf16) =>
            .op (.load (cs := .vmem) (e := .bf16) outb (Rect.unit (s := S256x1024) off S64x1024.size inb).toLoadRect h2) fun _ =>
            .op (.store outb (Rect.unit (s := S256x1024) off S64x1024.size inb) (pay (wo m c) v) Finset.univ hx hm) fun _ =>
            .op (.enqueueDma (rowsM64 off' inb') (.remote (Dev.tc n : Thread nD τ) (slotAM o inb'') sS hsc) sR hsrc hdst hsem) kk) Q) := by
  subst hpay
  iintro ⟨#HR, HO, Ha, ⟨%f, Hs⟩, Hd, Ht, Ht'⟩ Hk
  iapply (ld_attn64 c (rr_lt (P (kp 0 i) c)) hoff) $$ Ha
  iintro Ha
  iapply (ld_outb64 c hoff) $$ Hs
  iintro Hs
  iapply (st_outb64 c hoff) $$ Hs
  iintro Hs
  iapply (send0 m K c i j hn hoff' ho hS hR hj) $$ [HO Hs Hd Ht Ht']
  · isplitr; · iexact HR
    isplitl [HO]; · iexact HO
    isplitl [Hs]; · iexact Hs
    isplitl [Hd]; · iexact Hd
    isplitl [Ht] <;> iassumption
  iintro ⟨HO, Hc⟩
  iapply Hk
  isplitl [HO]; · iexact HO
  isplitl [Hc] <;> iassumption

theorem ph1 {n : Dev nD} (hn : n = P (kp 1 i) c) {off inb} (hoff : off = ![soff (rr c) (zz (P (kp 1 i) c)), 0]) {off' inb'} (hoff' : off' = ![soff (rr c) (zz (P (kp 1 i) c)), 0])
    {o : ℕ} (ho : o = i.rev.val + 1) {inb''} (hS : sS = csem (.snd 1 i)) (hR : sR = csem (.rcv 1 i.rev)) {hsc hsrc hdst hsem} {hx hm}
    {h2 : outb.view.LoadsAt (Rect.unit (s := S256x1024) off S16x1024.size inb).toLoadRect}
    {w : FVec F S16x1024 .bf16} (hw : w = sub m c (zz (P (kp 1 i) c)))
    (hj : (pays c).drop j = (kcell (P (kp 1 i) c, .rcv 1 i.rev), amt (.rcv 1 i.rev)) :: (pays c).drop (j + 1)) :
    iprop(recs m K ∗ ow c j ∗ some_ (F := F) c cc0_scratch5 (sixteenth (rr c) (zz (P (kp 1 i) c))) ∗ dstB (F := F) c i ∗ sndIn c 1 i)
      ⊢ iprop(((ow c (j + 1) ∗ crd c (.snd 1 i)) -∗ WP c (kk ⟨⟩) Q)
          -∗ WP c (.op (.load (cs := .vmem) (e := .bf16) outb (Rect.unit (s := S256x1024) off S16x1024.size inb).toLoadRect h2) fun _ =>
            .op (.store outb (Rect.unit (s := S256x1024) off S16x1024.size inb) w Finset.univ hx hm) fun _ =>
            .op (.enqueueDma (rowsM16 off' inb') (.remote (Dev.tc n : Thread nD τ) (slotBM o inb'') sS hsc) sR hsrc hdst hsem) kk) Q) := by
  subst hw
  iintro ⟨#HR, HO, ⟨%f, Hs⟩, Hd, Ht, Ht'⟩ Hk
  iapply (ld_outb16 c hoff) $$ Hs
  iintro Hs
  iapply (st_outb16 c hoff) $$ Hs
  iintro Hs
  iapply (send1 m K c i j hn hoff' ho hS hR hj (rr_kp1 i c)) $$ [HO Hs Hd Ht Ht']
  · isplitr; · iexact HR
    isplitl [HO]; · iexact HO
    isplitl [Hs]; · iexact Hs
    isplitl [Hd]; · iexact Hd
    isplitl [Ht] <;> iassumption
  iexact Hk

end Pieces

/-! ## The first phase -/

theorem part9 (c : Dev nD) (v26 v44 v304 v306) (Q) :
    iprop(recs m K ∗ lvls ∗ ow c 6 ∗ pts c cc0_scratch0 Finset.univ fullShare (attn m c) ∗ some_ (F := F) c cc0_scratch5 (quarter (rr (P (kp 0 0) c))) ∗ dstA (F := F) c 0 ∗ sndIn c 0 0)
      ⊢ iprop((∀ r, (ow c 7 ∗ crd c (.snd 0 0) ∗ pts c cc0_scratch0 Finset.univ fullShare (attn m c)) -∗ Q r) -∗ WP c (B9 (F := F) c v26 v44 (wo m c) v304 v306) Q) := by
  unfold B9; rw [k0_part9_eq_skeleton]; unfold k0_part9_skel
  simp only [semSignalWord, semWaitWord, Prog.lift, Prog.bind_op, Prog.bind_ret, Prog.pure_eq_ret, wp_deviceId]
  iintro ⟨#HR, #HL, HO, Ha, Hs, Hd, Ht⟩ Hk
  iapply (ph0 m K c 0 6 (dev7_eq c) (off2_eq c 0) (off3_eq c 0) rfl rfl rfl rfl rfl) $$ [HO Ha Hs Hd Ht]
  · isplitr; · iexact HR
    isplitl [HO]; · iexact HO
    isplitl [Ha]; · iexact Ha
    isplitl [Hs]; · iexact Hs
    isplitl [Hd] <;> iassumption
  iintro ⟨HO, Hc, Ha⟩
  iapply (le_wp_ret _ _ _ _ _)
  iapply Hk
  isplitl [HO]; · iexact HO
  isplitl [Hc]; · iexact Hc
  iexact Ha

theorem part10 (c : Dev nD) (v26 v44 v337 v338 v339 v340 v341) (Q) :
    iprop(recs m K ∗ lvls ∗ ow c 7 ∗ pts c cc0_scratch0 Finset.univ fullShare (attn m c) ∗ some_ (F := F) c cc0_scratch5 (quarter (rr (P (kp 0 1) c))) ∗ dstA (F := F) c 1 ∗ sndIn c 0 1)
      ⊢ iprop((∀ r, (ow c 8 ∗ crd c (.snd 0 1) ∗ pts c cc0_scratch0 Finset.univ fullShare (attn m c)) -∗ Q r) -∗ WP c (B10 (F := F) c v26 v44 (wo m c) v337 v338 v339 v340 v341) Q) := by
  unfold B10; rw [k0_part10_eq_skeleton]; unfold k0_part10_skel
  simp only [semSignalWord, semWaitWord, Prog.lift, Prog.bind_op, Prog.bind_ret, Prog.pure_eq_ret, wp_deviceId]
  iintro ⟨#HR, #HL, HO, Ha, Hs, Hd, Ht⟩ Hk
  iapply (ph0 m K c 1 7 (dev8_eq c) (off2_eq c 1) (off3_eq c 1) rfl rfl rfl rfl rfl) $$ [HO Ha Hs Hd Ht]
  · isplitr; · iexact HR
    isplitl [HO]; · iexact HO
    isplitl [Ha]; · iexact Ha
    isplitl [Hs]; · iexact Hs
    isplitl [Hd] <;> iassumption
  iintro ⟨HO, Hc, Ha⟩
  iapply (le_wp_ret _ _ _ _ _)
  iapply Hk
  isplitl [HO]; · iexact HO
  isplitl [Hc]; · iexact Hc
  iexact Ha

theorem part11 (c : Dev nD) (v44 v120 v324 v376 v377) (Q) :
    iprop(recs m K ∗ lvls ∗ ow c 8 ∗ pts c cc0_scratch0 Finset.univ fullShare (attn m c) ∗ some_ (F := F) c cc0_scratch5 (quarter (rr (P (kp 0 2) c))) ∗ dstA (F := F) c 2 ∗ sndIn c 0 2 ∗ some_ (F := F) c cc0_stg1_0 (quarter (rr c)) ∗ (crd c (.snd 0 0) ∗ pos c (.snd 0 0)))
      ⊢ iprop((∀ r, (ow c 9 ∗ crd c (.snd 0 2) ∗ pts c cc0_scratch0 Finset.univ fullShare (attn m c) ∗ pts c cc0_stg1_0 (quarter (rr c)) fullShare (spreadQ (own m c)) ∗ sv0 c (.snd 0 0)) -∗ Q r)
          -∗ WP c (B11 (F := F) c v44 v120 (wo m c) v324 v376 v377) Q) := by
  unfold B11; rw [k0_part11_eq_skeleton]; unfold k0_part11_skel
  simp only [semSignalWord, semWaitWord, Prog.lift, Prog.bind_op, Prog.bind_ret, Prog.pure_eq_ret, wp_deviceId]
  iintro ⟨#HR, #HL, HO, Ha, Hs, Hd, Ht, ⟨%f, H5⟩, ⟨Hcs00, Hps00⟩⟩ Hk
  iapply (ph0 m K c 2 8 (dev9_eq c) (off2_eq c 2) (off3_eq c 2) rfl rfl rfl rfl rfl) $$ [HO Ha Hs Hd Ht]
  · isplitr; · iexact HR
    isplitl [HO]; · iexact HO
    isplitl [Ha]; · iexact Ha
    isplitl [Hs]; · iexact Hs
    isplitl [Hd] <;> iassumption
  iintro ⟨HO, Hc, Ha⟩
  iapply (ld_attn64 c (rr_lt c) (off4_eq c)) $$ Ha
  iintro Ha
  iapply (ld_o5_any c (subset_of_eq (set_rows (h := 64) (off4_eq c) _))) $$ H5
  iintro H5
  iapply (st_o5_64 c (off4_eq c)) $$ H5
  iintro H5
  iapply (wait64 m K c (.snd 0 0) 9 (by decide +kernel) rfl rfl (R := iprop(emp)) (BI.Entails.refl _)) $$ [HO Hcs00 Hps00]
  · isplitr; · iexact HR
    isplitr; · iexact HL
    isplitl [HO]; · iexact HO
    isplitl [Hcs00] <;> iassumption
  iintro ⟨HO, Hvs00, -⟩
  iapply (le_wp_ret _ _ _ _ _)
  iapply Hk
  isplitl [HO]; · iexact HO
  isplitl [Hc]; · iexact Hc
  isplitl [Ha]; · iexact Ha
  isplitl [H5]; · iexact H5
  iexact Hvs00

theorem part12 (c : Dev nD) (v355 v386 v407 c0) (Q) :
    iprop(recs m K ∗ lvls ∗ ow c 9 ∗ (crd c (.rcv 0 2) ∗ pos c (.rcv 0 2)) ∗ (crd c (.snd 0 1) ∗ pos c (.snd 0 1)) ∗ (crd c (.rcv 0 1) ∗ pos c (.rcv 0 1)) ∗ (crd c (.snd 0 2) ∗ pos c (.snd 0 2)))
      ⊢ iprop((∀ r, (ow c 9 ∗ sv0 c (.rcv 0 2) ∗ landA m c 2 ∗ freeQ (F := F) c 2 ∗ sv0 c (.snd 0 1) ∗ sv0 c (.rcv 0 1) ∗ landA m c 1 ∗ freeQ (F := F) c 1 ∗ sv0 c (.snd 0 2)) -∗ Q r)
          -∗ WP c (B12 (F := F) c v355 v386 v407 c0) Q) := by
  unfold B12; rw [k0_part12_eq_skeleton]; unfold k0_part12_skel
  simp only [semSignalWord, semWaitWord, Prog.lift, Prog.bind_op, Prog.bind_ret, Prog.pure_eq_ret, wp_deviceId]
  iintro ⟨#HR, #HL, HO, ⟨Hcr02, Hpr02⟩, ⟨Hcs01, Hps01⟩, ⟨Hcr01, Hpr01⟩, ⟨Hcs02, Hps02⟩⟩ Hk
  iapply (waitA m K c (.rcv 0 2) 9 (by decide +kernel) rfl rfl (R := iprop(landA m c 2 ∗ freeQ (F := F) c 2)) (BI.Entails.refl _)) $$ [HO Hcr02 Hpr02]
  · isplitr; · iexact HR
    isplitr; · iexact HL
    isplitl [HO]; · iexact HO
    isplitl [Hcr02] <;> iassumption
  iintro ⟨HO, Hvr02, ⟨Hl2, Hf2⟩⟩
  iapply (wait64 m K c (.snd 0 1) 9 (by decide +kernel) rfl rfl (R := iprop(emp)) (BI.Entails.refl _)) $$ [HO Hcs01 Hps01]
  · isplitr; · iexact HR
    isplitr; · iexact HL
    isplitl [HO]; · iexact HO
    isplitl [Hcs01] <;> iassumption
  iintro ⟨HO, Hvs01, -⟩
  iapply (waitA m K c (.rcv 0 1) 9 (by decide +kernel) rfl rfl (R := iprop(landA m c 1 ∗ freeQ (F := F) c 1)) (BI.Entails.refl _)) $$ [HO Hcr01 Hpr01]
  · isplitr; · iexact HR
    isplitr; · iexact HL
    isplitl [HO]; · iexact HO
    isplitl [Hcr01] <;> iassumption
  iintro ⟨HO, Hvr01, ⟨Hl1, Hf1⟩⟩
  iapply (wait64 m K c (.snd 0 2) 9 (by decide +kernel) rfl rfl (R := iprop(emp)) (BI.Entails.refl _)) $$ [HO Hcs02 Hps02]
  · isplitr; · iexact HR
    isplitr; · iexact HL
    isplitl [HO]; · iexact HO
    isplitl [Hcs02] <;> iassumption
  iintro ⟨HO, Hvs02, -⟩
  iapply (le_wp_ret _ _ _ _ _)
  iapply Hk
  isplitl [HO]; · iexact HO
  isplitl [Hvr02]; · iexact Hvr02
  isplitl [Hl2]; · iexact Hl2
  isplitl [Hf2]; · iexact Hf2
  isplitl [Hvs01]; · iexact Hvs01
  isplitl [Hvr01]; · iexact Hvr01
  isplitl [Hl1]; · iexact Hl1
  isplitl [Hf1]; · iexact Hf1
  iexact Hvs02

theorem part13 (c : Dev nD) (v43 v120) (Q) :
    iprop(recs m K ∗ lvls ∗ ow c 9 ∗ (crd c (.rcv 0 0) ∗ pos c (.rcv 0 0)) ∗ pts c cc0_stg1_0 (quarter (rr c)) fullShare (spreadQ (own m c)) ∗ landA m c 1 ∗ landA m c 2)
      ⊢ iprop((∀ r, (ow c 9 ∗ sv0 c (.rcv 0 0) ∗ pts c cc0_stg1_0 (quarter (rr c)) fullShare (spreadQ (red1 m c)) ∗ landA m c 0 ∗ freeQ (F := F) c 0 ∗ landA m c 1 ∗ landA m c 2) -∗ Q r)
          -∗ WP c (B13 (F := F) c v43 v120) Q) := by
  unfold B13; rw [k0_part13_eq_skeleton]; unfold k0_part13_skel
  simp only [semSignalWord, semWaitWord, Prog.lift, Prog.bind_op, Prog.bind_ret, Prog.pure_eq_ret, wp_deviceId]
  iintro ⟨#HR, #HL, HO, ⟨Hcr00, Hpr00⟩, H5, Hl1, Hl2⟩ Hk
  iapply (waitA m K c (.rcv 0 0) 9 (by decide +kernel) rfl rfl (R := iprop(landA m c 0 ∗ freeQ (F := F) c 0)) (BI.Entails.refl _)) $$ [HO Hcr00 Hpr00]
  · isplitr; · iexact HR
    isplitr; · iexact HL
    isplitl [HO]; · iexact HO
    isplitl [Hcr00] <;> iassumption
  iintro ⟨HO, Hvr00, ⟨Hl0, Hf0⟩⟩
  iapply (ld_o5_64 c (off4_eq c)) $$ H5
  iintro H5
  iapply (ld_landA m c 0 (o := 1) rfl) $$ Hl0
  iintro Hl0
  iapply (ld_landA m c 1 (o := 2) rfl) $$ Hl1
  iintro Hl1
  iapply (ld_landA m c 2 (o := 3) rfl) $$ Hl2
  iintro Hl2
  iapply (ld_o5_64 c (off4_eq c)) $$ H5
  iintro H5
  iapply (st_o5_64 c (off4_eq c)) $$ H5
  iintro H5
  iapply (le_wp_ret _ _ _ _ _)
  iapply Hk
  isplitl [HO]; · iexact HO
  isplitl [Hvr00]; · iexact Hvr00
  isplitl [H5]; · iexact H5
  isplitl [Hl0]; · iexact Hl0
  isplitl [Hf0]; · iexact Hf0
  isplitl [Hl1]; · iexact Hl1
  iexact Hl2

/-! ## The second phase -/

theorem part14 (c : Dev nD) (v26 v43 v120 v465) (Q) :
    iprop(recs m K ∗ lvls ∗ ow c 9 ∗ some_ (F := F) c cc0_scratch5 (sixteenth (rr c) (zz (P (kp 1 0) c))) ∗ dstB (F := F) c 0 ∗ sndIn c 1 0 ∗ pts c cc0_stg1_0 (quarter (rr c)) fullShare (spreadQ (red1 m c)))
      ⊢ iprop((∀ a, ∀ b, (ow c 10 ∗ crd c (.snd 1 0) ∗ pts c cc0_stg1_0 (quarter (rr c)) fullShare (spreadQ (red1 m c))) -∗ Q ⟨a, b, sixteenthOf (red1 m c) (zz (P 4 c))⟩)
          -∗ WP c (B14 (F := F) c v26 v43 v120 v465) Q) := by
  unfold B14; rw [k0_part14_eq_skeleton]; unfold k0_part14_skel
  simp only [semSignalWord, semWaitWord, Prog.lift, Prog.bind_op, Prog.bind_ret, Prog.pure_eq_ret, wp_deviceId]
  iintro ⟨#HR, #HL, HO, Hs, Hd, Ht, H5⟩ Hk
  iapply (ld_o5_16 c (zz_lt (P 3 c)) (off5_eq c 0)) $$ H5
  iintro H5
  iapply (ph1 m K c 0 9 (dev10_eq c) (off5_eq c 0) (off6_eq c 0) rfl rfl rfl rfl rfl) $$ [HO Hs Hd Ht]
  · isplitr; · iexact HR
    isplitl [HO]; · iexact HO
    isplitl [Hs]; · iexact Hs
    isplitl [Hd] <;> iassumption
  iintro ⟨HO, Hc⟩
  iapply (ld_o5_16 c (zz_lt (P 4 c)) (off5_eq c 1)) $$ H5
  iintro H5
  iapply (le_wp_ret _ _ _ _ _)
  iapply Hk
  isplitl [HO]; · iexact HO
  isplitl [Hc]; · iexact Hc
  iexact H5

theorem part15 (c : Dev nD) (v26 v43 v120 v501) (Q) :
    iprop(recs m K ∗ lvls ∗ ow c 10 ∗ some_ (F := F) c cc0_scratch5 (sixteenth (rr c) (zz (P (kp 1 1) c))) ∗ dstB (F := F) c 1 ∗ sndIn c 1 1 ∗ pts c cc0_stg1_0 (quarter (rr c)) fullShare (spreadQ (red1 m c)))
      ⊢ iprop((∀ a, ∀ b, (ow c 11 ∗ crd c (.snd 1 1) ∗ pts c cc0_stg1_0 (quarter (rr c)) fullShare (spreadQ (red1 m c))) -∗ Q ⟨a, b, k0_pay25 (sixteenthOf (red1 m c) (zz (P 5 c)))⟩)
          -∗ WP c (B15 (F := F) c v26 v43 v120 v501 (sixteenthOf (red1 m c) (zz (P 4 c)))) Q) := by
  unfold B15; rw [k0_part15_eq_skeleton]; unfold k0_part15_skel
  simp only [semSignalWord, semWaitWord, Prog.lift, Prog.bind_op, Prog.bind_ret, Prog.pure_eq_ret, wp_deviceId]
  iintro ⟨#HR, #HL, HO, Hs, Hd, Ht, H5⟩ Hk
  iapply (ph1 m K c 1 10 (dev11_eq c) (off5_eq c 1) (off6_eq c 1) rfl rfl rfl rfl rfl) $$ [HO Hs Hd Ht]
  · isplitr; · iexact HR
    isplitl [HO]; · iexact HO
    isplitl [Hs]; · iexact Hs
    isplitl [Hd] <;> iassumption
  iintro ⟨HO, Hc⟩
  iapply (ld_o5_16 c (zz_lt (P 5 c)) (off5_eq c 2)) $$ H5
  iintro H5
  iapply (le_wp_ret _ _ _ _ _)
  iapply Hk
  isplitl [HO]; · iexact HO
  isplitl [Hc]; · iexact Hc
  iexact H5

theorem part16 (c : Dev nD) (v26 v120 v479 v537) (Q) :
    iprop(recs m K ∗ lvls ∗ ow c 11 ∗ some_ (F := F) c cc0_scratch5 (sixteenth (rr c) (zz (P (kp 1 2) c))) ∗ dstB (F := F) c 2 ∗ sndIn c 1 2 ∗ (crd c (.snd 1 0) ∗ pos c (.snd 1 0)))
      ⊢ iprop((∀ r, (ow c 12 ∗ crd c (.snd 1 2) ∗ sv0 c (.snd 1 0)) -∗ Q r)
          -∗ WP c (B16 (F := F) c v26 v120 v479 v537 (k0_pay25 (sixteenthOf (red1 m c) (zz (P 5 c))))) Q) := by
  unfold B16; rw [k0_part16_eq_skeleton]; unfold k0_part16_skel
  simp only [semSignalWord, semWaitWord, Prog.lift, Prog.bind_op, Prog.bind_ret, Prog.pure_eq_ret, wp_deviceId]
  iintro ⟨#HR, #HL, HO, Hs, Hd, Ht, ⟨Hcs10, Hps10⟩⟩ Hk
  iapply (ph1 m K c 2 11 (dev12_eq c) (off5_eq c 2) (off6_eq c 2) rfl rfl rfl rfl rfl) $$ [HO Hs Hd Ht]
  · isplitr; · iexact HR
    isplitl [HO]; · iexact HO
    isplitl [Hs]; · iexact Hs
    isplitl [Hd] <;> iassumption
  iintro ⟨HO, Hc⟩
  iapply (wait16 m K c (.snd 1 0) 12 (by decide +kernel) rfl rfl (R := iprop(emp)) (BI.Entails.refl _)) $$ [HO Hcs10 Hps10]
  · isplitr; · iexact HR
    isplitr; · iexact HL
    isplitl [HO]; · iexact HO
    isplitl [Hcs10] <;> iassumption
  iintro ⟨HO, Hvs10, -⟩
  iapply (le_wp_ret _ _ _ _ _)
  iapply Hk
  isplitl [HO]; · iexact HO
  isplitl [Hc]; · iexact Hc
  iexact Hvs10

theorem part17 (c : Dev nD) (v515 v551) (Q) :
    iprop(recs m K ∗ lvls ∗ ow c 12 ∗ (crd c (.rcv 1 2) ∗ pos c (.rcv 1 2)) ∗ (crd c (.snd 1 1) ∗ pos c (.snd 1 1)) ∗ (crd c (.rcv 1 1) ∗ pos c (.rcv 1 1)) ∗ (crd c (.snd 1 2) ∗ pos c (.snd 1 2)))
      ⊢ iprop((∀ r, (ow c 12 ∗ sv0 c (.rcv 1 2) ∗ landB m c 2 ∗ freeS (F := F) c 2 ∗ sv0 c (.snd 1 1) ∗ sv0 c (.rcv 1 1) ∗ landB m c 1 ∗ freeS (F := F) c 1 ∗ sv0 c (.snd 1 2)) -∗ Q r)
          -∗ WP c (B17 (F := F) c v515 v551) Q) := by
  unfold B17; rw [k0_part17_eq_skeleton]; unfold k0_part17_skel
  simp only [semSignalWord, semWaitWord, Prog.lift, Prog.bind_op, Prog.bind_ret, Prog.pure_eq_ret, wp_deviceId]
  iintro ⟨#HR, #HL, HO, ⟨Hcr12, Hpr12⟩, ⟨Hcs11, Hps11⟩, ⟨Hcr11, Hpr11⟩, ⟨Hcs12, Hps12⟩⟩ Hk
  iapply (waitB m K c (.rcv 1 2) 12 (by decide +kernel) rfl rfl (R := iprop(landB m c 2 ∗ freeS (F := F) c 2)) (BI.Entails.refl _)) $$ [HO Hcr12 Hpr12]
  · isplitr; · iexact HR
    isplitr; · iexact HL
    isplitl [HO]; · iexact HO
    isplitl [Hcr12] <;> iassumption
  iintro ⟨HO, Hvr12, ⟨Hl2, Hf2⟩⟩
  iapply (wait16 m K c (.snd 1 1) 12 (by decide +kernel) rfl rfl (R := iprop(emp)) (BI.Entails.refl _)) $$ [HO Hcs11 Hps11]
  · isplitr; · iexact HR
    isplitr; · iexact HL
    isplitl [HO]; · iexact HO
    isplitl [Hcs11] <;> iassumption
  iintro ⟨HO, Hvs11, -⟩
  iapply (waitB m K c (.rcv 1 1) 12 (by decide +kernel) rfl rfl (R := iprop(landB m c 1 ∗ freeS (F := F) c 1)) (BI.Entails.refl _)) $$ [HO Hcr11 Hpr11]
  · isplitr; · iexact HR
    isplitr; · iexact HL
    isplitl [HO]; · iexact HO
    isplitl [Hcr11] <;> iassumption
  iintro ⟨HO, Hvr11, ⟨Hl1, Hf1⟩⟩
  iapply (wait16 m K c (.snd 1 2) 12 (by decide +kernel) rfl rfl (R := iprop(emp)) (BI.Entails.refl _)) $$ [HO Hcs12 Hps12]
  · isplitr; · iexact HR
    isplitr; · iexact HL
    isplitl [HO]; · iexact HO
    isplitl [Hcs12] <;> iassumption
  iintro ⟨HO, Hvs12, -⟩
  iapply (le_wp_ret _ _ _ _ _)
  iapply Hk
  isplitl [HO]; · iexact HO
  isplitl [Hvr12]; · iexact Hvr12
  isplitl [Hl2]; · iexact Hl2
  isplitl [Hf2]; · iexact Hf2
  isplitl [Hvs11]; · iexact Hvs11
  isplitl [Hvr11]; · iexact Hvr11
  isplitl [Hl1]; · iexact Hl1
  isplitl [Hf1]; · iexact Hf1
  iexact Hvs12

theorem part18 (c : Dev nD) (v43 v122) (Q) :
    iprop(recs m K ∗ lvls ∗ ow c 12 ∗ (crd c (.rcv 1 0) ∗ pos c (.rcv 1 0)) ∗ pts c cc0_stg1_0 (quarter (rr c)) fullShare (spreadQ (red1 m c)) ∗ landB m c 1 ∗ landB m c 2 ∗ some_ (F := F) c cc0_scratch5 (sixteenth (rr c) (zz c)))
      ⊢ iprop((∀ r, (ow c 12 ∗ sv0 c (.rcv 1 0) ∗ some_ (F := F) c cc0_stg1_0 (quarter (rr c)) ∗ landB m c 0 ∗ freeS (F := F) c 0 ∗ landB m c 1 ∗ landB m c 2
            ∗ pts c cc0_scratch5 (sixteenth (rr c) (zz c)) fullShare (FIN m)) -∗ Q r)
          -∗ WP c (B18 (F := F) c v43 v122) Q) := by
  unfold B18; rw [k0_part18_eq_skeleton]; unfold k0_part18_skel
  simp only [semSignalWord, semWaitWord, Prog.lift, Prog.bind_op, Prog.bind_ret, Prog.pure_eq_ret, wp_deviceId]
  iintro ⟨#HR, #HL, HO, ⟨Hcr10, Hpr10⟩, H5, Hl1, Hl2, ⟨%f, Hs⟩⟩ Hk
  iapply (waitB m K c (.rcv 1 0) 12 (by decide +kernel) rfl rfl (R := iprop(landB m c 0 ∗ freeS (F := F) c 0)) (BI.Entails.refl _)) $$ [HO Hcr10 Hpr10]
  · isplitr; · iexact HR
    isplitr; · iexact HL
    isplitl [HO]; · iexact HO
    isplitl [Hcr10] <;> iassumption
  iintro ⟨HO, Hvr10, ⟨Hl0, Hf0⟩⟩
  iapply (ld_o5_16 c (zz_lt c) (off7_eq c)) $$ H5
  iintro H5
  iapply (ld_landB m c 0 (o := 1) rfl) $$ Hl0
  iintro Hl0
  iapply (ld_landB m c 1 (o := 2) rfl) $$ Hl1
  iintro Hl1
  iapply (ld_landB m c 2 (o := 3) rfl) $$ Hl2
  iintro Hl2
  iapply (ld_o5_16 c (zz_lt c) (off7_eq c)) $$ H5
  iintro H5
  ihave H5 := (pointsTo_split_subset (sixteenth_sub (q := rr c) (zz_lt c))).1 $$ H5
  icases H5 with ⟨H5, H5r⟩
  iapply (st_o5_16 c (off7_eq c)) $$ H5
  iintro H5
  iapply (ld_o5_s c (off7_eq c)) $$ H5
  iintro H5
  ihave H5 := (pointsTo_join_subset (ℓ := (c : Thread nD τ).loc cc0_stg1_0) (sixteenth_sub (q := rr c) (zz_lt c))) $$ [H5 H5r]
  · isplitl [H5] <;> iassumption
  iapply (ld_outb16 c (off7_eq c)) $$ Hs
  iintro Hs
  iapply (st_outb16 c (off7_eq c)) $$ Hs
  iintro Hs
  iapply (le_wp_ret _ _ _ _ _)
  iapply Hk
  isplitl [HO]; · iexact HO
  isplitl [Hvr10]; · iexact Hvr10
  isplitl [H5]; · iexists _; iexact H5
  isplitl [Hl0]; · iexact Hl0
  isplitl [Hf0]; · iexact Hf0
  isplitl [Hl1]; · iexact Hl1
  isplitl [Hl2]; · iexact Hl2
  iapply (Entails.of_eq (pointsTo_congr (FIN_eq_on m c)))
  iexact Hs

end Cert.KernelIdealProof

end
-- ==== Proof.KernelIdealPieces.lean ====
/-
# `KernelIdealPieces`: a buffer in its parts

A buffer in four parts of its elements, or in three shares, and back.
-/
module

public import proofs.«01_k».proof.Proof.KernelIdealPartsB

@[expose] public section

noncomputable section

namespace Cert.KernelIdealProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cix → ℕ)

/-! ## A set in four parts -/

/-- `S` is the disjoint union of `A`, `B`, `C` and `D`. -/
structure Quad {ι : Type} [DecidableEq ι] (S A B C D : Finset ι) : Prop where
  eq : S = A ∪ (B ∪ (C ∪ D))
  d1 : Disjoint A (B ∪ (C ∪ D))
  d2 : Disjoint B (C ∪ D)
  d3 : Disjoint C D

theorem Quad.of {ι : Type} [DecidableEq ι] {S A B C D : Finset ι} (g : ι → ℕ) (a b c d : ℕ) (hne : a ≠ b ∧ a ≠ c ∧ a ≠ d ∧ b ≠ c ∧ b ≠ d ∧ c ≠ d)
    (hA : ∀ i, i ∈ A ↔ i ∈ S ∧ g i = a) (hB : ∀ i, i ∈ B ↔ i ∈ S ∧ g i = b) (hC : ∀ i, i ∈ C ↔ i ∈ S ∧ g i = c) (hD : ∀ i, i ∈ D ↔ i ∈ S ∧ g i = d)
    (hS : ∀ i ∈ S, g i = a ∨ g i = b ∨ g i = c ∨ g i = d) : Quad S A B C D := by
  obtain ⟨h1, h2, h3, h4, h5, h6⟩ := hne
  refine ⟨?_, ?_, ?_, ?_⟩
  · ext i
    simp only [Finset.mem_union, hA, hB, hC, hD]
    constructor
    · intro h; rcases hS i h with e | e | e | e <;> simp [h, e]
    · rintro (h | h | h | h) <;> exact h.1
  all_goals
    rw [Finset.disjoint_left]
    intro i hi
    simp only [Finset.mem_union, hA, hB, hC, hD] at hi ⊢
    rintro h
    omega

theorem four_lt (a b c d : ℕ) (ha : a < 4) (hb : b < 4) (hc : c < 4) (hd : d < 4) (hne : a ≠ b ∧ a ≠ c ∧ a ≠ d ∧ b ≠ c ∧ b ≠ d ∧ c ≠ d) {n : ℕ} (h : n < 4) :
    n = a ∨ n = b ∨ n = c ∨ n = d := by omega

theorem rr_ne : ∀ c : Dev nD, rr c ≠ rr (P 0 c) ∧ rr c ≠ rr (P 1 c) ∧ rr c ≠ rr (P 2 c) ∧ rr (P 0 c) ≠ rr (P 1 c) ∧ rr (P 0 c) ≠ rr (P 2 c) ∧ rr (P 1 c) ≠ rr (P 2 c) := by
  decide +kernel
theorem zz_ne : ∀ c : Dev nD, zz c ≠ zz (P 3 c) ∧ zz c ≠ zz (P 4 c) ∧ zz c ≠ zz (P 5 c) ∧ zz (P 3 c) ≠ zz (P 4 c) ∧ zz (P 3 c) ≠ zz (P 5 c) ∧ zz (P 4 c) ≠ zz (P 5 c) := by
  decide +kernel

/-- The whole buffer in quarters: the own one and the three partners'. -/
theorem quad_quarters (c : Dev nD) : Quad (Finset.univ : Finset S256x1024.Idx) (quarter (rr c)) (quarter (rr (P 0 c))) (quarter (rr (P 1 c))) (quarter (rr (P 2 c))) := by
  have hq : ∀ q, ∀ i : S256x1024.Idx, i ∈ quarter q ↔ i ∈ Finset.univ ∧ (i 0).val / 64 = q := fun q i => by
    rw [mem_rows]; simp only [qoff, Finset.mem_univ, true_and]; omega
  refine Quad.of (fun i => (i 0).val / 64) _ _ _ _ (rr_ne c) (hq _) (hq _) (hq _) (hq _) fun i _ => ?_
  refine four_lt _ _ _ _ (rr_lt _) (rr_lt _) (rr_lt _) (rr_lt _) (rr_ne c) ?_
  have : (i 0).val < 256 := (i 0).isLt
  omega

/-- The own quarter in sixteenths: the own one and the three partners'. -/
theorem quad_sixteenths (c : Dev nD) : Quad (quarter (rr c)) (sixteenth (rr c) (zz c)) (sixteenth (rr c) (zz (P 3 c))) (sixteenth (rr c) (zz (P 4 c))) (sixteenth (rr c) (zz (P 5 c))) := by
  have hq : ∀ z, z < 4 → ∀ i : S256x1024.Idx, i ∈ sixteenth (rr c) z ↔ i ∈ quarter (rr c) ∧ (i 0).val / 16 % 4 = z := fun z hz i => by
    rw [mem_rows, mem_rows]; simp only [qoff, soff]; generalize rr c = q; generalize (i 0).val = x; omega
  refine Quad.of (fun i => (i 0).val / 16 % 4) _ _ _ _ (zz_ne c) (hq _ (zz_lt _)) (hq _ (zz_lt _)) (hq _ (zz_lt _)) (hq _ (zz_lt _)) fun i _ => ?_
  exact four_lt _ _ _ _ (zz_lt _) (zz_lt _) (zz_lt _) (zz_lt _) (zz_ne c) (Nat.mod_lt _ (by decide))

theorem quad_slotA : Quad (Finset.univ : Finset S4x64x1024.Idx) (slotA 1) (slotA 2) (slotA 3) (slotA 0) :=
  Quad.of (fun i => (i 0).val) 1 2 3 0 (by decide) (fun i => by simp [mem_slotA]) (fun i => by simp [mem_slotA]) (fun i => by simp [mem_slotA]) (fun i => by simp [mem_slotA])
    fun i _ => by have : (i 0).val < 4 := (i 0).isLt; omega

theorem quad_slotB : Quad (Finset.univ : Finset S4x16x1024.Idx) (slotB 1) (slotB 2) (slotB 3) (slotB 0) :=
  Quad.of (fun i => (i 0).val) 1 2 3 0 (by decide) (fun i => by simp [mem_slotB]) (fun i => by simp [mem_slotB]) (fun i => by simp [mem_slotB]) (fun i => by simp [mem_slotB])
    fun i _ => by have : (i 0).val < 4 := (i 0).isLt; omega

section Four
variable {c : Dev nD} {b : Ref sig .tc} {S A B C D : Finset ((c : Thread nD τ).loc b).ty.shape.Idx} {q : PosShare TreeShare}

theorem pts_four (h : Quad S A B C D) (f : Buf (Elt F) ((c : Thread nD τ).loc b)) :
    (pts c b S q f : sProp 𝕄) ⊢ iprop(pts c b A q f ∗ pts c b B q f ∗ pts c b C q f ∗ pts c b D q f) := by
  rw [h.eq]
  iintro H
  ihave H := (pointsTo_union (ℓ := (c : Thread nD τ).loc b) h.d1).1 $$ H
  icases H with ⟨HA, H⟩
  ihave H := (pointsTo_union (ℓ := (c : Thread nD τ).loc b) h.d2).1 $$ H
  icases H with ⟨HB, H⟩
  ihave H := (pointsTo_union (ℓ := (c : Thread nD τ).loc b) h.d3).1 $$ H
  icases H with ⟨HC, HD⟩
  isplitl [HA]; · iexact HA
  isplitl [HB]; · iexact HB
  isplitl [HC] <;> iassumption

theorem pts_of_four (h : Quad S A B C D) (f : Buf (Elt F) ((c : Thread nD τ).loc b)) :
    iprop(pts c b A q f ∗ pts c b B q f ∗ pts c b C q f ∗ pts c b D q f) ⊢ (pts c b S q f : sProp 𝕄) := by
  rw [h.eq]
  iintro ⟨HA, HB, HC, HD⟩
  iapply (pointsTo_union (ℓ := (c : Thread nD τ).loc b) h.d1).2
  isplitl [HA]; · iexact HA
  iapply (pointsTo_union (ℓ := (c : Thread nD τ).loc b) h.d2).2
  isplitl [HB]; · iexact HB
  iapply (pointsTo_union (ℓ := (c : Thread nD τ).loc b) h.d3).2
  isplitl [HC] <;> iassumption

theorem some_four (h : Quad S A B C D) :
    (some_ (F := F) c b S : sProp 𝕄) ⊢ iprop(some_ (F := F) c b A ∗ some_ (F := F) c b B ∗ some_ (F := F) c b C ∗ some_ (F := F) c b D) := by
  iintro ⟨%f, H⟩
  ihave H := (pts_four h f) $$ H
  icases H with ⟨HA, HB, HC, HD⟩
  isplitl [HA]; · iexists f; iexact HA
  isplitl [HB]; · iexists f; iexact HB
  isplitl [HC]; · iexists f; iexact HC
  iexists f; iexact HD

theorem some_join {I J : Finset ((c : Thread nD τ).loc b).ty.shape.Idx} (h : Disjoint I J) :
    iprop(some_ (F := F) c b I ∗ some_ (F := F) c b J) ⊢ (some_ (F := F) c b (I ∪ J) : sProp 𝕄) := by
  iintro ⟨⟨%f, HI⟩, ⟨%g, HJ⟩⟩
  iexists (J.piecewise g f)
  iapply (pointsTo_join (ℓ := (c : Thread nD τ).loc b) h)
  isplitl [HI] <;> iassumption

theorem some_of_four (h : Quad S A B C D) :
    iprop(some_ (F := F) c b A ∗ some_ (F := F) c b B ∗ some_ (F := F) c b C ∗ some_ (F := F) c b D) ⊢ (some_ (F := F) c b S : sProp 𝕄) := by
  rw [h.eq]
  iintro ⟨HA, HB, HC, HD⟩
  iapply (some_join h.d1)
  isplitl [HA]; · iexact HA
  iapply (some_join h.d2)
  isplitl [HB]; · iexact HB
  iapply (some_join h.d3)
  isplitl [HC] <;> iassumption

/-- A buffer held whole, in the three shares that three transfers read. -/
theorem pts_thirds (f : Buf (Elt F) ((c : Thread nD τ).loc b)) :
    (pts c b S fullShare f : sProp 𝕄) ⊣⊢ iprop(pts c b S (sh 0) f ∗ pts c b S (sh 1) f ∗ pts c b S (sh 2) f) := by
  constructor
  · iintro H
    ihave H := (pointsTo_share (ℓ := (c : Thread nD τ).loc b) (PosShare.mem_left_op_right fullShare)).1 $$ H
    icases H with ⟨H0, H⟩
    ihave H := (pointsTo_share (ℓ := (c : Thread nD τ).loc b) (PosShare.mem_left_op_right fullShare.right)).1 $$ H
    icases H with ⟨H1, H2⟩
    isplitl [H0]; · iexact H0
    isplitl [H1]; · iexact H1
    iexact H2
  · iintro ⟨H0, H1, H2⟩
    iapply (pointsTo_share (ℓ := (c : Thread nD τ).loc b) (PosShare.mem_left_op_right fullShare)).2
    isplitl [H0]; · iexact H0
    iapply (pointsTo_share (ℓ := (c : Thread nD τ).loc b) (PosShare.mem_left_op_right fullShare.right)).2
    isplitl [H1]; · iexact H1
    iexact H2

end Four

end Cert.KernelIdealProof

end
-- ==== Proof.KernelIdealPartsC.lean ====
/-
# `KernelIdealPartsC`: the two gathers, the result and the closing barrier
-/
module

public import proofs.«01_k».proof.Proof.KernelIdealPieces

@[expose] public section

noncomputable section

namespace Cert.KernelIdealProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cix → ℕ)

theorem rr_kp2 : ∀ (i : Fin 3) (c : Dev nD), rr (P (kp 2 i) c) = rr c := by decide +kernel

/-! ## The third phase: the sixteenths go round the planes -/

theorem part19 (c : Dev nD) (v26 v43 v634 c4) (Q) :
    iprop(recs m K ∗ ow c 12 ∗ (shrS m c 0 ∗ freeS (F := F) c 0 ∗ sndIn c 2 0) ∗ (shrS m c 1 ∗ freeS (F := F) c 1 ∗ sndIn c 2 1))
      ⊢ iprop((∀ r, (ow c 14 ∗ crd c (.snd 2 0) ∗ crd c (.snd 2 1)) -∗ Q r) -∗ WP c (B19 (F := F) c v26 v43 v634 c4) Q) := by
  unfold B19; rw [k0_part19_eq_skeleton]; unfold k0_part19_skel
  simp only [semSignalWord, semWaitWord, Prog.lift, Prog.bind_op, Prog.bind_ret, Prog.pure_eq_ret, wp_deviceId]
  iintro ⟨#HR, HO, ⟨Hs0, Hf0, Ht0, Hu0⟩, ⟨Hs1, Hf1, Ht1, Hu1⟩⟩ Hk
  iapply (send2 m K c 0 12 (dev13_eq c) (off8_eq c) (off8_eq c) rfl rfl rfl (rr_kp2 0 c)) $$ [HO Hs0 Hf0 Ht0 Hu0]
  · isplitr; · iexact HR
    isplitl [HO]; · iexact HO
    isplitl [Hs0]; · iexact Hs0
    isplitl [Hf0]; · iexact Hf0
    isplitl [Ht0] <;> iassumption
  iintro ⟨HO, Hcs20⟩
  iapply (send2 m K c 1 13 (dev14_eq c) (off8_eq c) (off8_eq c) rfl rfl rfl (rr_kp2 1 c)) $$ [HO Hs1 Hf1 Ht1 Hu1]
  · isplitr; · iexact HR
    isplitl [HO]; · iexact HO
    isplitl [Hs1]; · iexact Hs1
    isplitl [Hf1]; · iexact Hf1
    isplitl [Ht1] <;> iassumption
  iintro ⟨HO, Hcs21⟩
  iapply (le_wp_ret _ _ _ _ _)
  iapply Hk
  isplitl [HO]; · iexact HO
  isplitl [Hcs20]; · iexact Hcs20
  iexact Hcs21

theorem part20 (c : Dev nD) (v26 v636 v666 v668) (Q) :
    iprop(recs m K ∗ lvls ∗ ow c 14 ∗ (shrS m c 2 ∗ freeS (F := F) c 2 ∗ sndIn c 2 2) ∗ (crd c (.snd 2 0) ∗ pos c (.snd 2 0)) ∗ (crd c (.rcv 2 2) ∗ pos c (.rcv 2 2)))
      ⊢ iprop((∀ r, (ow c 15 ∗ crd c (.snd 2 2) ∗ sv0 c (.snd 2 0) ∗ shrS m c 0 ∗ sv0 c (.rcv 2 2) ∗ gotS m c 2) -∗ Q r)
          -∗ WP c (B20 (F := F) c v26 v636 v666 v668) Q) := by
  unfold B20; rw [k0_part20_eq_skeleton]; unfold k0_part20_skel
  simp only [semSignalWord, semWaitWord, Prog.lift, Prog.bind_op, Prog.bind_ret, Prog.pure_eq_ret, wp_deviceId]
  iintro ⟨#HR, #HL, HO, ⟨Hs2, Hf2, Ht2, Hu2⟩, ⟨Hcs20, Hps20⟩, ⟨Hcr22, Hpr22⟩⟩ Hk
  iapply (send2 m K c 2 14 (dev15_eq c) (off8_eq c) (off8_eq c) rfl rfl rfl (rr_kp2 2 c)) $$ [HO Hs2 Hf2 Ht2 Hu2]
  · isplitr; · iexact HR
    isplitl [HO]; · iexact HO
    isplitl [Hs2]; · iexact Hs2
    isplitl [Hf2]; · iexact Hf2
    isplitl [Ht2] <;> iassumption
  iintro ⟨HO, Hcs22⟩
  iapply (wait16 m K c (.snd 2 0) 15 (by decide +kernel) rfl rfl (R := shrS m c 0) (BI.Entails.refl _)) $$ [HO Hcs20 Hps20]
  · isplitr; · iexact HR
    isplitr; · iexact HL
    isplitl [HO]; · iexact HO
    isplitl [Hcs20] <;> iassumption
  iintro ⟨HO, Hvs20, Hs0⟩
  iapply (wait16 m K c (.rcv 2 2) 15 (by decide +kernel) rfl rfl (R := gotS m c 2) (BI.Entails.refl _)) $$ [HO Hcr22 Hpr22]
  · isplitr; · iexact HR
    isplitr; · iexact HL
    isplitl [HO]; · iexact HO
    isplitl [Hcr22] <;> iassumption
  iintro ⟨HO, Hvr22, Hg2⟩
  iapply (le_wp_ret _ _ _ _ _)
  iapply Hk
  isplitl [HO]; · iexact HO
  isplitl [Hcs22]; · iexact Hcs22
  isplitl [Hvs20]; · iexact Hvs20
  isplitl [Hs0]; · iexact Hs0
  isplitl [Hvr22]; · iexact Hvr22
  iexact Hg2

theorem part21 (c : Dev nD) (v26 v44 v657 v678) (Q) :
    iprop(recs m K ∗ lvls ∗ ow c 15 ∗ (crd c (.snd 2 1) ∗ pos c (.snd 2 1)) ∗ (crd c (.rcv 2 1) ∗ pos c (.rcv 2 1)) ∗ (crd c (.snd 2 2) ∗ pos c (.snd 2 2)) ∗ (crd c (.rcv 2 0) ∗ pos c (.rcv 2 0)))
      ⊢ iprop((∀ r, (ow c 15 ∗ sv0 c (.snd 2 1) ∗ shrS m c 1 ∗ sv0 c (.rcv 2 1) ∗ gotS m c 1 ∗ sv0 c (.snd 2 2) ∗ shrS m c 2 ∗ sv0 c (.rcv 2 0) ∗ gotS m c 0) -∗ Q r)
          -∗ WP c (B21 (F := F) c v26 v44 v657 v678) Q) := by
  unfold B21; rw [k0_part21_eq_skeleton]; unfold k0_part21_skel
  simp only [semSignalWord, semWaitWord, Prog.lift, Prog.bind_op, Prog.bind_ret, Prog.pure_eq_ret, wp_deviceId]
  iintro ⟨#HR, #HL, HO, ⟨Hcs21, Hps21⟩, ⟨Hcr21, Hpr21⟩, ⟨Hcs22, Hps22⟩, ⟨Hcr20, Hpr20⟩⟩ Hk
  iapply (wait16 m K c (.snd 2 1) 15 (by decide +kernel) rfl rfl (R := shrS m c 1) (BI.Entails.refl _)) $$ [HO Hcs21 Hps21]
  · isplitr; · iexact HR
    isplitr; · iexact HL
    isplitl [HO]; · iexact HO
    isplitl [Hcs21] <;> iassumption
  iintro ⟨HO, Hvs21, Hs1⟩
  iapply (wait16 m K c (.rcv 2 1) 15 (by decide +kernel) rfl rfl (R := gotS m c 1) (BI.Entails.refl _)) $$ [HO Hcr21 Hpr21]
  · isplitr; · iexact HR
    isplitr; · iexact HL
    isplitl [HO]; · iexact HO
    isplitl [Hcr21] <;> iassumption
  iintro ⟨HO, Hvr21, Hg1⟩
  iapply (wait16 m K c (.snd 2 2) 15 (by decide +kernel) rfl rfl (R := shrS m c 2) (BI.Entails.refl _)) $$ [HO Hcs22 Hps22]
  · isplitr; · iexact HR
    isplitr; · iexact HL
    isplitl [HO]; · iexact HO
    isplitl [Hcs22] <;> iassumption
  iintro ⟨HO, Hvs22, Hs2⟩
  iapply (wait16 m K c (.rcv 2 0) 15 (by decide +kernel) rfl rfl (R := gotS m c 0) (BI.Entails.refl _)) $$ [HO Hcr20 Hpr20]
  · isplitr; · iexact HR
    isplitr; · iexact HL
    isplitl [HO]; · iexact HO
    isplitl [Hcr20] <;> iassumption
  iintro ⟨HO, Hvr20, Hg0⟩
  iapply (le_wp_ret _ _ _ _ _)
  iapply Hk
  isplitl [HO]; · iexact HO
  isplitl [Hvs21]; · iexact Hvs21
  isplitl [Hs1]; · iexact Hs1
  isplitl [Hvr21]; · iexact Hvr21
  isplitl [Hg1]; · iexact Hg1
  isplitl [Hvs22]; · iexact Hvs22
  isplitl [Hs2]; · iexact Hs2
  isplitl [Hvr20]; · iexact Hvr20
  iexact Hg0

/-! ## The last phase: the quarters go round the plane -/

theorem part22 (c : Dev nD) (v26 v44 v728 c1) (Q) :
    iprop(recs m K ∗ ow c 15 ∗ (shrQ m c 0 ∗ freeQ (F := F) c 0 ∗ sndIn c 3 0) ∗ (shrQ m c 1 ∗ freeQ (F := F) c 1 ∗ sndIn c 3 1))
      ⊢ iprop((∀ r, (ow c 17 ∗ crd c (.snd 3 0) ∗ crd c (.snd 3 1)) -∗ Q r) -∗ WP c (B22 (F := F) c v26 v44 v728 c1) Q) := by
  unfold B22; rw [k0_part22_eq_skeleton]; unfold k0_part22_skel
  simp only [semSignalWord, semWaitWord, Prog.lift, Prog.bind_op, Prog.bind_ret, Prog.pure_eq_ret, wp_deviceId]
  iintro ⟨#HR, HO, ⟨Hs0, Hf0, Ht0, Hu0⟩, ⟨Hs1, Hf1, Ht1, Hu1⟩⟩ Hk
  iapply (send3 m K c 0 15 (dev16_eq c) (off9_eq c) (off9_eq c) rfl rfl rfl) $$ [HO Hs0 Hf0 Ht0 Hu0]
  · isplitr; · iexact HR
    isplitl [HO]; · iexact HO
    isplitl [Hs0]; · iexact Hs0
    isplitl [Hf0]; · iexact Hf0
    isplitl [Ht0] <;> iassumption
  iintro ⟨HO, Hcs30⟩
  iapply (send3 m K c 1 16 (dev17_eq c) (off9_eq c) (off9_eq c) rfl rfl rfl) $$ [HO Hs1 Hf1 Ht1 Hu1]
  · isplitr; · iexact HR
    isplitl [HO]; · iexact HO
    isplitl [Hs1]; · iexact Hs1
    isplitl [Hf1]; · iexact Hf1
    isplitl [Ht1] <;> iassumption
  iintro ⟨HO, Hcs31⟩
  iapply (le_wp_ret _ _ _ _ _)
  iapply Hk
  isplitl [HO]; · iexact HO
  isplitl [Hcs30]; · iexact Hcs30
  iexact Hcs31

theorem part23 (c : Dev nD) (v44 v728 v748 v759 v760 v761 v762 v763) (Q) :
    iprop(recs m K ∗ lvls ∗ ow c 17 ∗ (shrQ m c 2 ∗ freeQ (F := F) c 2 ∗ sndIn c 3 2) ∗ (crd c (.snd 3 0) ∗ pos c (.snd 3 0)) ∗ (crd c (.rcv 3 2) ∗ pos c (.rcv 3 2)) ∗ (crd c (.snd 3 1) ∗ pos c (.snd 3 1)))
      ⊢ iprop((∀ r, (ow c 18 ∗ crd c (.snd 3 2) ∗ sv0 c (.snd 3 0) ∗ shrQ m c 0 ∗ sv0 c (.rcv 3 2) ∗ gotQ m c 2 ∗ sv0 c (.snd 3 1) ∗ shrQ m c 1) -∗ Q r)
          -∗ WP c (B23 (F := F) c v44 v728 v748 v759 v760 v761 v762 v763) Q) := by
  unfold B23; rw [k0_part23_eq_skeleton]; unfold k0_part23_skel
  simp only [semSignalWord, semWaitWord, Prog.lift, Prog.bind_op, Prog.bind_ret, Prog.pure_eq_ret, wp_deviceId]
  iintro ⟨#HR, #HL, HO, ⟨Hs2, Hf2, Ht2, Hu2⟩, ⟨Hcs30, Hps30⟩, ⟨Hcr32, Hpr32⟩, ⟨Hcs31, Hps31⟩⟩ Hk
  iapply (send3 m K c 2 17 (dev18_eq c) (off9_eq c) (off9_eq c) rfl rfl rfl) $$ [HO Hs2 Hf2 Ht2 Hu2]
  · isplitr; · iexact HR
    isplitl [HO]; · iexact HO
    isplitl [Hs2]; · iexact Hs2
    isplitl [Hf2]; · iexact Hf2
    isplitl [Ht2] <;> iassumption
  iintro ⟨HO, Hcs32⟩
  iapply (wait64 m K c (.snd 3 0) 18 (by decide +kernel) rfl rfl (R := shrQ m c 0) (BI.Entails.refl _)) $$ [HO Hcs30 Hps30]
  · isplitr; · iexact HR
    isplitr; · iexact HL
    isplitl [HO]; · iexact HO
    isplitl [Hcs30] <;> iassumption
  iintro ⟨HO, Hvs30, Hs0⟩
  iapply (wait64 m K c (.rcv 3 2) 18 (by decide +kernel) rfl rfl (R := gotQ m c 2) (BI.Entails.refl _)) $$ [HO Hcr32 Hpr32]
  · isplitr; · iexact HR
    isplitr; · iexact HL
    isplitl [HO]; · iexact HO
    isplitl [Hcr32] <;> iassumption
  iintro ⟨HO, Hvr32, Hg2⟩
  iapply (wait64 m K c (.snd 3 1) 18 (by decide +kernel) rfl rfl (R := shrQ m c 1) (BI.Entails.refl _)) $$ [HO Hcs31 Hps31]
  · isplitr; · iexact HR
    isplitr; · iexact HL
    isplitl [HO]; · iexact HO
    isplitl [Hcs31] <;> iassumption
  iintro ⟨HO, Hvs31, Hs1⟩
  iapply (le_wp_ret _ _ _ _ _)
  iapply Hk
  isplitl [HO]; · iexact HO
  isplitl [Hcs32]; · iexact Hcs32
  isplitl [Hvs30]; · iexact Hvs30
  isplitl [Hs0]; · iexact Hs0
  isplitl [Hvr32]; · iexact Hvr32
  isplitl [Hg2]; · iexact Hg2
  isplitl [Hvs31]; · iexact Hvs31
  iexact Hs1

theorem part24 (c : Dev nD) (v56 v68 v80 v93 v768) (Q) :
    iprop(recs m K ∗ lvls ∗ ow c 18 ∗ (crd c (.rcv 3 1) ∗ pos c (.rcv 3 1)) ∗ (crd c (.snd 3 2) ∗ pos c (.snd 3 2)) ∗ (crd c (.rcv 3 0) ∗ pos c (.rcv 3 0))
        ∗ shrQ m c 0 ∗ shrQ m c 1 ∗ gotQ m c 2 ∗ some_ (F := F) c cc0_stg1_0 Finset.univ ∗ (tok (P 0 c) .bar2 0 ∗ tok (P 1 c) .bar2 1 ∗ tok (P 2 c) .bar2 2))
      ⊢ iprop((∀ r, (ow c 21 ∗ sv0 c (.rcv 3 1) ∗ sv0 c (.snd 3 2) ∗ sv0 c (.rcv 3 0) ∗ some_ (F := F) c cc0_scratch5 Finset.univ
            ∗ pts c cc0_stg1_0 Finset.univ fullShare (outAt m)) -∗ Q r)
          -∗ WP c (B24 (F := F) c v56 v68 v80 v93 v768) Q) := by
  unfold B24; rw [k0_part24_eq_skeleton]; unfold k0_part24_skel
  simp only [semSignalWord, semWaitWord, Prog.lift, Prog.bind_op, Prog.bind_ret, Prog.pure_eq_ret, wp_deviceId]
  iintro ⟨#HR, #HL, HO, ⟨Hcr31, Hpr31⟩, ⟨Hcs32, Hps32⟩, ⟨Hcr30, Hpr30⟩, Hs0, Hs1, Hg2, ⟨%f5, H5⟩, ⟨Ht0, Ht1, Ht2⟩⟩ Hk
  iapply (wait64 m K c (.rcv 3 1) 18 (by decide +kernel) rfl rfl (R := gotQ m c 1) (BI.Entails.refl _)) $$ [HO Hcr31 Hpr31]
  · isplitr; · iexact HR
    isplitr; · iexact HL
    isplitl [HO]; · iexact HO
    isplitl [Hcr31] <;> iassumption
  iintro ⟨HO, Hvr31, Hg1⟩
  iapply (wait64 m K c (.snd 3 2) 18 (by decide +kernel) rfl rfl (R := shrQ m c 2) (BI.Entails.refl _)) $$ [HO Hcs32 Hps32]
  · isplitr; · iexact HR
    isplitr; · iexact HL
    isplitl [HO]; · iexact HO
    isplitl [Hcs32] <;> iassumption
  iintro ⟨HO, Hvs32, Hs2⟩
  iapply (wait64 m K c (.rcv 3 0) 18 (by decide +kernel) rfl rfl (R := gotQ m c 0) (BI.Entails.refl _)) $$ [HO Hcr30 Hpr30]
  · isplitr; · iexact HR
    isplitr; · iexact HL
    isplitl [HO]; · iexact HO
    isplitl [Hcr30] <;> iassumption
  iintro ⟨HO, Hvr30, Hg0⟩
  ihave Hs := (pts_thirds (c := c) (b := cc0_scratch5) (S := quarter (rr c)) (FIN m)).2 $$ [Hs0 Hs1 Hs2]
  · isplitl [Hs0]; · iexact Hs0
    isplitl [Hs1] <;> iassumption
  ihave Hb := (pts_of_four (c := c) (b := cc0_scratch5) (q := fullShare) (quad_quarters c) (FIN m)) $$ [Hs Hg0 Hg1 Hg2]
  · isplitl [Hs]; · iexact Hs
    isplitl [Hg0]; · iexact Hg0
    isplitl [Hg1]; · iexact Hg1
    iexact Hg2
  iapply (step_load c (mm := outb) (S := Finset.univ) (Finset.subset_univ _) (FIN m)
    (Memref.readAt_unit_zero (Elt F) cc0_scratch5 hz2 _ _)) $$ Hb
  iintro Hb
  iapply (step_load c (mm := o5) (S := Finset.univ) (Finset.subset_univ _) f5
    (Memref.readAt_unit_zero (Elt F) cc0_stg1_0 hz2 _ _)) $$ H5
  iintro H5
  iapply (step_store c (mm := o5) (r := Rect.unit (s := S256x1024) ![0, 0] S256x1024.size inb_S256x1024_S256x1024_0_0) (w := k0_pay29 (FIN m)) (S := Finset.univ) (f := f5) ((View.set_slice_whole cc0_stg1_0 _).trans (set_unit_zero hz2 inb_S256x1024_S256x1024_0_0)) (outAt m)
    (Memref.readAt_unit_zero (Elt F) cc0_stg1_0 hz2 _ _)) $$ H5
  iintro H5
  iapply (step_signal m K c 0 .bar2 (.inr rfl) (dev19_eq c) rfl (by decide) 18 rfl) $$ [HO Ht0]
  · isplitr; · iexact HR
    isplitl [HO]; · iexact HO
    isplitl [Ht0]; · iexact Ht0
    iapply (show (iprop(emp) : sProp 𝕄) ⊢ Pay m (P 0 c) .bar2 0 from BI.Entails.refl _)
    iempintro
  iintro HO
  iapply (step_signal m K c 1 .bar2 (.inr rfl) (dev20_eq c) rfl (by decide) 19 rfl) $$ [HO Ht1]
  · isplitr; · iexact HR
    isplitl [HO]; · iexact HO
    isplitl [Ht1]; · iexact Ht1
    iapply (show (iprop(emp) : sProp 𝕄) ⊢ Pay m (P 1 c) .bar2 1 from BI.Entails.refl _)
    iempintro
  iintro HO
  iapply (step_signal m K c 2 .bar2 (.inr rfl) (dev21_eq c) rfl (by decide) 20 rfl) $$ [HO Ht2]
  · isplitr; · iexact HR
    isplitl [HO]; · iexact HO
    isplitl [Ht2]; · iexact Ht2
    iapply (show (iprop(emp) : sProp 𝕄) ⊢ Pay m (P 2 c) .bar2 2 from BI.Entails.refl _)
    iempintro
  iintro HO
  iapply (le_wp_ret _ _ _ _ _)
  iapply Hk
  isplitl [HO]; · iexact HO
  isplitl [Hvr31]; · iexact Hvr31
  isplitl [Hvs32]; · iexact Hvs32
  isplitl [Hvr30]; · iexact Hvr30
  isplitl [Hb]; · iexists _; iexact Hb
  iexact H5

/-- The closing barrier: three more raises, and the wait for the six partners'. -/
abbrev BT (d0 : Dev nD) : Prog (TpuEff nD τ sig (Elt F) Λ₀ .tc) PUnit := do
  semSignalWord (⟨k0_dev22 d0, k0_dev22_lt d0⟩ : Dev nD) cc0_scoped0.sem 1#32
  semSignalWord (⟨k0_dev23 d0, k0_dev23_lt d0⟩ : Dev nD) cc0_scoped0.sem 1#32
  semSignalWord (⟨k0_dev24 d0, k0_dev24_lt d0⟩ : Dev nD) cc0_scoped0.sem 1#32
  semWaitWord cc0_scoped0.sem 6#32
  pure ⟨⟩

theorem partT (c : Dev nD) (Q) :
    iprop(recs m K ∗ lvls ∗ ow c 21 ∗ (tok (P 3 c) .bar2 3 ∗ tok (P 4 c) .bar2 4 ∗ tok (P 5 c) .bar2 5) ∗ (crd c .bar2 ∗ pos c .bar2))
      ⊢ iprop(((ow c 24 ∗ sv0 c .bar2) -∗ Q ⟨⟩) -∗ WP c (BT (F := F) c) Q) := by
  unfold BT
  simp only [semSignalWord, semWaitWord, Prog.lift, Prog.bind_op, Prog.bind_ret, Prog.pure_eq_ret, wp_deviceId]
  iintro ⟨#HR, #HL, HO, ⟨Ht3, Ht4, Ht5⟩, ⟨Hc, Hp⟩⟩ Hk
  iapply (step_signal m K c 3 .bar2 (.inr rfl) (dev22_eq c) rfl (by decide) 21 rfl) $$ [HO Ht3]
  · isplitr; · iexact HR
    isplitl [HO]; · iexact HO
    isplitl [Ht3]; · iexact Ht3
    iapply (show (iprop(emp) : sProp 𝕄) ⊢ Pay m (P 3 c) .bar2 3 from BI.Entails.refl _)
    iempintro
  iintro HO
  iapply (step_signal m K c 4 .bar2 (.inr rfl) (dev23_eq c) rfl (by decide) 22 rfl) $$ [HO Ht4]
  · isplitr; · iexact HR
    isplitl [HO]; · iexact HO
    isplitl [Ht4]; · iexact Ht4
    iapply (show (iprop(emp) : sProp 𝕄) ⊢ Pay m (P 4 c) .bar2 4 from BI.Entails.refl _)
    iempintro
  iintro HO
  iapply (step_signal m K c 5 .bar2 (.inr rfl) (dev24_eq c) rfl (by decide) 23 rfl) $$ [HO Ht5]
  · isplitr; · iexact HR
    isplitl [HO]; · iexact HO
    isplitl [Ht5]; · iexact Ht5
    iapply (show (iprop(emp) : sProp 𝕄) ⊢ Pay m (P 5 c) .bar2 5 from BI.Entails.refl _)
    iempintro
  iintro HO
  iapply (step_semwait m K c .bar2 rfl (by decide) rfl 24 (hlev c 24 .bar2 (by decide +kernel))) $$ [HO Hc Hp]
  · isplitr; · iexact HR
    isplitr; · iexact HL
    isplitl [Hc]; · iexact Hc
    isplitl [HO] <;> iassumption
  iintro ⟨HO, Hv, -⟩
  iapply (le_wp_ret _ _ _ _ _)
  iapply Hk
  isplitl [HO] <;> iassumption

end Cert.KernelIdealProof

end
-- ==== Proof.KernelIdealBody.lean ====
/-
# `KernelIdealBody`: the whole kernel on one device

The parts of the kernel in order: from the device's rights of the schedule, its weights, its own buffers, the staged
input and the staged result, to all semaphores at zero, the weights as they were, and the staged result at the final rows.
-/
module

public import proofs.«01_k».proof.Proof.KernelIdealPartsA
public import proofs.«01_k».proof.Proof.KernelIdealPartsC

@[expose] public section

noncomputable section

namespace Cert.KernelIdealProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cix → ℕ)

theorem WP_bind {α β : Type} (c : Dev nD) (p : Prog (TpuEff nD τ sig (Elt F) Λ₀ .tc) α) (k : α → Prog (TpuEff nD τ sig (Elt F) Λ₀ .tc) β) (Q : β → sProp 𝕄) :
    WP c (p >>= k) Q = WP c p fun a => WP c (k a) Q := wp_bind _ _ _ _ _ _

/-! ## What a device starts and ends with -/

/-- The four weights as they lie in memory. -/
def argsAt (c : Dev nD) : sProp 𝕄 :=
  iprop(pts c main_arg1 Finset.univ fullShare (at_ m c main_arg1) ∗ pts c main_arg2 Finset.univ fullShare (at_ m c main_arg2)
    ∗ pts c main_arg3 Finset.univ fullShare (at_ m c main_arg3) ∗ pts c main_arg4 Finset.univ fullShare (at_ m c main_arg4))

/-- The kernel's own buffers, at whatever they hold. -/
def scr (c : Dev nD) : sProp 𝕄 :=
  iprop(some_ (F := F) c cc0_scratch0 Finset.univ ∗ some_ (F := F) c cc0_scratch1 Finset.univ ∗ some_ (F := F) c cc0_scratch2 Finset.univ ∗ some_ (F := F) c cc0_scratch3 Finset.univ
    ∗ some_ (F := F) c cc0_scratch4 Finset.univ ∗ some_ (F := F) c cc0_scratch5 Finset.univ ∗ some_ (F := F) c cc0_scratch6 Finset.univ ∗ some_ (F := F) c cc0_scratch7 Finset.univ)

/-- The right to raise one of the six partners' barriers each. -/
def barToks (c : Dev nD) (b : Cix) : sProp 𝕄 :=
  iprop((tok (P 0 c) b 0 ∗ tok (P 1 c) b 1 ∗ tok (P 2 c) b 2) ∗ (tok (P 3 c) b 3 ∗ tok (P 4 c) b 4 ∗ tok (P 5 c) b 5))

/-- What the three transfers of a phase take. -/
def phIn (c : Dev nD) (p : Fin 4) : sProp 𝕄 :=
  iprop((sndIn c p 0 ∗ sndIn c p 1 ∗ sndIn c p 2) ∗ (pos c (.snd p 0) ∗ pos c (.snd p 1) ∗ pos c (.snd p 2)) ∗ (rcvIn c p 0 ∗ rcvIn c p 1 ∗ rcvIn c p 2))

/-- A phase's semaphores at zero. -/
def phOut (c : Dev nD) (p : Fin 4) : sProp 𝕄 :=
  iprop((sv0 c (.snd p 0) ∗ sv0 c (.snd p 1) ∗ sv0 c (.snd p 2)) ∗ (sv0 c (.rcv p 0) ∗ sv0 c (.rcv p 1) ∗ sv0 c (.rcv p 2)))

theorem phOut_intro (c : Dev nD) (p : Fin 4) :
    iprop((sv0 (F := F) c (.snd p 0) ∗ sv0 c (.snd p 1) ∗ sv0 c (.snd p 2)) ∗ (sv0 c (.rcv p 0) ∗ sv0 c (.rcv p 1) ∗ sv0 c (.rcv p 2))) ⊢ (phOut c p : sProp 𝕄) := BI.Entails.refl _

/-- What the copies of the weights take. -/
def cpIn (c : Dev nD) : sProp 𝕄 :=
  iprop((tok c (.cp 0) 0 ∗ tok c (.cp 1) 0 ∗ tok c (.cp 2) 0 ∗ tok c (.cp 3) 0) ∗ (pos c (.cp 0) ∗ pos c (.cp 1) ∗ pos c (.cp 2) ∗ pos c (.cp 3)))

def cpOut (c : Dev nD) : sProp 𝕄 := iprop(sv0 c (.cp 0) ∗ sv0 c (.cp 1) ∗ sv0 c (.cp 2) ∗ sv0 c (.cp 3))

/-- A device's schedule rights at the start. -/
def rights (c : Dev nD) : sProp 𝕄 :=
  iprop((crd c .bar ∗ pos c .bar) ∗ (crd c .bar2 ∗ pos c .bar2) ∗ barToks c .bar ∗ barToks c .bar2 ∗ cpIn c ∗ phIn c 0 ∗ phIn c 1 ∗ phIn c 2 ∗ phIn c 3)

/-- Its semaphores at the end. -/
def zeros (c : Dev nD) : sProp 𝕄 :=
  iprop(sv0 c .bar ∗ sv0 c .bar2 ∗ cpOut c ∗ phOut c 0 ∗ phOut c 1 ∗ phOut c 2 ∗ phOut c 3)

/-- An array lent in a part and returned is whole again. -/
theorem lend (c : Dev nD) (b : Ref sig .tc) (S : Finset ((c : Thread nD τ).loc b).ty.shape.Idx) (f : Buf (Elt F) ((c : Thread nD τ).loc b)) :
    (pts c b Finset.univ fullShare f : sProp 𝕄) ⊢ iprop(pts c b S fullShare f ∗ (pts c b S fullShare f -∗ pts c b Finset.univ fullShare f)) := by
  have hd : Disjoint S (Finset.univ \ S) := Finset.disjoint_sdiff
  have he : (Finset.univ : Finset ((c : Thread nD τ).loc b).ty.shape.Idx) = S ∪ (Finset.univ \ S) := (Finset.union_sdiff_of_subset (Finset.subset_univ S)).symm
  iintro H
  rw [he]
  ihave H := (pointsTo_union (ℓ := (c : Thread nD τ).loc b) hd).1 $$ H
  icases H with ⟨HA, HB⟩
  isplitl [HA]; · iexact HA
  iintro HA
  iapply (pointsTo_union (ℓ := (c : Thread nD τ).loc b) hd).2
  isplitl [HA] <;> iassumption

/-! ## The body -/

set_option maxHeartbeats 4000000 in
/-- One device's run of the kernel. -/
theorem sound_body (c : Dev nD) (Q : PUnit → sProp 𝕄) :
    iprop(recs m K ∗ lvls ∗ ow c 0 ∗ rights c ∗ argsAt m c ∗ scr (F := F) c ∗ pts c cc0_stg0_0 Finset.univ fullShare (xstg m c) ∗ some_ (F := F) c cc0_stg1_0 Finset.univ)
      ⊢ iprop(((ow c 24 ∗ zeros c ∗ argsAt m c ∗ scr (F := F) c ∗ pts c cc0_stg0_0 Finset.univ fullShare (xstg m c) ∗ pts c cc0_stg1_0 Finset.univ fullShare (outAt m)) -∗ Q ⟨⟩)
          -∗ WP c (cc0_body (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0) Q) := by
  rw [cc0_body_eq_skeleton]; unfold cc0_body_skel
  iintro ⟨#HR, #HL, HO, Hrights, Hargs, Hscr, Hx, Ho⟩ Hk
  unfold rights
  icases Hrights with ⟨⟨Hc_bar, Hp_bar⟩, Hbar2, HtB, HtB2, Hcp, Hph0, Hph1, Hph2, Hph3⟩
  unfold argsAt scr cpIn
  icases Hargs with ⟨Ha1, Ha2, Ha3, Ha4⟩
  icases Hscr with ⟨Hs0, Hs1, Hs2, Hs3, Hs4, Hs5, Hs6, Hs7⟩
  icases Hcp with ⟨⟨Ht0, Ht1, Ht2, Ht3⟩, ⟨Hp_cp0, Hp_cp1, Hp_cp2, Hp_cp3⟩⟩
  ihave Ha2 := (lend c main_arg2 (colsK c.val) (at_ m c main_arg2)) $$ Ha2
  icases Ha2 with ⟨Ha2, Hb2⟩
  ihave Ha3 := (lend c main_arg3 (colsK c.val) (at_ m c main_arg3)) $$ Ha3
  icases Ha3 with ⟨Ha3, Hb3⟩
  rw [WP_bind]
  iapply (part1 m K c  _) $$ [Ha1 Hs1 Ht0 Ha4 Hs2 Ht1 Ha2 Hs3 Ht2 Ha3 Hs4 Ht3]
  · isplitr
    · iexact HR
    isplitl [Ha1 Hs1 Ht0]
    · isplitl [Ha1]
      · iexact Ha1
      isplitl [Hs1]
      · iexact Hs1
      iexact Ht0
    isplitl [Ha4 Hs2 Ht1]
    · isplitl [Ha4]
      · iexact Ha4
      isplitl [Hs2]
      · iexact Hs2
      iexact Ht1
    isplitl [Ha2 Hs3 Ht2]
    · isplitl [Ha2]
      · iexact Ha2
      isplitl [Hs3]
      · iexact Hs3
      iexact Ht2
    isplitl [Ha3]
    · iexact Ha3
    isplitl [Hs4]
    · iexact Hs4
    iexact Ht3
  iintro %r ⟨Hc_cp0, Hc_cp1, Hc_cp2, Hc_cp3⟩
  obtain ⟨v16, v26, c4, v27, v32, v33⟩ := r
  try dsimp only
  rw [WP_bind]
  iapply (part2 c _ _ _ _ _ _ _)
  iintro %r
  obtain ⟨v43, v44, v56, v68, v71, v72⟩ := r
  try dsimp only
  rw [WP_bind]
  iapply (part3 c _ _ _ _ _ _)
  iintro %r
  obtain ⟨v80, v93, v106, v107, v109⟩ := r
  try dsimp only
  rw [WP_bind]
  iapply (part4 m K c _ _ _ _ _) $$ [HO Hx Hc_cp0 Hp_cp0 Hc_cp2 Hp_cp2 Hc_cp3 Hp_cp3]
  · isplitr
    · iexact HR
    isplitr
    · iexact HL
    isplitl [HO]
    · iexact HO
    isplitl [Hx]
    · iexact Hx
    isplitl [Hc_cp0 Hp_cp0]
    · isplitl [Hc_cp0]
      · iexact Hc_cp0
      iexact Hp_cp0
    isplitl [Hc_cp2 Hp_cp2]
    · isplitl [Hc_cp2]
      · iexact Hc_cp2
      iexact Hp_cp2
    isplitl [Hc_cp3]
    · iexact Hc_cp3
    iexact Hp_cp3
  iintro %a %a2 %a3 ⟨HO, Hx, ⟨Hv_cp0, Hq0⟩, ⟨Hv_cp2, Hq2⟩, ⟨Hv_cp3, Hq3⟩⟩
  try dsimp only
  rw [WP_bind]
  iapply (part5 c _ _ _ _)
  try dsimp only
  rw [WP_bind]
  iapply (part6 c _ _ _ _ _ _)
  try dsimp only
  rw [WP_bind]
  iapply (part7 c _ _ _ _ _ _ _ _ _ _ _)
  try dsimp only
  ihave Hs6 := (some_four quad_slotA) $$ Hs6
  icases Hs6 with ⟨HA1, HA2, HA3, HA0⟩
  ihave Hs7 := (some_four quad_slotB) $$ Hs7
  icases Hs7 with ⟨HB1, HB2, HB3, HB0⟩
  unfold barToks
  icases HtB with ⟨⟨Hu0, Hu1, Hu2⟩, ⟨Hu3, Hu4, Hu5⟩⟩
  rw [WP_bind]
  iapply (part8 m K c _ _ _ _ _ _ _ _ rfl _) $$ [HO Hs0 Hu0 Hu1 Hu2 Hu3 Hu4 Hu5 HA1 HA2 HA3 HB1 HB2 HB3 Hc_bar Hp_bar Hc_cp1 Hp_cp1]
  · isplitr
    · iexact HR
    isplitr
    · iexact HL
    isplitl [HO]
    · iexact HO
    isplitl [Hs0]
    · iexact Hs0
    isplitl [Hu0 Hu1 Hu2 Hu3 Hu4 Hu5]
    · isplitl [Hu0]
      · iexact Hu0
      isplitl [Hu1]
      · iexact Hu1
      isplitl [Hu2]
      · iexact Hu2
      isplitl [Hu3]
      · iexact Hu3
      isplitl [Hu4]
      · iexact Hu4
      iexact Hu5
    isplitl [HA1 HA2 HA3 HB1 HB2 HB3]
    · isplitl [HA1]
      · iexact HA1
      isplitl [HA2]
      · iexact HA2
      isplitl [HA3]
      · iexact HA3
      isplitl [HB1]
      · iexact HB1
      isplitl [HB2]
      · iexact HB2
      iexact HB3
    isplitl [Hc_bar Hp_bar]
    · isplitl [Hc_bar]
      · iexact Hc_bar
      iexact Hp_bar
    isplitl [Hc_cp1]
    · iexact Hc_cp1
    iexact Hp_cp1
  iintro %a4 %a5 ⟨HO, Hat, ⟨Hd0, Hd1, Hd2⟩, ⟨He0, He1, He2⟩, Hv_bar, ⟨Hv_cp1, Hq1⟩⟩
  try dsimp only
  ihave Hs5 := (some_four (quad_quarters c)) $$ Hs5
  icases Hs5 with ⟨Hown, Hw0, Hw1, Hw2⟩
  ihave Ho := (some_four (quad_quarters c)) $$ Ho
  icases Ho with ⟨Ho, Ho0, Ho1, Ho2⟩
  unfold phIn
  icases Hph0 with ⟨⟨Hn0, Hn1, Hn2⟩, ⟨Hp_s0, Hp_s1, Hp_s2⟩, ⟨⟨Hc_r0, Hp_r0⟩, ⟨Hc_r1, Hp_r1⟩, ⟨Hc_r2, Hp_r2⟩⟩⟩
  rw [WP_bind]
  iapply (part9 m K c _ _ _ _ _) $$ [HO Hat Hw0 Hd0 Hn0]
  · isplitr
    · iexact HR
    isplitr
    · iexact HL
    isplitl [HO]
    · iexact HO
    isplitl [Hat]
    · iexact Hat
    isplitl [Hw0]
    · iexact Hw0
    isplitl [Hd0]
    · iexact Hd0
    iexact Hn0
  iintro %r ⟨HO, Hc_s0, Hat⟩
  obtain ⟨v324, v337, v338, v339, v340, v341⟩ := r
  try dsimp only
  rw [WP_bind]
  iapply (part10 m K c _ _ _ _ _ _ _ _) $$ [HO Hat Hw1 Hd1 Hn1]
  · isplitr
    · iexact HR
    isplitr
    · iexact HL
    isplitl [HO]
    · iexact HO
    isplitl [Hat]
    · iexact Hat
    isplitl [Hw1]
    · iexact Hw1
    isplitl [Hd1]
    · iexact Hd1
    iexact Hn1
  iintro %r ⟨HO, Hc_s1, Hat⟩
  obtain ⟨v355, v376, v377⟩ := r
  try dsimp only
  rw [WP_bind]
  iapply (part11 m K c _ _ _ _ _ _) $$ [HO Hat Hw2 Hd2 Hn2 Ho Hc_s0 Hp_s0]
  · isplitr
    · iexact HR
    isplitr
    · iexact HL
    isplitl [HO]
    · iexact HO
    isplitl [Hat]
    · iexact Hat
    isplitl [Hw2]
    · iexact Hw2
    isplitl [Hd2]
    · iexact Hd2
    isplitl [Hn2]
    · iexact Hn2
    isplitl [Ho]
    · iexact Ho
    isplitl [Hc_s0]
    · iexact Hc_s0
    iexact Hp_s0
  iintro %r ⟨HO, Hc_s2, Hat, Ho, Hv_s0⟩
  obtain ⟨v386, v407, c0⟩ := r
  try dsimp only
  rw [WP_bind]
  iapply (part12 m K c _ _ _ _ _) $$ [HO Hc_r2 Hp_r2 Hc_s1 Hp_s1 Hc_r1 Hp_r1 Hc_s2 Hp_s2]
  · isplitr
    · iexact HR
    isplitr
    · iexact HL
    isplitl [HO]
    · iexact HO
    isplitl [Hc_r2 Hp_r2]
    · isplitl [Hc_r2]
      · iexact Hc_r2
      iexact Hp_r2
    isplitl [Hc_s1 Hp_s1]
    · isplitl [Hc_s1]
      · iexact Hc_s1
      iexact Hp_s1
    isplitl [Hc_r1 Hp_r1]
    · isplitl [Hc_r1]
      · iexact Hc_r1
      iexact Hp_r1
    isplitl [Hc_s2]
    · iexact Hc_s2
    iexact Hp_s2
  iintro %r ⟨HO, Hv_r2, HA3, Hf2, Hv_s1, Hv_r1, HA2, Hf1, Hv_s2⟩
  try dsimp only
  rw [WP_bind]
  iapply (part13 m K c _ _ _) $$ [HO Hc_r0 Hp_r0 Ho HA2 HA3]
  · isplitr
    · iexact HR
    isplitr
    · iexact HL
    isplitl [HO]
    · iexact HO
    isplitl [Hc_r0 Hp_r0]
    · isplitl [Hc_r0]
      · iexact Hc_r0
      iexact Hp_r0
    isplitl [Ho]
    · iexact Ho
    isplitl [HA2]
    · iexact HA2
    iexact HA3
  iintro %v465 ⟨HO, Hv_r0, Ho, HA1, Hf0, HA2, HA3⟩
  try dsimp only
  ihave HV0 := (phOut_intro c 0) $$ [Hv_s0 Hv_s1 Hv_s2 Hv_r0 Hv_r1 Hv_r2]
  · isplitl [Hv_s0 Hv_s1 Hv_s2]
    · isplitl [Hv_s0]
      · iexact Hv_s0
      isplitl [Hv_s1]
      · iexact Hv_s1
      iexact Hv_s2
    isplitl [Hv_r0]
    · iexact Hv_r0
    isplitl [Hv_r1]
    · iexact Hv_r1
    iexact Hv_r2
  ihave Hown := (some_four (quad_sixteenths c)) $$ Hown
  icases Hown with ⟨Hown, Hw0, Hw1, Hw2⟩
  icases Hph1 with ⟨⟨Hn0, Hn1, Hn2⟩, ⟨Hp_s0, Hp_s1, Hp_s2⟩, ⟨⟨Hc_r0, Hp_r0⟩, ⟨Hc_r1, Hp_r1⟩, ⟨Hc_r2, Hp_r2⟩⟩⟩
  rw [WP_bind]
  iapply (part14 m K c _ _ _ _ _) $$ [HO Hw0 He0 Hn0 Ho]
  · isplitr
    · iexact HR
    isplitr
    · iexact HL
    isplitl [HO]
    · iexact HO
    isplitl [Hw0]
    · iexact Hw0
    isplitl [He0]
    · iexact He0
    isplitl [Hn0]
    · iexact Hn0
    iexact Ho
  iintro %v479 %v501 ⟨HO, Hc_s0, Ho⟩
  try dsimp only
  rw [WP_bind]
  iapply (part15 m K c _ _ _ _ _) $$ [HO Hw1 He1 Hn1 Ho]
  · isplitr
    · iexact HR
    isplitr
    · iexact HL
    isplitl [HO]
    · iexact HO
    isplitl [Hw1]
    · iexact Hw1
    isplitl [He1]
    · iexact He1
    isplitl [Hn1]
    · iexact Hn1
    iexact Ho
  iintro %v515 %v537 ⟨HO, Hc_s1, Ho⟩
  try dsimp only
  rw [WP_bind]
  iapply (part16 m K c _ _ _ _ _) $$ [HO Hw2 He2 Hn2 Hc_s0 Hp_s0]
  · isplitr
    · iexact HR
    isplitr
    · iexact HL
    isplitl [HO]
    · iexact HO
    isplitl [Hw2]
    · iexact Hw2
    isplitl [He2]
    · iexact He2
    isplitl [Hn2]
    · iexact Hn2
    isplitl [Hc_s0]
    · iexact Hc_s0
    iexact Hp_s0
  iintro %v551 ⟨HO, Hc_s2, Hv_s0⟩
  try dsimp only
  rw [WP_bind]
  iapply (part17 m K c _ _ _) $$ [HO Hc_r2 Hp_r2 Hc_s1 Hp_s1 Hc_r1 Hp_r1 Hc_s2 Hp_s2]
  · isplitr
    · iexact HR
    isplitr
    · iexact HL
    isplitl [HO]
    · iexact HO
    isplitl [Hc_r2 Hp_r2]
    · isplitl [Hc_r2]
      · iexact Hc_r2
      iexact Hp_r2
    isplitl [Hc_s1 Hp_s1]
    · isplitl [Hc_s1]
      · iexact Hc_s1
      iexact Hp_s1
    isplitl [Hc_r1 Hp_r1]
    · isplitl [Hc_r1]
      · iexact Hc_r1
      iexact Hp_r1
    isplitl [Hc_s2]
    · iexact Hc_s2
    iexact Hp_s2
  iintro %r ⟨HO, Hv_r2, HB3, Hg2, Hv_s1, Hv_r1, HB2, Hg1, Hv_s2⟩
  try dsimp only
  rw [WP_bind]
  iapply (part18 m K c _ _ _) $$ [HO Hc_r0 Hp_r0 Ho HB2 HB3 Hown]
  · isplitr
    · iexact HR
    isplitr
    · iexact HL
    isplitl [HO]
    · iexact HO
    isplitl [Hc_r0 Hp_r0]
    · isplitl [Hc_r0]
      · iexact Hc_r0
      iexact Hp_r0
    isplitl [Ho]
    · iexact Ho
    isplitl [HB2]
    · iexact HB2
    isplitl [HB3]
    · iexact HB3
    iexact Hown
  iintro %r ⟨HO, Hv_r0, Ho, HB1, Hg0, HB2, HB3, Hown⟩
  obtain ⟨v634, c4⟩ := r
  try dsimp only
  ihave HV1 := (phOut_intro c 1) $$ [Hv_s0 Hv_s1 Hv_s2 Hv_r0 Hv_r1 Hv_r2]
  · isplitl [Hv_s0 Hv_s1 Hv_s2]
    · isplitl [Hv_s0]
      · iexact Hv_s0
      isplitl [Hv_s1]
      · iexact Hv_s1
      iexact Hv_s2
    isplitl [Hv_r0]
    · iexact Hv_r0
    isplitl [Hv_r1]
    · iexact Hv_r1
    iexact Hv_r2
  ihave Hown := (pts_thirds (FIN m)).1 $$ Hown
  icases Hown with ⟨Hy0, Hy1, Hy2⟩
  icases Hph2 with ⟨⟨Hn0, Hn1, Hn2⟩, ⟨Hp_s0, Hp_s1, Hp_s2⟩, ⟨⟨Hc_r0, Hp_r0⟩, ⟨Hc_r1, Hp_r1⟩, ⟨Hc_r2, Hp_r2⟩⟩⟩
  rw [WP_bind]
  iapply (part19 m K c _ _ _ _ _) $$ [HO Hy0 Hg0 Hn0 Hy1 Hg1 Hn1]
  · isplitr
    · iexact HR
    isplitl [HO]
    · iexact HO
    isplitl [Hy0 Hg0 Hn0]
    · isplitl [Hy0]
      · iexact Hy0
      isplitl [Hg0]
      · iexact Hg0
      iexact Hn0
    isplitl [Hy1]
    · iexact Hy1
    isplitl [Hg1]
    · iexact Hg1
    iexact Hn1
  iintro %r ⟨HO, Hc_s0, Hc_s1⟩
  obtain ⟨v636, v657, v666, v668⟩ := r
  try dsimp only
  rw [WP_bind]
  iapply (part20 m K c _ _ _ _ _) $$ [HO Hy2 Hg2 Hn2 Hc_s0 Hp_s0 Hc_r2 Hp_r2]
  · isplitr
    · iexact HR
    isplitr
    · iexact HL
    isplitl [HO]
    · iexact HO
    isplitl [Hy2 Hg2 Hn2]
    · isplitl [Hy2]
      · iexact Hy2
      isplitl [Hg2]
      · iexact Hg2
      iexact Hn2
    isplitl [Hc_s0 Hp_s0]
    · isplitl [Hc_s0]
      · iexact Hc_s0
      iexact Hp_s0
    isplitl [Hc_r2]
    · iexact Hc_r2
    iexact Hp_r2
  iintro %v678 ⟨HO, Hc_s2, Hv_s0, Hy0, Hv_r2, Hz2⟩
  try dsimp only
  rw [WP_bind]
  iapply (part21 m K c _ _ _ _ _) $$ [HO Hc_s1 Hp_s1 Hc_r1 Hp_r1 Hc_s2 Hp_s2 Hc_r0 Hp_r0]
  · isplitr
    · iexact HR
    isplitr
    · iexact HL
    isplitl [HO]
    · iexact HO
    isplitl [Hc_s1 Hp_s1]
    · isplitl [Hc_s1]
      · iexact Hc_s1
      iexact Hp_s1
    isplitl [Hc_r1 Hp_r1]
    · isplitl [Hc_r1]
      · iexact Hc_r1
      iexact Hp_r1
    isplitl [Hc_s2 Hp_s2]
    · isplitl [Hc_s2]
      · iexact Hc_s2
      iexact Hp_s2
    isplitl [Hc_r0]
    · iexact Hc_r0
    iexact Hp_r0
  iintro %r ⟨HO, Hv_s1, Hy1, Hv_r1, Hz1, Hv_s2, Hy2, Hv_r0, Hz0⟩
  obtain ⟨v728, c1⟩ := r
  try dsimp only
  ihave HV2 := (phOut_intro c 2) $$ [Hv_s0 Hv_s1 Hv_s2 Hv_r0 Hv_r1 Hv_r2]
  · isplitl [Hv_s0 Hv_s1 Hv_s2]
    · isplitl [Hv_s0]
      · iexact Hv_s0
      isplitl [Hv_s1]
      · iexact Hv_s1
      iexact Hv_s2
    isplitl [Hv_r0]
    · iexact Hv_r0
    isplitl [Hv_r1]
    · iexact Hv_r1
    iexact Hv_r2
  ihave Hown := (pts_thirds (c := c) (b := cc0_scratch5) (S := sixteenth (rr c) (zz c)) (FIN m)).2 $$ [Hy0 Hy1 Hy2]
  · isplitl [Hy0]
    · iexact Hy0
    isplitl [Hy1]
    · iexact Hy1
    iexact Hy2
  ihave Hown := (pts_of_four (b := cc0_scratch5) (q := fullShare) (quad_sixteenths c) (FIN m)) $$ [Hown Hz0 Hz1 Hz2]
  · isplitl [Hown]
    · iexact Hown
    isplitl [Hz0]
    · iexact Hz0
    isplitl [Hz1]
    · iexact Hz1
    iexact Hz2
  ihave Hown := (pts_thirds (FIN m)).1 $$ Hown
  icases Hown with ⟨Hy0, Hy1, Hy2⟩
  icases Hph3 with ⟨⟨Hn0, Hn1, Hn2⟩, ⟨Hp_s0, Hp_s1, Hp_s2⟩, ⟨⟨Hc_r0, Hp_r0⟩, ⟨Hc_r1, Hp_r1⟩, ⟨Hc_r2, Hp_r2⟩⟩⟩
  rw [WP_bind]
  iapply (part22 m K c _ _ _ _ _) $$ [HO Hy0 Hf0 Hn0 Hy1 Hf1 Hn1]
  · isplitr
    · iexact HR
    isplitl [HO]
    · iexact HO
    isplitl [Hy0 Hf0 Hn0]
    · isplitl [Hy0]
      · iexact Hy0
      isplitl [Hf0]
      · iexact Hf0
      iexact Hn0
    isplitl [Hy1]
    · iexact Hy1
    isplitl [Hf1]
    · iexact Hf1
    iexact Hn1
  iintro %r ⟨HO, Hc_s0, Hc_s1⟩
  obtain ⟨v748, v759, v760, v761, v762, v763⟩ := r
  try dsimp only
  rw [WP_bind]
  iapply (part23 m K c _ _ _ _ _ _ _ _ _) $$ [HO Hy2 Hf2 Hn2 Hc_s0 Hp_s0 Hc_r2 Hp_r2 Hc_s1 Hp_s1]
  · isplitr
    · iexact HR
    isplitr
    · iexact HL
    isplitl [HO]
    · iexact HO
    isplitl [Hy2 Hf2 Hn2]
    · isplitl [Hy2]
      · iexact Hy2
      isplitl [Hf2]
      · iexact Hf2
      iexact Hn2
    isplitl [Hc_s0 Hp_s0]
    · isplitl [Hc_s0]
      · iexact Hc_s0
      iexact Hp_s0
    isplitl [Hc_r2 Hp_r2]
    · isplitl [Hc_r2]
      · iexact Hc_r2
      iexact Hp_r2
    isplitl [Hc_s1]
    · iexact Hc_s1
    iexact Hp_s1
  iintro %v768 ⟨HO, Hc_s2, Hv_s0, Hy0, Hv_r2, Hz2, Hv_s1, Hy1⟩
  try dsimp only
  ihave Ho := (some_of_four (F := F) (b := cc0_stg1_0) (quad_quarters c)) $$ [Ho Ho0 Ho1 Ho2]
  · isplitl [Ho]
    · iexact Ho
    isplitl [Ho0]
    · iexact Ho0
    isplitl [Ho1]
    · iexact Ho1
    iexact Ho2
  icases HtB2 with ⟨⟨Hu0, Hu1, Hu2⟩, Hu⟩
  rw [WP_bind]
  iapply (part24 m K c _ _ _ _ _ _) $$ [HO Hc_r1 Hp_r1 Hc_s2 Hp_s2 Hc_r0 Hp_r0 Hy0 Hy1 Hz2 Ho Hu0 Hu1 Hu2]
  · isplitr
    · iexact HR
    isplitr
    · iexact HL
    isplitl [HO]
    · iexact HO
    isplitl [Hc_r1 Hp_r1]
    · isplitl [Hc_r1]
      · iexact Hc_r1
      iexact Hp_r1
    isplitl [Hc_s2 Hp_s2]
    · isplitl [Hc_s2]
      · iexact Hc_s2
      iexact Hp_s2
    isplitl [Hc_r0 Hp_r0]
    · isplitl [Hc_r0]
      · iexact Hc_r0
      iexact Hp_r0
    isplitl [Hy0]
    · iexact Hy0
    isplitl [Hy1]
    · iexact Hy1
    isplitl [Hz2]
    · iexact Hz2
    isplitl [Ho]
    · iexact Ho
    isplitl [Hu0]
    · iexact Hu0
    isplitl [Hu1]
    · iexact Hu1
    iexact Hu2
  iintro %r ⟨HO, Hv_r1, Hv_s2, Hv_r0, Hs5, Ho⟩
  try dsimp only
  ihave HV3 := (phOut_intro c 3) $$ [Hv_s0 Hv_s1 Hv_s2 Hv_r0 Hv_r1 Hv_r2]
  · isplitl [Hv_s0 Hv_s1 Hv_s2]
    · isplitl [Hv_s0]
      · iexact Hv_s0
      isplitl [Hv_s1]
      · iexact Hv_s1
      iexact Hv_s2
    isplitl [Hv_r0]
    · iexact Hv_r0
    isplitl [Hv_r1]
    · iexact Hv_r1
    iexact Hv_r2
  iapply (partT m K c _) $$ [HO Hu Hbar2]
  · isplitr
    · iexact HR
    isplitr
    · iexact HL
    isplitl [HO]
    · iexact HO
    isplitl [Hu]
    · iexact Hu
    iexact Hbar2
  iintro ⟨HO, Hv_bar2⟩
  dsimp only [cpPay]
  icases Hq0 with ⟨Hs1, Ha1⟩
  icases Hq1 with ⟨Hs2, Ha4⟩
  icases Hq2 with ⟨Hs3, Ha2⟩
  icases Hq3 with ⟨Hs4, Ha3⟩
  ispecialize Hb2 $$ Ha2
  ispecialize Hb3 $$ Ha3
  ihave Hs6 := (some_of_four (F := F) (c := c) (b := cc0_scratch6) quad_slotA) $$ [HA1 HA2 HA3 HA0]
  · isplitl [HA1]
    · iexists _; iexact HA1
    isplitl [HA2]
    · iexists _; iexact HA2
    isplitl [HA3]
    · iexists _; iexact HA3
    iexact HA0
  ihave Hs7 := (some_of_four (F := F) (c := c) (b := cc0_scratch7) quad_slotB) $$ [HB1 HB2 HB3 HB0]
  · isplitl [HB1]
    · iexists _; iexact HB1
    isplitl [HB2]
    · iexists _; iexact HB2
    isplitl [HB3]
    · iexists _; iexact HB3
    iexact HB0
  iapply Hk
  isplitl [HO]
  · iexact HO
  isplitl [Hv_bar Hv_bar2 Hv_cp0 Hv_cp1 Hv_cp2 Hv_cp3 HV0 HV1 HV2 HV3]
  · unfold zeros
    isplitl [Hv_bar]
    · iexact Hv_bar
    isplitl [Hv_bar2]
    · iexact Hv_bar2
    isplitl [Hv_cp0 Hv_cp1 Hv_cp2 Hv_cp3]
    · unfold cpOut
      isplitl [Hv_cp0]
      · iexact Hv_cp0
      isplitl [Hv_cp1]
      · iexact Hv_cp1
      isplitl [Hv_cp2]
      · iexact Hv_cp2
      iexact Hv_cp3
    isplitl [HV0]
    · iexact HV0
    isplitl [HV1]
    · iexact HV1
    isplitl [HV2]
    · iexact HV2
    iexact HV3
  isplitl [Ha1 Hb2 Hb3 Ha4]
  · isplitl [Ha1]
    · iexact Ha1
    isplitl [Hb2]
    · iexact Hb2
    isplitl [Hb3]
    · iexact Hb3
    iexact Ha4
  isplitl [Hat Hs1 Hs2 Hs3 Hs4 Hs5 Hs6 Hs7]
  · isplitl [Hat]
    · iexists _; iexact Hat
    isplitl [Hs1]
    · iexists _; iexact Hs1
    isplitl [Hs2]
    · iexists _; iexact Hs2
    isplitl [Hs3]
    · iexists _; iexact Hs3
    isplitl [Hs4]
    · iexists _; iexact Hs4
    isplitl [Hs5]
    · iexact Hs5
    isplitl [Hs6]
    · iexact Hs6
    iexact Hs7
  isplitl [Hx]
  · iexact Hx
  iexact Ho

end Cert.KernelIdealProof

end
-- ==== Proof.KernelIdealDeal.lean ====
/-
# `KernelIdealDeal`: the schedule at launch

The rights of the schedule minted at launch, each dealt to the device that raises, the semaphores of all devices put
under the schedule, and the credits the devices start with.
-/
module

public import proofs.«01_k».proof.Proof.KernelIdealBody

@[expose] public section

noncomputable section

namespace Cert.KernelIdealProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cix → ℕ)

/-! ## The rights at launch -/

/-- The rights to raise, each once: on the two barriers by duty, on the send, receive and copy semaphores. -/
inductive Tix | bar (d : Fin 6) | bar2 (d : Fin 6) | snd (p : Fin 4) (i : Fin 3) | rcv (p : Fin 4) (i : Fin 3) | cp (i : Fin 4)
  deriving DecidableEq

def rights40 : List Tix :=
  [.bar 0, .bar 1, .bar 2, .bar 3, .bar 4, .bar 5, .bar2 0, .bar2 1, .bar2 2, .bar2 3, .bar2 4, .bar2 5, .snd 0 0, .snd 0 1, .snd 0 2, .snd 1 0, .snd 1 1, .snd 1 2, .snd 2 0, .snd 2 1, .snd 2 2, .snd 3 0, .snd 3 1, .snd 3 2, .rcv 0 0, .rcv 0 1, .rcv 0 2, .rcv 1 0, .rcv 1 1, .rcv 1 2, .rcv 2 0, .rcv 2 1, .rcv 2 2, .rcv 3 0, .rcv 3 1, .rcv 3 2, .cp 0, .cp 1, .cp 2, .cp 3]

instance : Fintype Tix := ⟨⟨(rights40 : Multiset Tix), by decide⟩, fun k => by
  cases k with
  | bar d => fin_cases d <;> decide
  | bar2 d => fin_cases d <;> decide
  | snd p i => fin_cases p <;> fin_cases i <;> decide
  | rcv p i => fin_cases p <;> fin_cases i <;> decide
  | cp i => fin_cases i <;> decide⟩

/-- The cell a right raises, as which duty, and which device's that cell is, seen from the device that holds the right. -/
def Tix.cell : Tix → Cix | .bar _ => .bar | .bar2 _ => .bar2 | .snd p i => .snd p i | .rcv p i => .rcv p i | .cp i => .cp i
def Tix.duty : Tix → Fin 6 | .bar d | .bar2 d => d | _ => 0
def Tix.dev : Tix → (Dev nD ≃ Dev nD) | .bar d | .bar2 d => Pequiv d | .rcv p i => Pequiv (kp p i.rev) | _ => Equiv.refl _

theorem Tix.ext' : ∀ t t' : Tix, t.cell = t'.cell → t.duty = t'.duty → t = t' := by decide +kernel

/-- The cells raised by other devices. -/
def owedCells : List Cix := [.bar, .bar2, .rcv 0 0, .rcv 0 1, .rcv 0 2, .rcv 1 0, .rcv 1 1, .rcv 1 2, .rcv 2 0, .rcv 2 1, .rcv 2 2, .rcv 3 0, .rcv 3 1, .rcv 3 2]

theorem pos_list (c : Dev nD) : (bigSep Finset.univ fun k : Cix => (pos c k : sProp 𝕄))
    = iprop(pos c .bar ∗ pos c .bar2 ∗ pos c (.snd 0 0) ∗ pos c (.snd 0 1) ∗ pos c (.snd 0 2) ∗ pos c (.snd 1 0) ∗ pos c (.snd 1 1) ∗ pos c (.snd 1 2) ∗ pos c (.snd 2 0) ∗ pos c (.snd 2 1) ∗ pos c (.snd 2 2) ∗ pos c (.snd 3 0) ∗ pos c (.snd 3 1) ∗ pos c (.snd 3 2) ∗ pos c (.rcv 0 0) ∗ pos c (.rcv 0 1) ∗ pos c (.rcv 0 2) ∗ pos c (.rcv 1 0) ∗ pos c (.rcv 1 1) ∗ pos c (.rcv 1 2) ∗ pos c (.rcv 2 0) ∗ pos c (.rcv 2 1) ∗ pos c (.rcv 2 2) ∗ pos c (.rcv 3 0) ∗ pos c (.rcv 3 1) ∗ pos c (.rcv 3 2) ∗ pos c (.cp 0) ∗ pos c (.cp 1) ∗ pos c (.cp 2) ∗ pos c (.cp 3)) :=
  bigSep_univ_eq_bigSepL cells30 (by decide) (by decide) _
theorem sv_list (c : Dev nD) : (bigSep Finset.univ fun k : Cix => (sv0 c k : sProp 𝕄))
    = iprop(sv0 c .bar ∗ sv0 c .bar2 ∗ sv0 c (.snd 0 0) ∗ sv0 c (.snd 0 1) ∗ sv0 c (.snd 0 2) ∗ sv0 c (.snd 1 0) ∗ sv0 c (.snd 1 1) ∗ sv0 c (.snd 1 2) ∗ sv0 c (.snd 2 0) ∗ sv0 c (.snd 2 1) ∗ sv0 c (.snd 2 2) ∗ sv0 c (.snd 3 0) ∗ sv0 c (.snd 3 1) ∗ sv0 c (.snd 3 2) ∗ sv0 c (.rcv 0 0) ∗ sv0 c (.rcv 0 1) ∗ sv0 c (.rcv 0 2) ∗ sv0 c (.rcv 1 0) ∗ sv0 c (.rcv 1 1) ∗ sv0 c (.rcv 1 2) ∗ sv0 c (.rcv 2 0) ∗ sv0 c (.rcv 2 1) ∗ sv0 c (.rcv 2 2) ∗ sv0 c (.rcv 3 0) ∗ sv0 c (.rcv 3 1) ∗ sv0 c (.rcv 3 2) ∗ sv0 c (.cp 0) ∗ sv0 c (.cp 1) ∗ sv0 c (.cp 2) ∗ sv0 c (.cp 3)) :=
  bigSep_univ_eq_bigSepL cells30 (by decide) (by decide) _
theorem crd_list (c : Dev nD) : (bigSepL owedCells fun k : Cix => (crd c k : sProp 𝕄))
    = iprop(crd c .bar ∗ crd c .bar2 ∗ crd c (.rcv 0 0) ∗ crd c (.rcv 0 1) ∗ crd c (.rcv 0 2) ∗ crd c (.rcv 1 0) ∗ crd c (.rcv 1 1) ∗ crd c (.rcv 1 2) ∗ crd c (.rcv 2 0) ∗ crd c (.rcv 2 1) ∗ crd c (.rcv 2 2) ∗ crd c (.rcv 3 0) ∗ crd c (.rcv 3 1) ∗ crd c (.rcv 3 2)) := rfl
theorem tok_list (c : Dev nD) : (bigSep Finset.univ fun t : Tix => (tok (t.dev c) t.cell t.duty : sProp 𝕄))
    = iprop(tok (P 0 c) .bar 0 ∗ tok (P 1 c) .bar 1 ∗ tok (P 2 c) .bar 2 ∗ tok (P 3 c) .bar 3 ∗ tok (P 4 c) .bar 4 ∗ tok (P 5 c) .bar 5 ∗ tok (P 0 c) .bar2 0 ∗ tok (P 1 c) .bar2 1 ∗ tok (P 2 c) .bar2 2 ∗ tok (P 3 c) .bar2 3 ∗ tok (P 4 c) .bar2 4 ∗ tok (P 5 c) .bar2 5 ∗ tok c (.snd 0 0) 0 ∗ tok c (.snd 0 1) 0 ∗ tok c (.snd 0 2) 0 ∗ tok c (.snd 1 0) 0 ∗ tok c (.snd 1 1) 0 ∗ tok c (.snd 1 2) 0 ∗ tok c (.snd 2 0) 0 ∗ tok c (.snd 2 1) 0 ∗ tok c (.snd 2 2) 0 ∗ tok c (.snd 3 0) 0 ∗ tok c (.snd 3 1) 0 ∗ tok c (.snd 3 2) 0 ∗ tok (P (kp 0 2) c) (.rcv 0 0) 0 ∗ tok (P (kp 0 1) c) (.rcv 0 1) 0 ∗ tok (P (kp 0 0) c) (.rcv 0 2) 0 ∗ tok (P (kp 1 2) c) (.rcv 1 0) 0 ∗ tok (P (kp 1 1) c) (.rcv 1 1) 0 ∗ tok (P (kp 1 0) c) (.rcv 1 2) 0 ∗ tok (P (kp 2 2) c) (.rcv 2 0) 0 ∗ tok (P (kp 2 1) c) (.rcv 2 1) 0 ∗ tok (P (kp 2 0) c) (.rcv 2 2) 0 ∗ tok (P (kp 3 2) c) (.rcv 3 0) 0 ∗ tok (P (kp 3 1) c) (.rcv 3 1) 0 ∗ tok (P (kp 3 0) c) (.rcv 3 2) 0 ∗ tok c (.cp 0) 0 ∗ tok c (.cp 1) 0 ∗ tok c (.cp 2) 0 ∗ tok c (.cp 3) 0) :=
  bigSep_univ_eq_bigSepL rights40 (by decide) (by decide) _

/-- A device's positions, its rights to raise, and the credits of its cells that others raise make up its rights. -/
theorem rights_intro (c : Dev nD) :
    iprop((bigSep Finset.univ fun k : Cix => pos (F := F) c k) ∗ (bigSep Finset.univ fun t : Tix => tok (t.dev c) t.cell t.duty) ∗ bigSepL owedCells fun k => crd c k)
      ⊢ (rights c : sProp 𝕄) := by
  rw [pos_list, tok_list]
  iintro ⟨HP, HT, HC⟩
  ihave HC := (Entails.of_eq (crd_list c)) $$ HC
  icases HP with ⟨Pbar, Pbar2, Ps00, Ps01, Ps02, Ps10, Ps11, Ps12, Ps20, Ps21, Ps22, Ps30, Ps31, Ps32, Pr00, Pr01, Pr02, Pr10, Pr11, Pr12, Pr20, Pr21, Pr22, Pr30, Pr31, Pr32, Pk0, Pk1, Pk2, Pk3⟩
  icases HT with ⟨Tb0, Tb1, Tb2, Tb3, Tb4, Tb5, Tc0, Tc1, Tc2, Tc3, Tc4, Tc5, Ts00, Ts01, Ts02, Ts10, Ts11, Ts12, Ts20, Ts21, Ts22, Ts30, Ts31, Ts32, Tr00, Tr01, Tr02, Tr10, Tr11, Tr12, Tr20, Tr21, Tr22, Tr30, Tr31, Tr32, Tk0, Tk1, Tk2, Tk3⟩
  icases HC with ⟨Cbar, Cbar2, Cr00, Cr01, Cr02, Cr10, Cr11, Cr12, Cr20, Cr21, Cr22, Cr30, Cr31, Cr32⟩
  unfold rights barToks cpIn phIn
  isplitl [Cbar Pbar]
  · isplitl [Cbar]
    · iexact Cbar
    iexact Pbar
  isplitl [Cbar2 Pbar2]
  · isplitl [Cbar2]
    · iexact Cbar2
    iexact Pbar2
  isplitl [Tb0 Tb1 Tb2 Tb3 Tb4 Tb5]
  · isplitl [Tb0 Tb1 Tb2]
    · isplitl [Tb0]
      · iexact Tb0
      isplitl [Tb1]
      · iexact Tb1
      iexact Tb2
    isplitl [Tb3]
    · iexact Tb3
    isplitl [Tb4]
    · iexact Tb4
    iexact Tb5
  isplitl [Tc0 Tc1 Tc2 Tc3 Tc4 Tc5]
  · isplitl [Tc0 Tc1 Tc2]
    · isplitl [Tc0]
      · iexact Tc0
      isplitl [Tc1]
      · iexact Tc1
      iexact Tc2
    isplitl [Tc3]
    · iexact Tc3
    isplitl [Tc4]
    · iexact Tc4
    iexact Tc5
  isplitl [Tk0 Tk1 Tk2 Tk3 Pk0 Pk1 Pk2 Pk3]
  · isplitl [Tk0 Tk1 Tk2 Tk3]
    · isplitl [Tk0]
      · iexact Tk0
      isplitl [Tk1]
      · iexact Tk1
      isplitl [Tk2]
      · iexact Tk2
      iexact Tk3
    isplitl [Pk0]
    · iexact Pk0
    isplitl [Pk1]
    · iexact Pk1
    isplitl [Pk2]
    · iexact Pk2
    iexact Pk3
  isplitl [Ts00 Tr02 Ts01 Tr01 Ts02 Tr00 Ps00 Ps01 Ps02 Cr00 Pr00 Cr01 Pr01 Cr02 Pr02]
  · isplitl [Ts00 Tr02 Ts01 Tr01 Ts02 Tr00]
    · isplitl [Ts00 Tr02]
      · isplitl [Ts00]
        · iexact Ts00
        iexact Tr02
      isplitl [Ts01 Tr01]
      · isplitl [Ts01]
        · iexact Ts01
        iexact Tr01
      isplitl [Ts02]
      · iexact Ts02
      iexact Tr00
    isplitl [Ps00 Ps01 Ps02]
    · isplitl [Ps00]
      · iexact Ps00
      isplitl [Ps01]
      · iexact Ps01
      iexact Ps02
    isplitl [Cr00 Pr00]
    · isplitl [Cr00]
      · iexact Cr00
      iexact Pr00
    isplitl [Cr01 Pr01]
    · isplitl [Cr01]
      · iexact Cr01
      iexact Pr01
    isplitl [Cr02]
    · iexact Cr02
    iexact Pr02
  isplitl [Ts10 Tr12 Ts11 Tr11 Ts12 Tr10 Ps10 Ps11 Ps12 Cr10 Pr10 Cr11 Pr11 Cr12 Pr12]
  · isplitl [Ts10 Tr12 Ts11 Tr11 Ts12 Tr10]
    · isplitl [Ts10 Tr12]
      · isplitl [Ts10]
        · iexact Ts10
        iexact Tr12
      isplitl [Ts11 Tr11]
      · isplitl [Ts11]
        · iexact Ts11
        iexact Tr11
      isplitl [Ts12]
      · iexact Ts12
      iexact Tr10
    isplitl [Ps10 Ps11 Ps12]
    · isplitl [Ps10]
      · iexact Ps10
      isplitl [Ps11]
      · iexact Ps11
      iexact Ps12
    isplitl [Cr10 Pr10]
    · isplitl [Cr10]
      · iexact Cr10
      iexact Pr10
    isplitl [Cr11 Pr11]
    · isplitl [Cr11]
      · iexact Cr11
      iexact Pr11
    isplitl [Cr12]
    · iexact Cr12
    iexact Pr12
  isplitl [Ts20 Tr22 Ts21 Tr21 Ts22 Tr20 Ps20 Ps21 Ps22 Cr20 Pr20 Cr21 Pr21 Cr22 Pr22]
  · isplitl [Ts20 Tr22 Ts21 Tr21 Ts22 Tr20]
    · isplitl [Ts20 Tr22]
      · isplitl [Ts20]
        · iexact Ts20
        iexact Tr22
      isplitl [Ts21 Tr21]
      · isplitl [Ts21]
        · iexact Ts21
        iexact Tr21
      isplitl [Ts22]
      · iexact Ts22
      iexact Tr20
    isplitl [Ps20 Ps21 Ps22]
    · isplitl [Ps20]
      · iexact Ps20
      isplitl [Ps21]
      · iexact Ps21
      iexact Ps22
    isplitl [Cr20 Pr20]
    · isplitl [Cr20]
      · iexact Cr20
      iexact Pr20
    isplitl [Cr21 Pr21]
    · isplitl [Cr21]
      · iexact Cr21
      iexact Pr21
    isplitl [Cr22]
    · iexact Cr22
    iexact Pr22
  isplitl [Ts30 Tr32 Ts31 Tr31 Ts32 Tr30]
  · isplitl [Ts30 Tr32]
    · isplitl [Ts30]
      · iexact Ts30
      iexact Tr32
    isplitl [Ts31 Tr31]
    · isplitl [Ts31]
      · iexact Ts31
      iexact Tr31
    isplitl [Ts32]
    · iexact Ts32
    iexact Tr30
  isplitl [Ps30 Ps31 Ps32]
  · isplitl [Ps30]
    · iexact Ps30
    isplitl [Ps31]
    · iexact Ps31
    iexact Ps32
  isplitl [Cr30 Pr30]
  · isplitl [Cr30]
    · iexact Cr30
    iexact Pr30
  isplitl [Cr31 Pr31]
  · isplitl [Cr31]
    · iexact Cr31
    iexact Pr31
  isplitl [Cr32]
  · iexact Cr32
  iexact Pr32

/-- All semaphores at zero, listed. -/
theorem zeros_list (c : Dev nD) : (zeros c : sProp 𝕄) ⊢ bigSep Finset.univ fun k : Cix => sv0 c k := by
  rw [sv_list]; unfold zeros cpOut phOut
  iintro ⟨Zbar, Zbar2, ⟨Zk0, Zk1, Zk2, Zk3⟩, ⟨⟨Zs00, Zs01, Zs02⟩, ⟨Zr00, Zr01, Zr02⟩⟩, ⟨⟨Zs10, Zs11, Zs12⟩, ⟨Zr10, Zr11, Zr12⟩⟩, ⟨⟨Zs20, Zs21, Zs22⟩, ⟨Zr20, Zr21, Zr22⟩⟩, ⟨⟨Zs30, Zs31, Zs32⟩, ⟨Zr30, Zr31, Zr32⟩⟩⟩
  isplitl [Zbar]
  · iexact Zbar
  isplitl [Zbar2]
  · iexact Zbar2
  isplitl [Zs00]
  · iexact Zs00
  isplitl [Zs01]
  · iexact Zs01
  isplitl [Zs02]
  · iexact Zs02
  isplitl [Zs10]
  · iexact Zs10
  isplitl [Zs11]
  · iexact Zs11
  isplitl [Zs12]
  · iexact Zs12
  isplitl [Zs20]
  · iexact Zs20
  isplitl [Zs21]
  · iexact Zs21
  isplitl [Zs22]
  · iexact Zs22
  isplitl [Zs30]
  · iexact Zs30
  isplitl [Zs31]
  · iexact Zs31
  isplitl [Zs32]
  · iexact Zs32
  isplitl [Zr00]
  · iexact Zr00
  isplitl [Zr01]
  · iexact Zr01
  isplitl [Zr02]
  · iexact Zr02
  isplitl [Zr10]
  · iexact Zr10
  isplitl [Zr11]
  · iexact Zr11
  isplitl [Zr12]
  · iexact Zr12
  isplitl [Zr20]
  · iexact Zr20
  isplitl [Zr21]
  · iexact Zr21
  isplitl [Zr22]
  · iexact Zr22
  isplitl [Zr30]
  · iexact Zr30
  isplitl [Zr31]
  · iexact Zr31
  isplitl [Zr32]
  · iexact Zr32
  isplitl [Zk0]
  · iexact Zk0
  isplitl [Zk1]
  · iexact Zk1
  isplitl [Zk2]
  · iexact Zk2
  iexact Zk3

/-! ## What others owe -/

abbrev pay (d : Dev nD) (e : Fin 6 × Cix) : GSem nD τ sig × ℕ := (kcell (P e.1 d, e.2), amt e.2)

theorem owed_one (c d : Dev nD) (k : Cix) (e : Fin 6 × Cix) :
    (if kcell (c, k) = (pay d e).1 ∧ () = () then (pay d e).2 else 0) = if d = P (kinv e.1) c then (if k = e.2 then amt k else 0) else 0 := by
  by_cases h : kcell (c, k) = kcell (P e.1 d, e.2)
  · have h' := kcell_injective h
    have h1 : c = P e.1 d := congrArg Prod.fst h'
    have h2 : k = e.2 := congrArg Prod.snd h'
    rw [if_pos ⟨h, rfl⟩, if_pos (by rw [h1, kinv_P]), if_pos h2, h2]
  · rw [if_neg fun h' => h h'.1]
    by_cases h1 : d = P (kinv e.1) c
    · rw [if_pos h1, if_neg]
      rintro rfl
      apply h; rw [h1, P_kinv]
    · rw [if_neg h1]

theorem owed_sum (c : Dev nD) (k : Cix) (l : List (Fin 6 × Cix)) :
    (∑ d : Dev nD, Orem (l.map (pay d)) (kcell (c, k)) ()) = (l.countP fun e => k = e.2) * amt k := by
  induction l with
  | nil => simp [Orem]
  | cons e l ih =>
    have h (d : Dev nD) : Orem ((e :: l).map (pay d)) (kcell (c, k)) () = Orem (l.map (pay d)) (kcell (c, k)) () + if d = P (kinv e.1) c then (if k = e.2 then amt k else 0) else 0 := by
      rw [← owed_one]
      show (Orem (l.map (pay d)) + tallyAt (pay d e).1 () (pay d e).2) (kcell (c, k)) () = _
      rw [Pi.add_apply, Finsupp.add_apply, tallyAt_apply]
    rw [Finset.sum_congr rfl fun d _ => h d, Finset.sum_add_distrib, ih, Finset.sum_ite_eq' Finset.univ (P (kinv e.1) c) fun _ => (if k = e.2 then amt k else 0), if_pos (Finset.mem_univ _), List.countP_cons]
    by_cases hk : k = e.2 <;> simp [hk, Nat.add_mul]

theorem count_tot (k : Cix) (hk : k ∈ owedCells) : (payL.countP fun e => k = e.2) * amt k = tot k := by
  have h : (payL.countP fun e => k = e.2) = if k = .bar ∨ k = .bar2 then 6 else 1 := by revert k; decide +kernel
  rw [h]
  cases k with
  | bar => rfl
  | bar2 => rfl
  | snd p i => exact absurd hk (by revert p i; decide)
  | rcv p i => rw [if_neg (by simp), Nat.one_mul]; rfl
  | cp i => exact absurd hk (by revert i; decide)

theorem launch_cell (c : Dev nD) (k : Cix) (hk : k ∈ owedCells) :
    tallyOn (kcell (c, k)) (launchCredit (Pipeline.owing O₀) 0 (kcell (c, k))) = (tallyAt (kcell (c, k)) () (tot k) : CellTallies nD τ sig Unit) := by
  unfold tallyAt; refine congrArg _ (Finsupp.ext fun u => ?_); cases u
  rw [Pipeline.launchCredit_owing, Finsupp.single_eq_same]
  exact ((owed_sum c k payL).trans (count_tot k hk))

/-- The credits a device starts with. -/
theorem creds (c : Dev nD) : (Pipeline.launchCred O₀ c : sProp 𝕄) ⊢ bigSepL owedCells fun k => crd c k := by
  unfold Pipeline.launchCred
  refine (bigSep_subset (Finset.subset_univ (owedCells.toFinset.map ⟨csem, csem_injective⟩))).trans ?_
  rw [bigSep_map, ← bigSep_eq_bigSepL owedCells (by decide) fun k => (crd c k : sProp 𝕄)]
  exact Entails.of_eq (bigSep_congr fun k hk => congrArg _ (launch_cell c k (List.mem_toFinset.mp hk)))

/-! ## The launch element -/

theorem tokOf_injective : Function.Injective (fun cj : Dev nD × Tix => ((kcell (cj.1, cj.2.cell), 0, cj.2.duty) : GSem nD τ sig × ℕ × Fin 6)) := by
  rintro ⟨c, j⟩ ⟨c', j'⟩ h
  have h1 := kcell_injective (congrArg Prod.fst h)
  have h2 : j.duty = j'.duty := congrArg (fun x : GSem nD τ sig × ℕ × Fin 6 => x.2.2) h
  exact Prod.ext (congrArg (fun x : Dev nD × Cix => x.1) h1) (Tix.ext' _ _ (congrArg (fun x : Dev nD × Cix => x.2) h1) h2)

def ringCells : Finset (GSem nD τ sig) := Finset.univ.map ⟨kcell, kcell_injective⟩
def ringToks : Finset (GSem nD τ sig × ℕ × Fin 6) := Finset.univ.map ⟨_, tokOf_injective⟩

def u₀ : UU := (initOf (Pipeline.cells cfgs cellOf_inj) (Pipeline.launchToks cfgs cellOf_inj), initOf ringCells ringToks)

/-- The tokens of a device's own cells. -/
def toks (c : Dev nD) : sProp 𝕄 := bigSep Finset.univ fun t : Tix => tok c t.cell t.duty
/-- The tokens it pays with. -/
def payToks (c : Dev nD) : sProp 𝕄 := bigSep Finset.univ fun t : Tix => tok (t.dev c) t.cell t.duty
def poss (c : Dev nD) : sProp 𝕄 := bigSep Finset.univ fun k : Cix => pos c k

def G (c : Dev nD) : sProp 𝕄 :=
  iprop((bigSep Finset.univ fun k : Cix => roundState ER (ringRd m) (kcell (c, k)) 0)
    ∗ (bigSep Finset.univ fun k : Cix => iprop(pos c k ∗ reached ER (kcell (c, k)) 0)) ∗ toks c)

def G' (c : Dev nD) : sProp 𝕄 := iprop(∃ K, recs m K ∗ poss c ∗ payToks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cix => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m) ringCells ringToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The kernel's own semaphores: all cells but the runtime's barrier. -/
abbrev osem (k : {k : Cix // k ≠ .bar}) : SemLoc sig := csem k.1

theorem stage_none : ∀ (w : Fin cfg0.W) (s : Fin (cfg0.spec w).nbuf), cix (.dma ((cfg0.spec w).sem s)) = none := by decide
theorem cells_scoped : ∀ k : Cix, k ≠ .bar → (csem k).isScoped .tc = true := by decide +kernel

theorem ownSemFacts : Pipeline.OwnSemFacts cfg0.spec osem where
  isScoped k := cells_scoped k.1 k.2
  inj k k' h := Subtype.ext (csem_injective h)
  disj k w s h := by have := congrArg cix h; rw [cix_csem, stage_none] at this; cases this

theorem unscopedSems0_eq (c : Dev nD) : (unscopedSems0 c : sProp 𝕄) = sv0 c .bar := by
  unfold unscopedSems0; rw [bigSep_eq_bigSepL_of_eq [SemLoc.reg barS] (by decide) (by decide)]; rfl

/-- The barrier and the kernel's own semaphores are all the cells. -/
theorem sems0_eq (c : Dev nD) :
    (bigSep Finset.univ fun k : Cix => sv0 c k : sProp 𝕄)
      = iprop(unscopedSems0 c ∗ Pipeline.ownSems0 (Ix := Unit) (Name := ℕ) (U := UU) (Lvl := ℕ) (Val := Elt F) (τ := τ) osem c) := by
  have he : (Finset.univ.erase .bar : Finset Cix) = (Finset.univ : Finset {k : Cix // k ≠ .bar}).map (Function.Embedding.subtype _) := by ext k; simp
  rw [bigSep_univ_at _ Cix.bar, unscopedSems0_eq, he, bigSep_map]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(pos c k ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Cix => sv0 (F := F) c k) ∗ bigSep Finset.univ fun k : Cix => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every right goes to the device that raises. -/
theorem toks_around : (bigSep Finset.univ fun c : Dev nD => (toks c : sProp 𝕄)) = bigSep Finset.univ fun c : Dev nD => payToks c := by
  unfold toks payToks
  rw [BI.bigSep_univ_comm fun (c : Dev nD) (t : Tix) => (tok c t.cell t.duty : sProp 𝕄), BI.bigSep_univ_comm fun (c : Dev nD) (t : Tix) => (tok (t.dev c) t.cell t.duty : sProp 𝕄)]
  exact bigSep_congr fun t _ => bigSep_univ_equiv t.dev fun c : Dev nD => (tok c t.cell t.duty : sProp 𝕄)

theorem deal {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell (c, k))))
          ∗ (bigSep Finset.univ fun k => iprop(pos c k ∗ reached ER (kcell (c, k)) 0)) ∗ toks c) : sProp 𝕄)
      ⊢ bigSep Finset.univ (G' m) := by
  rw [bigSep_sep', bigSep_sep', ← bigSep_univ_prod (fun ck : Dev nD × Cix => iprop(∃ κ : ℕ, cellInv ER (ringRd m) κ (kcell ck))),
    bigSep_congr (s := Finset.univ) (fun (c : Dev nD) _ => bigSep_sep' Finset.univ (fun k : Cix => (pos c k : sProp 𝕄)) (fun k => reached ER (kcell (c, k)) 0)),
    bigSep_sep', ← bigSep_univ_prod (fun ck : Dev nD × Cix => (reached ER (kcell ck) 0 : sProp 𝕄)), toks_around]
  iintro ⟨HI, ⟨Hat, #HR⟩, Htok⟩
  ihave HK := (BI.bigSep_exists_pi Finset.univ (fun (ck : Dev nD × Cix) (κ : ℕ) => (cellInv ER (ringRd m) κ (kcell ck) : sProp 𝕄))) $$ HI
  icases HK with ⟨%K, #HI⟩
  iapply (deal (R := recs m K) (Φ := fun c => iprop(poss c ∗ payToks c)) fun c _ => show iprop(recs m K ∗ (poss c ∗ payToks c)) ⊢ G' m c from by
    unfold G'; iintro ⟨HR, HP⟩; iexists K; isplitl [HR] <;> iassumption)
  isplitr
  · unfold recs; rw [bigSep_sep']; isplitl; · iexact HI
    iexact HR
  · rw [bigSep_sep']
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdealProof

end
-- ==== Proof.KernelIdealRun.lean ====
/-
# `KernelIdealRun`: the kernel on the whole mesh

The sixteen devices from launch to end: each device's result ends at the final rows, the arguments are as they were, and
every semaphore is at zero again.
-/
module

public import proofs.«01_k».proof.Proof.KernelIdealDeal
public import proofs.«01_k».proof.Proof.Gen.KernelIdeal.Frame
public import Idealize.ShloMosaic.Lib.Pipeline.CollectiveSegs

@[expose] public section

noncomputable section

namespace Cert.KernelIdealProof

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cix → ℕ)

variable (ρ : Dev nD → PrngReg)

/-- The memory at launch: any contents, every semaphore at zero, any generator registers. -/
def s₀ : MemSt nD τ sig (Elt F) := ⟨m, fun _ => 0, ρ⟩

/-! ## The pipeline's proof data -/

def t₀ : Fin cfg0.N := t0_0
theorem fin_N (t : Fin cfg0.N) : t = t₀ := fin_N0 t

def start (c : Dev nD) : sProp 𝕄 := iprop((∃ K, recs m K) ∗ lvls ∗ rights c ∗ argsAt m c)
def Φ₀ (c : Dev nD) : sProp 𝕄 := iprop(start m c ∗ scr (F := F) c)
def Φ₁ (c : Dev nD) : sProp 𝕄 := iprop(zeros c ∗ argsAt m c ∗ scr (F := F) c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

theorem owns_at (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 2) t₀ d)) ∗ (∃ d, stg c cc0_stg1_0 ((dats m 0 c).before (1 : Fin 2) t₀ d)))
def bodyPost (c : Dev nD) : sProp 𝕄 :=
  iprop(Φ₁ m c ∗ (dats m 0 c).owesAt () t₀.succ ∗ stg c cc0_stg0_0 (xstg m c) ∗ stg c cc0_stg1_0 (outAt m))

theorem body_run (c : Dev nD) : bodyPre m c ⊢ WP c (cc0_body (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0) (fun _ => bodyPost m c) := by
  unfold bodyPre Φ₀ start Dat.owesAt Pipeline.owesWithin
  iintro ⟨⟨⟨⟨%K, #HR⟩, #HL, Hr, Ha⟩, Hs⟩, ⟨%W, %hW, HO⟩, ⟨%d0, %g0, %hg0, Hx⟩, ⟨%d1, %g1, %hg1, Ho⟩⟩
  have hx : g0 = xstg m c := by rw [hg0]; unfold Dat.before; rw [if_pos (fetch0_0 t₀)]; rfl
  subst hx
  iapply (sound_body m K c fun _ => bodyPost m c) $$ [HO Hr Ha Hs Hx Ho]
  · isplitr; · iexact HR
    isplitr; · iexact HL
    isplitl [HO]; · unfold ow; iexists W; iexact HO
    isplitl [Hr]; · iexact Hr
    isplitl [Ha]; · iexact Ha
    isplitl [Hs]; · iexact Hs
    isplitl [Hx]; · iexact Hx
    iexists g1; iexact Ho
  unfold bodyPost Φ₁ Dat.owesAt Pipeline.owesWithin ow
  iintro ⟨⟨%W', HO⟩, Hz, Ha, Hs, Hx, Ho⟩
  isplitl [Hz Ha Hs]
  · isplitl [Hz]; · iexact Hz
    isplitl [Ha] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 20000 in
theorem body_obligation (c : Dev nD) : BodyObligation (dats (F := F) m 0 c) (defs₀ (F := F)) 𝒱₀ () Set.univ := fun t => by
  rw [fin_N t]
  rw [bigSep_W0, bigSep_W0]
  simp only [owns_at]
  show bodyPre m c ⊢ WP c (cc0_body (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0) (fun _ => bodyPost m c)
  exact body_run m c

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' poss payToks start argsAt
  iintro ⟨Ha, Hlev, Hcr, -, ⟨%K, #HR, Hp, Ht⟩⟩
  ihave Hc := (creds (F := F) c) $$ Hcr
  ihave Hr := (rights_intro (F := F) c) $$ [Hp Ht Hc]
  · isplitl [Hp]; · iexact Hp
    isplitl [Ht] <;> iassumption
  imodintro
  isplitl
  · isplitr; · iexists K; iexact HR
    isplitl [Hlev]; · iexact Hlev
    isplitl [Hr]; · iexact Hr
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

theorem phi1_exit (c : Dev nD) :
    (dats m 0 c).Φ (Fin.last cfg0.N) ⊢ iprop((unscopedSems0 c ∗ argsAt m c) ∗ Pipeline.ownSems0 osem c ∗ Pipeline.scopedRest cfg0.spec c) := by
  rw [show (dats m 0 c).Φ (Fin.last cfg0.N) = Φ₁ m c from rfl, scopedRest0_eq]
  unfold Φ₁ scr
  iintro ⟨Hz, Ha, Hr⟩
  ihave Hz := (zeros_list (F := F) c) $$ Hz
  ihave Hz := (Entails.of_eq (sems0_eq (F := F) c)) $$ Hz
  icases Hz with ⟨Hu, Ho⟩
  isplitl [Hu Ha]
  · isplitl [Hu] <;> iassumption
  isplitl [Ho]; · iexact Ho
  iexact Hr

theorem payL_pos : ∀ e ∈ payL, 0 < lvS (csem e.2) := by decide +kernel

theorem waits (c : Dev nD) : (levAts L lv : sProp 𝕄) ⊢ Pipeline.cellsWaits cfgs (dats m) () 0 c :=
  Pipeline.cellsWaits_intro cfgs (dats m) () 0 c fun w s t => by
    have h0 : lvS (.dma ((cfg0.spec w).sem s)) = 0 := by unfold lvS; rw [stage_none]
    rcases t with ⟨_ | _, ht⟩
    · refine mayWait c _ (pays c) fun x hx => ?_
      rw [pays_eq, List.mem_map] at hx
      obtain ⟨e, he, rfl⟩ := hx
      refine ⟨rfl, ?_⟩
      show lvS (.dma ((cfg0.spec w).sem s)) < _
      rw [h0]; exact payL_pos e he
    · exact mayWait c _ [] fun x hx => absurd hx List.not_mem_nil

/-! ## The run -/

/-- The weights, read off a final state. -/
def ArgsKept (c : Dev nD) (s : MemSt nD τ sig (Elt F)) : Prop :=
  s.mem ((c : Thread nD τ).loc main_arg1) = at_ m c main_arg1 ∧ s.mem ((c : Thread nD τ).loc main_arg2) = at_ m c main_arg2
    ∧ s.mem ((c : Thread nD τ).loc main_arg3) = at_ m c main_arg3 ∧ s.mem ((c : Thread nD τ).loc main_arg4) = at_ m c main_arg4

theorem arg_read (c : Dev nD) (b : Ref sig .tc) (f : Buf (Elt F) ((c : Thread nD τ).loc b)) (s' : Phys nD τ sig (Elt F)) :
    iprop(SI s' ∗ pts c b Finset.univ fullShare f) ⊢ (⌜s'.mem.mem ((c : Thread nD τ).loc b) = f⌝ : sProp 𝕄) :=
  (SI_pointsTo_agree (st := s') (ℓ := (c : Thread nD τ).loc b)).trans (BI.pure_mono fun h => funext fun i => h i (Finset.mem_univ i))

theorem args_read (c : Dev nD) (s' : Phys nD τ sig (Elt F)) :
    iprop(argsAt m c ∗ SI s') ⊢ (⌜ArgsKept m c s'.mem⌝ : sProp 𝕄) := by
  unfold argsAt
  iintro ⟨⟨H1, H2, H3, H4⟩, HSI⟩
  ihave %h1 := (arg_read c main_arg1 _ s') $$ [HSI H1]
  · isplitl [HSI] <;> iassumption
  ihave %h2 := (arg_read c main_arg2 _ s') $$ [HSI H2]
  · isplitl [HSI] <;> iassumption
  ihave %h3 := (arg_read c main_arg3 _ s') $$ [HSI H3]
  · isplitl [HSI] <;> iassumption
  ihave %h4 := (arg_read c main_arg4 _ s') $$ [HSI H4]
  · isplitl [HSI] <;> iassumption
  ipureintro
  exact ⟨h1, h2, h3, h4⟩

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w) ∧ ArgsKept m c r.2

set_option maxRecDepth 8000 in
/-- The whole mesh: every fair run ends, each device's result at the final rows, the arguments as they were, every
    semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ argsAt m c)) (Z := fun _ => iprop(emp))
    (hX := start_intro m ρ) (hin := phi0_intro m) (hout := phi1_exit m)
    (QY := fun c s => (∀ sm : SemLoc sig, sm.isScoped .tc = false → s.sem ((c.tc : Thread nD τ), sm) = 0) ∧ ArgsKept m c s)
    (hY := fun c s' => by
      iintro ⟨⟨Hu, Ha⟩, -, HSI⟩
      ihave %h := (args_read m c s') $$ [Ha HSI]
      · isplitl [Ha] <;> iassumption
      imod (Pipeline.unscopedSems0_read (X := unscopedSems0 c) (c := c) fupd_intro s') $$ [Hu HSI] with ⟨%h', HSI⟩
      · isplitl [Hu] <;> iassumption
      imodintro
      isplitr; · ipureintro; exact ⟨h', h⟩
      iexact HSI)
    (hQ := fun _ h hs => ⟨fun c => ⟨fun w => (h c).1 w, (h c).2.2.2⟩, sem_eq_zero hs fun c => (h c).2.2.1⟩)

/-- The input array is as it was. -/
theorem final_x (c : Dev nD) : finalA m c (0 : Fin 2) = at_ m c main_arg0 := (dats (F := F) m 0 c).arrAt_in (0 : Fin 2) rfl _

/-- The result array ends at the final rows. -/
theorem final_out (c : Dev nD) : finalA m c (1 : Fin 2) = outAt m := by
  unfold finalA
  rw [show cfg0.N = (t₀ : Fin cfg0.N).val + 1 from rfl, (dats m 0 c).arrAt_succ (1 : Fin 2) t₀, if_pos (flush0_1 t₀)]
  exact Memref.write_access_unit_zero_univ (Elt F) main_v1 (funext fun a => by fin_cases a <;> rfl) _ _ _

/-- The run at the claims' own terms. -/
theorem run_all : θ_run defs (onTc (τ := τ) (main (F := F))) ⟨m, fun _ => 0, ρ⟩ (fun r => (∀ c : Dev nD,
      r.2.mem ((c.tc : Thread nD τ).loc main_v1) = outAt m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨((h.1 c).1 1).trans (final_out m c), ((h.1 c).1 0).trans (final_x m c), (h.1 c).2.1, (h.1 c).2.2.1, (h.1 c).2.2.2.1, (h.1 c).2.2.2.2⟩, h.2⟩) (run_main m ρ)

end Cert.KernelIdealProof

end
-- ==== Proof.AttnMath.lean ====
/-
# `AttnMath`: the attention of one head, in numbers

The value of one head's attention at one row and one lane, over the extended reals, from its queries, keys and values: what
both programs compute.
-/
module

public import Idealize.ShloMosaic.PureOps.Ideal

@[expose] public section

noncomputable section

namespace Cert.AttnMath

open Idealize.ShloMosaic

/-- The scaled score of row `i` against row `j`. -/
def score (q k : Fin 256 → Fin 128 → EReal) (i j : Fin 256) : EReal :=
  (∑ e : Fin 128, q i e * k j e) * Ideal.ofBits .f32 0x3DB504F3#32

/-- The largest score of row `i`. -/
def top (q k : Fin 256 → Fin 128 → EReal) (i : Fin 256) : EReal :=
  Finset.univ.fold max (Ideal.ofBits .f32 0xFF800000#32) fun j => score q k i j

/-- The weight, not yet normalised, that row `i` gives to row `j`. -/
def weight (q k : Fin 256 → Fin 128 → EReal) (i j : Fin 256) : EReal := Ideal.exp (score q k i j - top q k i)

/-- The head's result at row `i`, lane `d`. -/
def headAt (q k v : Fin 256 → Fin 128 → EReal) (i : Fin 256) (d : Fin 128) : EReal :=
  Ideal.div (∑ j : Fin 256, weight q k i j * v j d) (∑ j : Fin 256, weight q k i j)

/-- Row `i` of `x` against column `n` of `w`. -/
def proj {N : ℕ} (x : Fin 256 → Fin 1024 → EReal) (w : Fin 1024 → Fin N → EReal) (i : Fin 256) (n : Fin N) : EReal :=
  ∑ t : Fin 1024, x i t * w t n

end Cert.AttnMath
-- ==== Proof.KernelIdealHead.lean ====
/-
# `KernelIdealHead`: the kernel's attention, read at an entry

Each of a device's eight heads is one function of its columns of the queries, keys and values; the device's attention is the
eight side by side.
-/
module

public import proofs.«01_k».proof.Proof.KernelIdealSched
public import proofs.«01_k».proof.Proof.AttnMath
public import Idealize.ShloMosaic.Lib.Pointwise

@[expose] public section

noncomputable section

namespace Cert.KernelIdealProof

open Cert.KernelIdeal Cert.KernelIdeal.Gen Cert.AttnMath

open Idealize.ShloMosaic
open Idealize.ShloMosaic.TcCoe
open scoped BigOperators

/-- One head from its columns of queries, keys and values. -/
def headOf (q k v : FVec Ideal S256x128 .bf16) : FVec Ideal S256x128 .f32 :=
  have s : FVec Ideal S256x256 .f32 := mulf (matmul dot_S256x128_S256x128_S256x256_1_1_0_0_n_n none q k (constant S256x256 .f32 0x00000000#32))
    (broadcast S256x256 (Scalar.ofBits .f32 0x3DB504F3#32))
  have t : FVec Ideal S256 .f32 := multiReduction .maximumf [1] S256 s 0xFF800000#32 reduces_S256x256_S256 (.inl rfl) rfl
  have p : FVec Ideal S256x256 .f32 := exp (subf s (broadcastTo S256x256 (shapeCast S256x1 t shapeCasts_S256_S256x1) broadcasts_S256x1_S256x256))
  have l : FVec Ideal S256 .f32 := multiReduction .add [1] S256 p 0x00000000#32 reduces_S256x256_S256 (.inl rfl) rfl
  have pv : FVec Ideal S256x128 .f32 := matmul dot_S256x256_S256x128_S256x128_1_0_0_1_n_n none (truncf .bf16 p bitsLt_bf16_f32) v (constant S256x128 .f32 0x00000000#32)
  divf pv (broadcastTo S256x128 (shapeCast S256x1 l shapeCasts_S256_S256x1) broadcasts_S256x1_S256x128)

theorem headOf_apply (q k v : FVec Ideal S256x128 .bf16) (i : Fin 256) (d : Fin 128) :
    headOf q k v (ix2 i d) = headAt (fun a e => q (ix2 a e)) (fun a e => k (ix2 a e)) (fun a e => v (ix2 a e)) i d := by
  unfold headAt weight top score
  pointwise [headOf]

theorem cut_q : ∀ h : Fin 8, S256x1024.Slices ![0, 128 * h.val] S256x128 := by decide
theorem cut_kv : ∀ h : Fin 8, S256x256.Slices ![0, 128 * (h.val / 4)] S256x128 := by decide

/-- Head `h` of a device's attention. -/
def headNo (q : FVec Ideal S256x1024 .f32) (k v : FVec Ideal S256x256 .bf16) (h : Fin 8) : FVec Ideal S256x128 .f32 :=
  headOf (extractStridedSlice S256x128 ![0, 128 * h.val] (truncf .bf16 q bitsLt_bf16_f32) (cut_q h))
    (extractStridedSlice S256x128 ![0, 128 * (h.val / 4)] k (cut_kv h)) (extractStridedSlice S256x128 ![0, 128 * (h.val / 4)] v (cut_kv h))

theorem attnOf_eq (q : FVec Ideal S256x1024 .f32) (k v : FVec Ideal S256x256 .bf16) :
    attnOf q k v = shapeCast S256x1024 (truncf .bf16 (concatenate S256x1024 1 (List.ofFn fun h : Fin 8 => ⟨S256x128, headNo q k v h⟩)
      concatenates_S256x128_S256x128_S256x128_S256x128_S256x128_S256x128_S256x128_S256x128_S256x1024_d1) bitsLt_bf16_f32) shapeCasts_S256x1024_S256x1024 := rfl

/-- Column `l` of a device's attention: head `l / 128` at lane `l % 128`. -/
theorem attnOf_apply (q : FVec Ideal S256x1024 .f32) (k v : FVec Ideal S256x256 .bf16) (i : Fin 256) (l : Fin 1024) :
    attnOf q k v (ix2 i l) = headAt (fun a e => q (ix2 a ⟨128 * (l.val / 128) + e.val, by omega⟩))
      (fun a e => k (ix2 a ⟨128 * (l.val / 512) + e.val, by omega⟩)) (fun a e => v (ix2 a ⟨128 * (l.val / 512) + e.val, by omega⟩))
      i ⟨l.val % 128, by omega⟩ := by
  rw [attnOf_eq, shapeCast_self]
  have hl : l.val / 128 < 8 := by omega
  refine (concatenate_ofFn_apply (1 : Fin S256x1024.rank) (headNo q k v)
    concatenates_S256x128_S256x128_S256x128_S256x128_S256x128_S256x128_S256x128_S256x128_S256x1024_d1 rfl 128 rfl (ix2 i l) ⟨l.val / 128, hl⟩ rfl
    (ix2 i ⟨l.val % 128, by omega⟩) rfl (fun b hb => ?_)).trans ?_
  · match b with
    | ⟨0, _⟩ => rfl
    | ⟨1, _⟩ => exact absurd rfl hb
  unfold headNo
  rw [headOf_apply]
  have hd : l.val / 128 / 4 = l.val / 512 := by omega
  congr 1
  · funext a e
    exact extractStridedSlice_apply _ _ _ _ (ix2 a ⟨128 * (l.val / 128) + e.val, by omega⟩) fun b => by
      match b with
      | ⟨0, _⟩ => exact (Nat.zero_add _).symm
      | ⟨1, _⟩ => rfl
  · funext a e
    exact extractStridedSlice_apply _ _ _ _ (ix2 a ⟨128 * (l.val / 512) + e.val, by omega⟩) fun b => by
      match b with
      | ⟨0, _⟩ => exact (Nat.zero_add _).symm
      | ⟨1, _⟩ => exact congrArg (fun n => 128 * n + e.val) hd.symm
  · funext a e
    exact extractStridedSlice_apply _ _ _ _ (ix2 a ⟨128 * (l.val / 512) + e.val, by omega⟩) fun b => by
      match b with
      | ⟨0, _⟩ => exact (Nat.zero_add _).symm
      | ⟨1, _⟩ => exact congrArg (fun n => 128 * n + e.val) hd.symm

/-! ## The projections -/

theorem pay2_apply (x : FVec Ideal S256x1024 .f32) (w : FVec Ideal S1024x1024 .f32) (i : Fin 256) (n : Fin 1024) :
    k0_pay2 (F := Ideal) x w (ix2 i n) = proj (fun a t => x (ix2 a t)) (fun t b => w (ix2 t b)) i n := by
  unfold proj
  pointwise [k0_pay2, k0_pay1]
theorem pay3_apply (x : FVec Ideal S256x1024 .f32) (w : FVec Ideal S1024x256 .f32) (i : Fin 256) (n : Fin 256) :
    k0_pay3 (F := Ideal) x w (ix2 i n) = proj (fun a t => x (ix2 a t)) (fun t b => w (ix2 t b)) i n := by
  unfold proj
  pointwise [k0_pay3, k0_pay1]
theorem pay4_apply (x : FVec Ideal S256x1024 .f32) (w : FVec Ideal S1024x256 .f32) (i : Fin 256) (n : Fin 256) :
    k0_pay4 (F := Ideal) x w (ix2 i n) = proj (fun a t => x (ix2 a t)) (fun t b => w (ix2 t b)) i n := by
  unfold proj
  pointwise [k0_pay4, k0_pay1]

end Cert.KernelIdealProof
-- ==== Proof.KernelIdealSum.lean ====
/-
# `KernelIdealSum`: the exchange, read at an entry

Over the extended reals a row of the result, whichever device finishes it, is the sum over the sixteen devices of the
device's own product for that row.
-/
module

public import proofs.«01_k».proof.Proof.KernelIdealHead

@[expose] public section

noncomputable section

namespace Cert.KernelIdealProof

open Cert.KernelIdeal Cert.KernelIdeal.Gen Cert.AttnMath

open Idealize.ShloMosaic
open Idealize.ShloMosaic.TcCoe
open scoped BigOperators

variable (m : (ℓ : Loc nD τ sig) → Buf (Elt Ideal) ℓ)

/-- Device `c`'s own product at row `i`, column `n`: its part of the result. -/
def contrib (c : Dev nD) (i : Fin 256) (n : Fin 1024) : EReal :=
  ∑ l : Fin 1024, attn m c (ix2 i l) * (at_ m c main_arg4 : FVec Ideal S1024x1024 .f32) (ix2 l n)

/-- Row `j` of quarter `q`. -/
def rowQ (q : ℕ) (j : Fin 64) : Fin 256 := ⟨(qoff q + j.val) % 256, Nat.mod_lt _ (by decide)⟩

/-- Row `j` of sixteenth `z` of a quarter. -/
def rowS (z : ℕ) (j : Fin 16) : Fin 64 := ⟨(16 * z + j.val) % 64, Nat.mod_lt _ (by decide)⟩

theorem quarterOf_apply {α : Type} (f : S256x1024.Idx → α) (q : ℕ) (j : Fin 64) (n : Fin 1024) : quarterOf f q (ix2 j n) = f (ix2 (rowQ q j) n) := by
  rw [ix2_eq_valueIdx (rowQ q j)]; rfl
theorem sixteenthOf_apply {α : Type} (f : S64x1024.Idx → α) (z : ℕ) (j : Fin 16) (n : Fin 1024) : sixteenthOf f z (ix2 j n) = f (ix2 (rowS z j) n) := by
  rw [ix2_eq_valueIdx (rowS z j)]; rfl
theorem liftA_apply {α : Type} (w : S64x1024.Idx → α) (a : Fin 1) (j : Fin 64) (n : Fin 1024) : liftA w (ix3 a j n) = w (ix2 j n) := by
  rw [ix2_eq_valueIdx]; rfl
theorem liftB_apply {α : Type} (w : S16x1024.Idx → α) (a : Fin 1) (j : Fin 16) (n : Fin 1024) : liftB w (ix3 a j n) = w (ix2 j n) := by
  rw [ix2_eq_valueIdx]; rfl

theorem pay18_apply (w : FVec Ideal S1024x1024 .bf16) (a : FVec Ideal S64x1024 .bf16) (j : Fin 64) (n : Fin 1024) :
    k0_pay18 (F := Ideal) w a (ix2 j n) = ∑ l : Fin 1024, a (ix2 j l) * w (ix2 l n) := by
  pointwise [k0_pay18]
theorem pay21_apply (w : FVec Ideal S1024x1024 .bf16) (a : FVec Ideal S64x1024 .bf16) (j : Fin 64) (n : Fin 1024) :
    k0_pay21 (F := Ideal) w a (ix2 j n) = ∑ l : Fin 1024, a (ix2 j l) * w (ix2 l n) := by
  pointwise [k0_pay21]
theorem pay22_apply (a : FVec Ideal S64x1024 .f32) (x y z : FVec Ideal S1x64x1024 .bf16) (j : Fin 64) (n : Fin 1024) :
    k0_pay22 (F := Ideal) a x y z (ix2 j n) = a (ix2 j n) + x (ix3 0 j n) + y (ix3 0 j n) + z (ix3 0 j n) := by
  pointwise [k0_pay22]
theorem pay27_apply (a : FVec Ideal S16x1024 .f32) (x y z : FVec Ideal S1x16x1024 .bf16) (j : Fin 16) (n : Fin 1024) :
    k0_pay27 (F := Ideal) a x y z (ix2 j n) = a (ix2 j n) + x (ix3 0 j n) + y (ix3 0 j n) + z (ix3 0 j n) := by
  pointwise [k0_pay27]

theorem part_apply (c : Dev nD) (q : ℕ) (j : Fin 64) (n : Fin 1024) : part m c q (ix2 j n) = contrib m c (rowQ q j) n := by
  unfold part contrib wo
  rw [pay18_apply]
  simp only [quarterOf_apply]
  rfl

theorem own_apply (c : Dev nD) (j : Fin 64) (n : Fin 1024) : own m c (ix2 j n) = contrib m c (rowQ (rr c) j) n := by
  unfold own contrib wo
  rw [pay21_apply]
  simp only [quarterOf_apply]
  rfl

/-- The first sum: over the plane of four. -/
theorem red1_apply (c : Dev nD) (j : Fin 64) (n : Fin 1024) :
    red1 m c (ix2 j n) = contrib m c (rowQ (rr c) j) n + contrib m (P 0 c) (rowQ (rr c) j) n + contrib m (P 1 c) (rowQ (rr c) j) n
      + contrib m (P 2 c) (rowQ (rr c) j) n := by
  unfold red1
  rw [pay22_apply, own_apply, liftA_apply, liftA_apply, liftA_apply, part_apply, part_apply, part_apply]

theorem sub_apply (c : Dev nD) (z : ℕ) (j : Fin 16) (n : Fin 1024) : sub m c z (ix2 j n) = red1 m c (ix2 (rowS z j) n) := by
  unfold sub
  have h : ∀ w : FVec Ideal S16x1024 .f32, k0_pay23 (F := Ideal) w (ix2 j n) = w (ix2 j n) := fun w => by pointwise [k0_pay23]
  rw [h, sixteenthOf_apply]

/-- The second sum: over the four planes. -/
theorem fin16_apply (c : Dev nD) (j : Fin 16) (n : Fin 1024) :
    fin16 m c (ix2 j n) = red1 m c (ix2 (rowS (zz c) j) n) + red1 m (P 3 c) (ix2 (rowS (zz c) j) n) + red1 m (P 4 c) (ix2 (rowS (zz c) j) n)
      + red1 m (P 5 c) (ix2 (rowS (zz c) j) n) := by
  have h : fin16 m c (ix2 j n) = red2 m c (ix2 j n) := by
    unfold fin16
    generalize red2 m c = w
    pointwise [k0_pay28]
  rw [h]
  unfold red2
  rw [pay27_apply, liftB_apply, liftB_apply, liftB_apply, sixteenthOf_apply, sub_apply, sub_apply, sub_apply]

/-! ## The sixteen devices in the order of the sum -/

/-- A device, its plane, and the planes of its three counterparts: every device once. -/
def order (c : Dev nD) : List (Dev nD) :=
  [c, P 0 c, P 1 c, P 2 c, P 3 c, P 0 (P 3 c), P 1 (P 3 c), P 2 (P 3 c), P 4 c, P 0 (P 4 c), P 1 (P 4 c), P 2 (P 4 c),
    P 5 c, P 0 (P 5 c), P 1 (P 5 c), P 2 (P 5 c)]

theorem order_perm : ∀ c : Dev nD, (order c).Perm (List.finRange nD) := by decide +kernel

theorem rr_across : ∀ c : Dev nD, rr (P 3 c) = rr c ∧ rr (P 4 c) = rr c ∧ rr (P 5 c) = rr c := by decide +kernel

theorem sum_order (c : Dev nD) (g : Dev nD → EReal) :
    (g c + g (P 0 c) + g (P 1 c) + g (P 2 c)) + (g (P 3 c) + g (P 0 (P 3 c)) + g (P 1 (P 3 c)) + g (P 2 (P 3 c)))
      + (g (P 4 c) + g (P 0 (P 4 c)) + g (P 1 (P 4 c)) + g (P 2 (P 4 c))) + (g (P 5 c) + g (P 0 (P 5 c)) + g (P 1 (P 5 c)) + g (P 2 (P 5 c)))
      = ∑ d : Dev nD, g d := by
  have h := ((order_perm c).map g).sum_eq
  rw [← Fin.sum_univ_def] at h
  rw [← h]
  unfold order
  simp only [List.map_cons, List.map_nil, List.sum_cons, List.sum_nil, add_zero, add_assoc]

/-- The row that a device finishes at its `j`-th place. -/
theorem row_of : ∀ i : Fin 256, rowQ (rr (rowDev i.val)) (rowS (zz (rowDev i.val)) ⟨i.val % 16, Nat.mod_lt _ (by decide)⟩) = i := by
  decide +kernel

/-- The result at an entry: the sum of the devices' parts. -/
theorem outAt_apply (i : Fin 256) (n : Fin 1024) : outAt m (ix2 i n) = ∑ d : Dev nD, contrib m d i n := by
  have h : outAt m (ix2 i n) = fin16 m (rowDev i.val) (ix2 ⟨i.val % 16, Nat.mod_lt _ (by decide)⟩ n) := by
    rw [ix2_eq_valueIdx (⟨i.val % 16, Nat.mod_lt _ (by decide)⟩ : Fin 16)]
    rfl
  rw [h, fin16_apply, red1_apply, red1_apply, red1_apply, red1_apply, (rr_across (rowDev i.val)).1, (rr_across (rowDev i.val)).2.1,
    (rr_across (rowDev i.val)).2.2, row_of]
  exact sum_order (rowDev i.val) fun d => contrib m d i n

end Cert.KernelIdealProof
-- ==== Proof.ReferenceRead.lean ====
/-
# `ReferenceRead`: the reference, read at an entry

The reference's result is its attention, head by head the same function of its projections' columns, against the output
weights.
-/
module

public import proofs.«01_k».proof.Proof.Gen.ReferenceIdeal.Run
public import proofs.«01_k».proof.Proof.AttnMath
public import Idealize.ShloMosaic.Lib.Pointwise

@[expose] public section

noncomputable section

namespace Cert.ReferenceIdealProof

open Cert.ReferenceIdeal Cert.ReferenceIdeal.Gen Cert.AttnMath

open Idealize.ShloMosaic
open Idealize.ShloMosaic.TcCoe
open scoped BigOperators

/-- The queries, by head and lane. -/
def refQ (x : FVec Ideal S256x1024 .f32) (w : FVec Ideal S1024x16384 .f32) : FVec Ideal S1x256x128x128 .f32 :=
  shapeCast _ (Host.dotGeneral dot_S1x256x1024_S1024x16384_S1x256x16384_2_0_01_1_n_n none (broadcastInDim S1x256x1024 ![1, 2] bcast_S256x1024_S1x256x1024_1_2 x) w) shapeCasts_S1x256x16384_S1x256x128x128

/-- Keys or values before they are repeated. -/
def refKV0 (x : FVec Ideal S256x1024 .f32) (w : FVec Ideal S1024x4096 .f32) : FVec Ideal S1x256x32x128 .f32 :=
  shapeCast _ (Host.dotGeneral dot_S1x256x1024_S1024x4096_S1x256x4096_2_0_01_1_n_n none (broadcastInDim S1x256x1024 ![1, 2] bcast_S256x1024_S1x256x1024_1_2 x) w) shapeCasts_S1x256x4096_S1x256x32x128

/-- Keys or values, each head's repeated for its four query heads. -/
def refKV (x : FVec Ideal S256x1024 .f32) (w : FVec Ideal S1024x4096 .f32) : FVec Ideal S1x256x128x128 .f32 :=
  shapeCast _ (broadcastInDim S1x256x32x4x128 ![0, 1, 2, 4] bcast_S1x256x32x128_S1x256x32x4x128_0_1_2_4 (refKV0 x w)) shapeCasts_S1x256x32x4x128_S1x256x128x128

/-- The scaled scores. -/
def refS (q k : FVec Ideal S1x256x128x128 .f32) : FVec Ideal S1x128x256x256 .f32 :=
  mulf (Host.dotGeneral dot_S1x256x128x128_S1x256x128x128_S1x128x256x256_3_3_1_1_02_02 none q k) (broadcastInDim S1x128x256x256 ![] bcast_S_S1x128x256x256 (constant S_ .f32 0x3DB504F3#32))

/-- The weights, not yet normalised. -/
def refP (s : FVec Ideal S1x128x256x256 .f32) : FVec Ideal S1x128x256x256 .f32 :=
  Host.exp (subf s (broadcastInDim S1x128x256x256 ![0, 1, 2, 3] bcast_S1x128x256x1_S1x128x256x256_0_1_2_3 (broadcastInDim S1x128x256x1 ![0, 1, 2] bcast_S1x128x256_S1x128x256x1_0_1_2 (Host.reduce FloatOps.maximumf s (constant S_ .f32 0xFF800000#32) reducesTo_S1x128x256x256_S1x128x256_d3 h_S_))))

/-- The normalised attention. -/
def refO (v : FVec Ideal S1x256x128x128 .f32) (p : FVec Ideal S1x128x256x256 .f32) : FVec Ideal S1x256x128x128 .f32 :=
  Host.divf (transpose S1x256x128x128 [0, 3, 1, 2] (Host.dotGeneral dot_S1x256x128x128_S1x128x256x256_S1x128x128x256_1_3_3_2_02_01 none v p) transposes_S1x128x128x256_S1x256x128x128_0_3_1_2)
    (broadcastInDim S1x256x128x128 ![0, 1, 2, 3] bcast_S1x256x128x1_S1x256x128x128_0_1_2_3 (transpose S1x256x128x1 [0, 2, 1, 3] (broadcastInDim S1x128x256x1 ![0, 1, 2] bcast_S1x128x256_S1x128x256x1_0_1_2 (Host.reduceAdd p (constant S_ .f32 0x00000000#32) reducesTo_S1x128x256x256_S1x128x256_d3 h_S_)) transposes_S1x128x256x1_S1x256x128x1_0_2_1_3))

/-- The result, from the attention and the output weights. -/
def refOut (o : FVec Ideal S1x256x128x128 .f32) (w : FVec Ideal S16384x1024 .f32) : FVec Ideal S256x1024 .f32 :=
  shapeCast _ (Host.dotGeneral dot_S1x256x16384_S16384x1024_S1x256x1024_2_0_01_1_n_n none (shapeCast _ o shapeCasts_S1x256x128x128_S1x256x16384) w) shapeCasts_S1x256x1024_S256x1024

/-- The reference's attention from its arguments. -/
def refAttn (x : FVec Ideal S256x1024 .f32) (wq : FVec Ideal S1024x16384 .f32) (wk wv : FVec Ideal S1024x4096 .f32) : FVec Ideal S1x256x128x128 .f32 :=
  refO (refKV x wv) (refP (refS (refQ x wq) (refKV x wk)))

theorem res_eq (m : (ℓ : Loc nD τ sig) → Buf (Elt Ideal) ℓ) (c : Dev nD) :
    Value.res_out0 (F := Ideal) m c = refOut (refAttn (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg4)) := rfl

/-! ## Entries -/

theorem refQ_apply (x : FVec Ideal S256x1024 .f32) (w : FVec Ideal S1024x16384 .f32) (i : Fin 256) (h e : Fin 128) :
    refQ x w (ix4 0 i h e) = proj (fun a t => x (ix2 a t)) (fun t n => w (ix2 t n)) i ⟨128 * h.val + e.val, by omega⟩ := by
  unfold refQ proj
  rw [shapeCast_apply _ _ _ (ix3 (0 : Fin 1) i (⟨128 * h.val + e.val, by omega⟩ : Fin 16384)) (by
    rw [Shape.rowMajor_val_three, Shape.rowMajor_val_four]
    show (0 * 256 + i.val) * 16384 + (128 * h.val + e.val) = ((0 * 256 + i.val) * 128 + h.val) * 128 + e.val
    omega)]
  pointwise

theorem refKV_apply (x : FVec Ideal S256x1024 .f32) (w : FVec Ideal S1024x4096 .f32) (i : Fin 256) (h e : Fin 128) :
    refKV x w (ix4 0 i h e) = proj (fun a t => x (ix2 a t)) (fun t n => w (ix2 t n)) i ⟨128 * (h.val / 4) + e.val, by omega⟩ := by
  unfold refKV refKV0 proj
  rw [shapeCast_apply _ _ _ (ix5 (0 : Fin 1) i (⟨h.val / 4, by omega⟩ : Fin 32) (⟨h.val % 4, by omega⟩ : Fin 4) e) (by
    rw [Shape.rowMajor_val_five, Shape.rowMajor_val_four]
    show (((0 * 256 + i.val) * 32 + h.val / 4) * 4 + h.val % 4) * 128 + e.val = ((0 * 256 + i.val) * 128 + h.val) * 128 + e.val
    omega)]
  rw [broadcastInDim_apply _ _ _ _ (ix4 (0 : Fin 1) i (⟨h.val / 4, by omega⟩ : Fin 32) e) (fun a => by
    match a with
    | ⟨0, _⟩ => rfl
    | ⟨1, _⟩ => rfl
    | ⟨2, _⟩ => rfl
    | ⟨3, _⟩ => rfl)]
  rw [shapeCast_apply _ _ _ (ix3 (0 : Fin 1) i (⟨128 * (h.val / 4) + e.val, by omega⟩ : Fin 4096)) (by
    rw [Shape.rowMajor_val_three, Shape.rowMajor_val_four]
    show (0 * 256 + i.val) * 4096 + (128 * (h.val / 4) + e.val) = ((0 * 256 + i.val) * 32 + h.val / 4) * 128 + e.val
    omega)]
  pointwise

theorem refS_apply (q k : FVec Ideal S1x256x128x128 .f32) (h : Fin 128) (i j : Fin 256) :
    refS q k (ix4 0 h i j) = score (fun a e => q (ix4 0 a h e)) (fun a e => k (ix4 0 a h e)) i j := by
  unfold score
  pointwise [refS]

theorem refP_apply (q k : FVec Ideal S1x256x128x128 .f32) (h : Fin 128) (i j : Fin 256) :
    refP (refS q k) (ix4 0 h i j) = weight (fun a e => q (ix4 0 a h e)) (fun a e => k (ix4 0 a h e)) i j := by
  unfold weight top
  simp only [← refS_apply]
  generalize refS q k = s
  pointwise [refP]

theorem refO_apply (v : FVec Ideal S1x256x128x128 .f32) (p : FVec Ideal S1x128x256x256 .f32) (i : Fin 256) (h d : Fin 128) :
    refO v p (ix4 0 i h d) = Ideal.div (∑ j : Fin 256, p (ix4 0 h i j) * v (ix4 0 j h d)) (∑ j : Fin 256, p (ix4 0 h i j)) := by
  simp only [mul_comm (p _)]
  pointwise [refO]

theorem refOut_apply (o : FVec Ideal S1x256x128x128 .f32) (w : FVec Ideal S16384x1024 .f32) (i : Fin 256) (n : Fin 1024) :
    refOut o w (ix2 i n) = ∑ l : Fin 16384, o (ix4 0 i ⟨l.val / 128, by omega⟩ ⟨l.val % 128, by omega⟩) * w (ix2 l n) := by
  unfold refOut
  rw [shapeCast_apply _ _ _ (ix3 (0 : Fin 1) i n) (by
    rw [Shape.rowMajor_val_three, Shape.rowMajor_val_two]
    show (0 * 256 + i.val) * 1024 + n.val = i.val * 1024 + n.val
    omega)]
  have hc : ∀ l : Fin 16384, shapeCast S1x256x16384 o shapeCasts_S1x256x128x128_S1x256x16384 (ix3 (0 : Fin 1) i l)
      = o (ix4 0 i ⟨l.val / 128, by omega⟩ ⟨l.val % 128, by omega⟩) := fun l =>
    shapeCast_apply _ _ _ _ (by
      rw [Shape.rowMajor_val_three, Shape.rowMajor_val_four]
      show ((0 * 256 + i.val) * 128 + l.val / 128) * 128 + l.val % 128 = (0 * 256 + i.val) * 16384 + l.val
      omega)
  simp only [← hc]
  generalize shapeCast S1x256x16384 o shapeCasts_S1x256x128x128_S1x256x16384 = s
  pointwise

/-- One entry of the reference's attention. -/
theorem refAttn_apply (x : FVec Ideal S256x1024 .f32) (wq : FVec Ideal S1024x16384 .f32) (wk wv : FVec Ideal S1024x4096 .f32) (i : Fin 256) (h d : Fin 128) :
    refAttn x wq wk wv (ix4 0 i h d)
      = headAt (fun a e => proj (fun a t => x (ix2 a t)) (fun t n => wq (ix2 t n)) a ⟨128 * h.val + e.val, by omega⟩)
          (fun a e => proj (fun a t => x (ix2 a t)) (fun t n => wk (ix2 t n)) a ⟨128 * (h.val / 4) + e.val, by omega⟩)
          (fun a e => proj (fun a t => x (ix2 a t)) (fun t n => wv (ix2 t n)) a ⟨128 * (h.val / 4) + e.val, by omega⟩) i d := by
  unfold refAttn headAt
  rw [refO_apply]
  simp only [refP_apply, refQ_apply, refKV_apply]

end Cert.ReferenceIdealProof
-- ==== Proof.Value.lean ====
/-
# `Value`: the kernel's result is the reference's

Entry by entry: the reference's sum over the 16384 lanes of attention falls into sixteen runs of 1024, one for each
device's eight heads, and each run is that device's own product.
-/
module

public import proofs.«01_k».proof.Proof.KernelIdealSum
public import proofs.«01_k».proof.Proof.ReferenceRead
public import Idealize.ShloMosaic.Lib.Layout

@[expose] public section

noncomputable section

namespace Cert.KernelIdealProof

open Cert.KernelIdeal Cert.KernelIdeal.Gen Cert.AttnMath

open Idealize.ShloMosaic
open Idealize.ShloMosaic.TcCoe
open scoped BigOperators

variable (m : (ℓ : Loc nD τ sig) → Buf (Elt Ideal) ℓ)

/-- The staged `x` is `x`. -/
theorem xstg_eq (c : Dev nD) : xstg m c = at_ m c main_arg0 := by
  exact Memref.read_access_unit_zero (Elt Ideal) main_arg0 (funext fun a => by fin_cases a <;> rfl) _ _

theorem colsOf_apply {α : Type} (f : S1024x4096.Idx → α) (c : ℕ) (t : Fin 1024) (n : Fin 256) :
    colsOf f c (ix2 t n) = f (ix2 t ⟨(256 * c + n.val) % 4096, Nat.mod_lt _ (by decide)⟩) := by
  rw [ix2_eq_valueIdx t (⟨(256 * c + n.val) % 4096, _⟩ : Fin 4096)]
  rfl

/-- Device `c`'s block of the query weights. -/
def colBlock (c : Dev nD) (w : FVec Ideal ⟨2, ![1024, 16384]⟩ .f32) : FVec Ideal S1024x1024 .f32 :=
  Layout.block ⟨2, ![1024, 1024]⟩ ⟨2, ![1024, 16384]⟩ 1 16 c w

/-- Device `c`'s block of the output weights. -/
def rowBlock (c : Dev nD) (w : FVec Ideal ⟨2, ![16384, 1024]⟩ .f32) : FVec Ideal S1024x1024 .f32 :=
  Layout.block ⟨2, ![1024, 1024]⟩ ⟨2, ![16384, 1024]⟩ 0 16 c w

theorem dev_lt (c : Dev nD) : c.val < 16 := c.isLt

theorem block_cols (w : FVec Ideal ⟨2, ![1024, 16384]⟩ .f32) (c : Dev nD) (t n : Fin 1024) :
    colBlock c w (ix2 t n)
      = w (ix2 t ⟨c.val * 1024 + n.val, by have := dev_lt c; omega⟩) := by
  show w _ = w _
  congr 1
  funext a
  match a with
  | ⟨0, _⟩ => rfl
  | ⟨1, _⟩ => rfl

theorem block_rows (w : FVec Ideal ⟨2, ![16384, 1024]⟩ .f32) (c : Dev nD) (l n : Fin 1024) :
    rowBlock c w (ix2 l n)
      = w (ix2 ⟨c.val * 1024 + l.val, by have := dev_lt c; omega⟩ n) := by
  show w _ = w _
  congr 1
  funext a
  match a with
  | ⟨0, _⟩ => rfl
  | ⟨1, _⟩ => rfl

/-- Device `c`'s attention at lane `l` is the reference's at lane `1024 c + l`. -/
theorem attn_apply (x : FVec Ideal S256x1024 .f32) (wq : FVec Ideal ⟨2, ![1024, 16384]⟩ .f32) (wk wv : FVec Ideal S1024x4096 .f32) (c : Dev nD)
    (hx : at_ m c main_arg0 = x) (hq : at_ m c main_arg1 = colBlock c wq)
    (hk : at_ m c main_arg2 = wk) (hv : at_ m c main_arg3 = wv) (i : Fin 256) (l : Fin 1024) :
    attn m c (ix2 i l) = Cert.ReferenceIdealProof.refAttn x wq wk wv
      (ix4 0 i ⟨(c.val * 1024 + l.val) / 128, by have := dev_lt c; omega⟩ ⟨(c.val * 1024 + l.val) % 128, by omega⟩) := by
  have hc : c.val < 16 := c.isLt
  unfold attn qOf kOf vOf wkOf wvOf
  rw [attnOf_apply, Cert.ReferenceIdealProof.refAttn_apply, xstg_eq, hx, hq, hk, hv]
  simp only [pay2_apply, pay3_apply, pay4_apply]
  have e1 : ∀ a (e : Fin 128), proj (fun a t => x (ix2 a t)) (fun t b => colBlock c wq (ix2 t b)) a (⟨128 * (l.val / 128) + e.val, by omega⟩ : Fin 1024)
      = proj (fun a t => x (ix2 a t)) (fun t b => wq (ix2 t b)) a (⟨128 * ((c.val * 1024 + l.val) / 128) + e.val, by omega⟩ : Fin 16384) := fun a e => by
    unfold proj
    refine Finset.sum_congr rfl fun t _ => ?_
    refine congrArg (HMul.hMul _) ((block_cols wq c t _).trans ?_)
    refine congrArg (fun b => wq (ix2 t b)) ?_
    exact Fin.ext (by show c.val * 1024 + (128 * (l.val / 128) + e.val) = 128 * ((c.val * 1024 + l.val) / 128) + e.val; omega)
  have e2 : ∀ (w : FVec Ideal S1024x4096 .f32) a (e : Fin 128), proj (fun a t => x (ix2 a t)) (fun t b => colsOf w c.val (ix2 t b)) a (⟨128 * (l.val / 512) + e.val, by omega⟩ : Fin 256)
      = proj (fun a t => x (ix2 a t)) (fun t b => w (ix2 t b)) a (⟨128 * ((c.val * 1024 + l.val) / 128 / 4) + e.val, by omega⟩ : Fin 4096) := fun w a e => by
    unfold proj
    refine Finset.sum_congr rfl fun t _ => ?_
    refine congrArg (HMul.hMul _) ((colsOf_apply w c.val t _).trans ?_)
    refine congrArg (fun b => w (ix2 t b)) ?_
    exact Fin.ext (by show (256 * c.val + (128 * (l.val / 512) + e.val)) % 4096 = 128 * ((c.val * 1024 + l.val) / 128 / 4) + e.val; omega)
  have e3 : (⟨l.val % 128, by omega⟩ : Fin 128) = ⟨(c.val * 1024 + l.val) % 128, by omega⟩ := Fin.ext (by show l.val % 128 = (c.val * 1024 + l.val) % 128; omega)
  rw [e3]
  refine congrFun (congrFun ?_ _) _
  refine (congrArg₂ (fun a b => headAt a b _) (funext fun a => funext fun e => e1 a e) (funext fun a => funext fun e => e2 wk a e)).trans ?_
  exact congrArg (fun b => headAt _ _ b) (funext fun a => funext fun e => e2 wv a e)

/-- The kernel's result, on every device, is the reference's. -/
theorem result_eq (m' : (ℓ : Loc Cert.ReferenceIdeal.nD Cert.ReferenceIdeal.τ Cert.ReferenceIdeal.sig) → Buf (Elt Ideal) ℓ)
    (hm : ∀ c : Dev nD,
      m ((c.tc : Thread nD τ).loc main_arg0) = m' (((0 : Dev Cert.ReferenceIdeal.nD).tc : Thread Cert.ReferenceIdeal.nD Cert.ReferenceIdeal.τ).loc Cert.ReferenceIdeal.main_arg0)
      ∧ m ((c.tc : Thread nD τ).loc main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread nD τ).loc main_arg2) = m' (((0 : Dev Cert.ReferenceIdeal.nD).tc : Thread Cert.ReferenceIdeal.nD Cert.ReferenceIdeal.τ).loc Cert.ReferenceIdeal.main_arg2)
      ∧ m ((c.tc : Thread nD τ).loc main_arg3) = m' (((0 : Dev Cert.ReferenceIdeal.nD).tc : Thread Cert.ReferenceIdeal.nD Cert.ReferenceIdeal.τ).loc Cert.ReferenceIdeal.main_arg3)
      ∧ m ((c.tc : Thread nD τ).loc main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) :
    outAt m = Cert.ReferenceIdeal.Value.res_out0 (F := Ideal) m' 0 := by
  rw [Cert.ReferenceIdealProof.res_eq]
  funext j
  obtain ⟨i, n, rfl⟩ : ∃ (i : Fin 256) (n : Fin 1024), j = ix2 i n := ⟨j 0, j 1, funext fun a => by
    match a with
    | ⟨0, _⟩ => rfl
    | ⟨1, _⟩ => rfl⟩
  rw [outAt_apply]
  refine Eq.trans ?_ (Cert.ReferenceIdealProof.refOut_apply _ _ i n).symm
  refine Eq.trans ?_ (Fin.sum_univ_tiles 16 1024 (N := 16384) rfl _).symm
  refine Finset.sum_congr rfl fun d _ => ?_
  unfold contrib
  refine Finset.sum_congr rfl fun l _ => ?_
  obtain ⟨h0, h1, h2, h3, h4⟩ := hm d
  rw [attn_apply m _ _ _ _ d h0 h1 h2 h3 i l]
  refine congrArg (HMul.hMul _) ?_
  refine (congrFun (h4 : at_ m d main_arg4 = rowBlock d _) (ix2 l n)).trans ?_
  exact block_rows _ d l n

end Cert.KernelIdealProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- `Kernel` on the sixteen devices runs, keeps its arguments and leaves every semaphore at zero. -/
theorem frame_kernel : Cert.quiescent_Kernel := fun m ρ _ =>
  (θ_run Cert.Kernel.defs _ _).mono (fun _ h => ⟨fun c => (h.1 c).2, h.2⟩) (Cert.KernelProof.run_all (F := Bits) m ρ)

/-- `KernelIdeal` on the sixteen devices runs, keeps its arguments and leaves every semaphore at zero. -/
theorem frame_ideal : Cert.quiescent_KernelIdeal := fun m ρ _ =>
  (θ_run Cert.KernelIdeal.defs _ _).mono (fun _ h => ⟨fun c => (h.1 c).2, h.2⟩) (Cert.KernelIdealProof.run_all (F := Ideal) m ρ)

/-- The reference runs on its one device, keeps its arguments, and declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals each device's result is the reference's whole result. -/
theorem value : Cert.algebraic_KernelIdeal_ReferenceIdeal := fun m g m' g' _ hm =>
  ⟨Cert.ReferenceIdeal.Value.res_out0 (F := Ideal) m' 0,
    (θ_run Cert.KernelIdeal.defs _ _).mono
      (fun _ h c => ⟨(h.1 c).1.trans (Cert.KernelIdealProof.result_eq m m' hm), (h.1 c).2⟩)
      (Cert.KernelIdealProof.run_all (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_ref, trivial, value⟩

end Cert.Proof

end
